-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_drawn_range [hPre_drawn_range : Cert.Pre_drawn_range.Facts] (m : (ℓ : Loc Cert.KernelIdeal.nD Cert.KernelIdeal.τ Cert.KernelIdeal.sig) → Buf (Elt Ideal) ℓ) : Prop :=
  ∀ c : Dev Cert.KernelIdeal.nD,
    (Cert.Pre_drawn_range.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17)) (m ((c.tc : Thread Cert.KernelIdeal.nD Cert.KernelIdeal.τ).loc Cert.KernelIdeal.main_arg18)) (m ((c.tc : Thread Cert.KernelIdeal.nD Cert.KernelIdeal.τ).loc Cert.KernelIdeal.main_arg19)) (m ((c.tc : Thread Cert.KernelIdeal.nD Cert.KernelIdeal.τ).loc Cert.KernelIdeal.main_arg20)) (m ((c.tc : Thread Cert.KernelIdeal.nD Cert.KernelIdeal.τ).loc Cert.KernelIdeal.main_arg21)) (m ((c.tc : Thread Cert.KernelIdeal.nD Cert.KernelIdeal.τ).loc Cert.KernelIdeal.main_arg22)) (m ((c.tc : Thread Cert.KernelIdeal.nD Cert.KernelIdeal.τ).loc Cert.KernelIdeal.main_arg23))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_drawn_range [hPre_drawn_range : Cert.Pre_drawn_range.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_drawn_range.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16)) (m ((c.tc : Thread Cert.ReferenceIdeal.nD Cert.ReferenceIdeal.τ).loc Cert.ReferenceIdeal.main_arg17)) (m ((c.tc : Thread Cert.ReferenceIdeal.nD Cert.ReferenceIdeal.τ).loc Cert.ReferenceIdeal.main_arg18)) (m ((c.tc : Thread Cert.ReferenceIdeal.nD Cert.ReferenceIdeal.τ).loc Cert.ReferenceIdeal.main_arg19)) (m ((c.tc : Thread Cert.ReferenceIdeal.nD Cert.ReferenceIdeal.τ).loc Cert.ReferenceIdeal.main_arg20)) (m ((c.tc : Thread Cert.ReferenceIdeal.nD Cert.ReferenceIdeal.τ).loc Cert.ReferenceIdeal.main_arg21)) (m ((c.tc : Thread Cert.ReferenceIdeal.nD Cert.ReferenceIdeal.τ).loc Cert.ReferenceIdeal.main_arg22)) (m ((c.tc : Thread Cert.ReferenceIdeal.nD Cert.ReferenceIdeal.τ).loc Cert.ReferenceIdeal.main_arg23))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14)
      ∧ r.2.mem ((c.tc : Thread Cert.Kernel.nD Cert.Kernel.τ).loc Cert.Kernel.main_arg15) = m ((c.tc : Thread Cert.Kernel.nD Cert.Kernel.τ).loc Cert.Kernel.main_arg15)
      ∧ r.2.mem ((c.tc : Thread Cert.Kernel.nD Cert.Kernel.τ).loc Cert.Kernel.main_arg16) = m ((c.tc : Thread Cert.Kernel.nD Cert.Kernel.τ).loc Cert.Kernel.main_arg16)
      ∧ r.2.mem ((c.tc : Thread Cert.Kernel.nD Cert.Kernel.τ).loc Cert.Kernel.main_arg17) = m ((c.tc : Thread Cert.Kernel.nD Cert.Kernel.τ).loc Cert.Kernel.main_arg17)
      ∧ r.2.mem ((c.tc : Thread Cert.Kernel.nD Cert.Kernel.τ).loc Cert.Kernel.main_arg18) = m ((c.tc : Thread Cert.Kernel.nD Cert.Kernel.τ).loc Cert.Kernel.main_arg18)
      ∧ r.2.mem ((c.tc : Thread Cert.Kernel.nD Cert.Kernel.τ).loc Cert.Kernel.main_arg19) = m ((c.tc : Thread Cert.Kernel.nD Cert.Kernel.τ).loc Cert.Kernel.main_arg19)
      ∧ r.2.mem ((c.tc : Thread Cert.Kernel.nD Cert.Kernel.τ).loc Cert.Kernel.main_arg20) = m ((c.tc : Thread Cert.Kernel.nD Cert.Kernel.τ).loc Cert.Kernel.main_arg20)
      ∧ r.2.mem ((c.tc : Thread Cert.Kernel.nD Cert.Kernel.τ).loc Cert.Kernel.main_arg21) = m ((c.tc : Thread Cert.Kernel.nD Cert.Kernel.τ).loc Cert.Kernel.main_arg21)
      ∧ r.2.mem ((c.tc : Thread Cert.Kernel.nD Cert.Kernel.τ).loc Cert.Kernel.main_arg22) = m ((c.tc : Thread Cert.Kernel.nD Cert.Kernel.τ).loc Cert.Kernel.main_arg22)
      ∧ r.2.mem ((c.tc : Thread Cert.Kernel.nD Cert.Kernel.τ).loc Cert.Kernel.main_arg23) = m ((c.tc : Thread Cert.Kernel.nD Cert.Kernel.τ).loc Cert.Kernel.main_arg23))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
      ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
      ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
      ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18)
      ∧ r.2.mem ((c.tc : Thread Cert.KernelIdeal.nD Cert.KernelIdeal.τ).loc Cert.KernelIdeal.main_arg19) = m ((c.tc : Thread Cert.KernelIdeal.nD Cert.KernelIdeal.τ).loc Cert.KernelIdeal.main_arg19)
      ∧ r.2.mem ((c.tc : Thread Cert.KernelIdeal.nD Cert.KernelIdeal.τ).loc Cert.KernelIdeal.main_arg20) = m ((c.tc : Thread Cert.KernelIdeal.nD Cert.KernelIdeal.τ).loc Cert.KernelIdeal.main_arg20)
      ∧ r.2.mem ((c.tc : Thread Cert.KernelIdeal.nD Cert.KernelIdeal.τ).loc Cert.KernelIdeal.main_arg21) = m ((c.tc : Thread Cert.KernelIdeal.nD Cert.KernelIdeal.τ).loc Cert.KernelIdeal.main_arg21)
      ∧ r.2.mem ((c.tc : Thread Cert.KernelIdeal.nD Cert.KernelIdeal.τ).loc Cert.KernelIdeal.main_arg22) = m ((c.tc : Thread Cert.KernelIdeal.nD Cert.KernelIdeal.τ).loc Cert.KernelIdeal.main_arg22)
      ∧ r.2.mem ((c.tc : Thread Cert.KernelIdeal.nD Cert.KernelIdeal.τ).loc Cert.KernelIdeal.main_arg23) = m ((c.tc : Thread Cert.KernelIdeal.nD Cert.KernelIdeal.τ).loc Cert.KernelIdeal.main_arg23))
      ∧ r.2.sem = fun _ => 0)

def quiescent_KernelIdeal_pre_drawn_range [hKernelIdeal : Cert.KernelIdeal.Facts] [hPre_drawn_range : Cert.Pre_drawn_range.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_drawn_range m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
      ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
      ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
      ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18)
      ∧ r.2.mem ((c.tc : Thread Cert.KernelIdeal.nD Cert.KernelIdeal.τ).loc Cert.KernelIdeal.main_arg19) = m ((c.tc : Thread Cert.KernelIdeal.nD Cert.KernelIdeal.τ).loc Cert.KernelIdeal.main_arg19)
      ∧ r.2.mem ((c.tc : Thread Cert.KernelIdeal.nD Cert.KernelIdeal.τ).loc Cert.KernelIdeal.main_arg20) = m ((c.tc : Thread Cert.KernelIdeal.nD Cert.KernelIdeal.τ).loc Cert.KernelIdeal.main_arg20)
      ∧ r.2.mem ((c.tc : Thread Cert.KernelIdeal.nD Cert.KernelIdeal.τ).loc Cert.KernelIdeal.main_arg21) = m ((c.tc : Thread Cert.KernelIdeal.nD Cert.KernelIdeal.τ).loc Cert.KernelIdeal.main_arg21)
      ∧ r.2.mem ((c.tc : Thread Cert.KernelIdeal.nD Cert.KernelIdeal.τ).loc Cert.KernelIdeal.main_arg22) = m ((c.tc : Thread Cert.KernelIdeal.nD Cert.KernelIdeal.τ).loc Cert.KernelIdeal.main_arg22)
      ∧ r.2.mem ((c.tc : Thread Cert.KernelIdeal.nD Cert.KernelIdeal.τ).loc Cert.KernelIdeal.main_arg23) = m ((c.tc : Thread Cert.KernelIdeal.nD Cert.KernelIdeal.τ).loc Cert.KernelIdeal.main_arg23))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15)
      ∧ r.2.mem ((c.tc : Thread Cert.ReferenceIdeal.nD Cert.ReferenceIdeal.τ).loc Cert.ReferenceIdeal.main_arg16) = m ((c.tc : Thread Cert.ReferenceIdeal.nD Cert.ReferenceIdeal.τ).loc Cert.ReferenceIdeal.main_arg16)
      ∧ r.2.mem ((c.tc : Thread Cert.ReferenceIdeal.nD Cert.ReferenceIdeal.τ).loc Cert.ReferenceIdeal.main_arg17) = m ((c.tc : Thread Cert.ReferenceIdeal.nD Cert.ReferenceIdeal.τ).loc Cert.ReferenceIdeal.main_arg17)
      ∧ r.2.mem ((c.tc : Thread Cert.ReferenceIdeal.nD Cert.ReferenceIdeal.τ).loc Cert.ReferenceIdeal.main_arg18) = m ((c.tc : Thread Cert.ReferenceIdeal.nD Cert.ReferenceIdeal.τ).loc Cert.ReferenceIdeal.main_arg18)
      ∧ r.2.mem ((c.tc : Thread Cert.ReferenceIdeal.nD Cert.ReferenceIdeal.τ).loc Cert.ReferenceIdeal.main_arg19) = m ((c.tc : Thread Cert.ReferenceIdeal.nD Cert.ReferenceIdeal.τ).loc Cert.ReferenceIdeal.main_arg19)
      ∧ r.2.mem ((c.tc : Thread Cert.ReferenceIdeal.nD Cert.ReferenceIdeal.τ).loc Cert.ReferenceIdeal.main_arg20) = m ((c.tc : Thread Cert.ReferenceIdeal.nD Cert.ReferenceIdeal.τ).loc Cert.ReferenceIdeal.main_arg20)
      ∧ r.2.mem ((c.tc : Thread Cert.ReferenceIdeal.nD Cert.ReferenceIdeal.τ).loc Cert.ReferenceIdeal.main_arg21) = m ((c.tc : Thread Cert.ReferenceIdeal.nD Cert.ReferenceIdeal.τ).loc Cert.ReferenceIdeal.main_arg21)
      ∧ r.2.mem ((c.tc : Thread Cert.ReferenceIdeal.nD Cert.ReferenceIdeal.τ).loc Cert.ReferenceIdeal.main_arg22) = m ((c.tc : Thread Cert.ReferenceIdeal.nD Cert.ReferenceIdeal.τ).loc Cert.ReferenceIdeal.main_arg22)
      ∧ r.2.mem ((c.tc : Thread Cert.ReferenceIdeal.nD Cert.ReferenceIdeal.τ).loc Cert.ReferenceIdeal.main_arg23) = m ((c.tc : Thread Cert.ReferenceIdeal.nD Cert.ReferenceIdeal.τ).loc Cert.ReferenceIdeal.main_arg23))
      ∧ r.2.sem = fun _ => 0)

def quiescent_ReferenceIdeal_pre_drawn_range [hReferenceIdeal : Cert.ReferenceIdeal.Facts] [hPre_drawn_range : Cert.Pre_drawn_range.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_drawn_range m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15)
      ∧ r.2.mem ((c.tc : Thread Cert.ReferenceIdeal.nD Cert.ReferenceIdeal.τ).loc Cert.ReferenceIdeal.main_arg16) = m ((c.tc : Thread Cert.ReferenceIdeal.nD Cert.ReferenceIdeal.τ).loc Cert.ReferenceIdeal.main_arg16)
      ∧ r.2.mem ((c.tc : Thread Cert.ReferenceIdeal.nD Cert.ReferenceIdeal.τ).loc Cert.ReferenceIdeal.main_arg17) = m ((c.tc : Thread Cert.ReferenceIdeal.nD Cert.ReferenceIdeal.τ).loc Cert.ReferenceIdeal.main_arg17)
      ∧ r.2.mem ((c.tc : Thread Cert.ReferenceIdeal.nD Cert.ReferenceIdeal.τ).loc Cert.ReferenceIdeal.main_arg18) = m ((c.tc : Thread Cert.ReferenceIdeal.nD Cert.ReferenceIdeal.τ).loc Cert.ReferenceIdeal.main_arg18)
      ∧ r.2.mem ((c.tc : Thread Cert.ReferenceIdeal.nD Cert.ReferenceIdeal.τ).loc Cert.ReferenceIdeal.main_arg19) = m ((c.tc : Thread Cert.ReferenceIdeal.nD Cert.ReferenceIdeal.τ).loc Cert.ReferenceIdeal.main_arg19)
      ∧ r.2.mem ((c.tc : Thread Cert.ReferenceIdeal.nD Cert.ReferenceIdeal.τ).loc Cert.ReferenceIdeal.main_arg20) = m ((c.tc : Thread Cert.ReferenceIdeal.nD Cert.ReferenceIdeal.τ).loc Cert.ReferenceIdeal.main_arg20)
      ∧ r.2.mem ((c.tc : Thread Cert.ReferenceIdeal.nD Cert.ReferenceIdeal.τ).loc Cert.ReferenceIdeal.main_arg21) = m ((c.tc : Thread Cert.ReferenceIdeal.nD Cert.ReferenceIdeal.τ).loc Cert.ReferenceIdeal.main_arg21)
      ∧ r.2.mem ((c.tc : Thread Cert.ReferenceIdeal.nD Cert.ReferenceIdeal.τ).loc Cert.ReferenceIdeal.main_arg22) = m ((c.tc : Thread Cert.ReferenceIdeal.nD Cert.ReferenceIdeal.τ).loc Cert.ReferenceIdeal.main_arg22)
      ∧ r.2.mem ((c.tc : Thread Cert.ReferenceIdeal.nD Cert.ReferenceIdeal.τ).loc Cert.ReferenceIdeal.main_arg23) = m ((c.tc : Thread Cert.ReferenceIdeal.nD Cert.ReferenceIdeal.τ).loc Cert.ReferenceIdeal.main_arg23))
      ∧ r.2.sem = fun _ => 0)

def preserves_Kernel_KernelIdeal : Prop :=
  True

def algebraic_KernelIdeal_ReferenceIdeal_pre_drawn_range [hKernelIdeal : Cert.KernelIdeal.Facts] [hReferenceIdeal : Cert.ReferenceIdeal.Facts] [hPre_drawn_range : Cert.Pre_drawn_range.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_drawn_range m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)
      ∧ m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15)
      ∧ m' ((c.tc : Thread Cert.ReferenceIdeal.nD Cert.ReferenceIdeal.τ).loc Cert.ReferenceIdeal.main_arg16) = m ((c.tc : Thread Cert.KernelIdeal.nD Cert.KernelIdeal.τ).loc Cert.KernelIdeal.main_arg16)
      ∧ m' ((c.tc : Thread Cert.ReferenceIdeal.nD Cert.ReferenceIdeal.τ).loc Cert.ReferenceIdeal.main_arg17) = m ((c.tc : Thread Cert.KernelIdeal.nD Cert.KernelIdeal.τ).loc Cert.KernelIdeal.main_arg17)
      ∧ m' ((c.tc : Thread Cert.ReferenceIdeal.nD Cert.ReferenceIdeal.τ).loc Cert.ReferenceIdeal.main_arg18) = m ((c.tc : Thread Cert.KernelIdeal.nD Cert.KernelIdeal.τ).loc Cert.KernelIdeal.main_arg18)
      ∧ m' ((c.tc : Thread Cert.ReferenceIdeal.nD Cert.ReferenceIdeal.τ).loc Cert.ReferenceIdeal.main_arg19) = m ((c.tc : Thread Cert.KernelIdeal.nD Cert.KernelIdeal.τ).loc Cert.KernelIdeal.main_arg19)
      ∧ m' ((c.tc : Thread Cert.ReferenceIdeal.nD Cert.ReferenceIdeal.τ).loc Cert.ReferenceIdeal.main_arg20) = m ((c.tc : Thread Cert.KernelIdeal.nD Cert.KernelIdeal.τ).loc Cert.KernelIdeal.main_arg20)
      ∧ m' ((c.tc : Thread Cert.ReferenceIdeal.nD Cert.ReferenceIdeal.τ).loc Cert.ReferenceIdeal.main_arg21) = m ((c.tc : Thread Cert.KernelIdeal.nD Cert.KernelIdeal.τ).loc Cert.KernelIdeal.main_arg21)
      ∧ m' ((c.tc : Thread Cert.ReferenceIdeal.nD Cert.ReferenceIdeal.τ).loc Cert.ReferenceIdeal.main_arg22) = m ((c.tc : Thread Cert.KernelIdeal.nD Cert.KernelIdeal.τ).loc Cert.KernelIdeal.main_arg22)
      ∧ m' ((c.tc : Thread Cert.ReferenceIdeal.nD Cert.ReferenceIdeal.τ).loc Cert.ReferenceIdeal.main_arg23) = m ((c.tc : Thread Cert.KernelIdeal.nD Cert.KernelIdeal.τ).loc Cert.KernelIdeal.main_arg23)) →
    ∃ (v0 : (c : Dev Cert.KernelIdeal.nD) → Buf (Elt Ideal) ((c.tc : Thread Cert.KernelIdeal.nD Cert.KernelIdeal.τ).loc Cert.KernelIdeal.main_v69)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v69) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
          ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
          ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
          ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
          ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18)
          ∧ r.2.mem ((c.tc : Thread Cert.KernelIdeal.nD Cert.KernelIdeal.τ).loc Cert.KernelIdeal.main_arg19) = m ((c.tc : Thread Cert.KernelIdeal.nD Cert.KernelIdeal.τ).loc Cert.KernelIdeal.main_arg19)
          ∧ r.2.mem ((c.tc : Thread Cert.KernelIdeal.nD Cert.KernelIdeal.τ).loc Cert.KernelIdeal.main_arg20) = m ((c.tc : Thread Cert.KernelIdeal.nD Cert.KernelIdeal.τ).loc Cert.KernelIdeal.main_arg20)
          ∧ r.2.mem ((c.tc : Thread Cert.KernelIdeal.nD Cert.KernelIdeal.τ).loc Cert.KernelIdeal.main_arg21) = m ((c.tc : Thread Cert.KernelIdeal.nD Cert.KernelIdeal.τ).loc Cert.KernelIdeal.main_arg21)
          ∧ r.2.mem ((c.tc : Thread Cert.KernelIdeal.nD Cert.KernelIdeal.τ).loc Cert.KernelIdeal.main_arg22) = m ((c.tc : Thread Cert.KernelIdeal.nD Cert.KernelIdeal.τ).loc Cert.KernelIdeal.main_arg22)
          ∧ r.2.mem ((c.tc : Thread Cert.KernelIdeal.nD Cert.KernelIdeal.τ).loc Cert.KernelIdeal.main_arg23) = m ((c.tc : Thread Cert.KernelIdeal.nD Cert.KernelIdeal.τ).loc Cert.KernelIdeal.main_arg23))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v162) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14)
          ∧ r.2.mem ((c.tc : Thread Cert.ReferenceIdeal.nD Cert.ReferenceIdeal.τ).loc Cert.ReferenceIdeal.main_arg15) = m' ((c.tc : Thread Cert.ReferenceIdeal.nD Cert.ReferenceIdeal.τ).loc Cert.ReferenceIdeal.main_arg15)
          ∧ r.2.mem ((c.tc : Thread Cert.ReferenceIdeal.nD Cert.ReferenceIdeal.τ).loc Cert.ReferenceIdeal.main_arg16) = m' ((c.tc : Thread Cert.ReferenceIdeal.nD Cert.ReferenceIdeal.τ).loc Cert.ReferenceIdeal.main_arg16)
          ∧ r.2.mem ((c.tc : Thread Cert.ReferenceIdeal.nD Cert.ReferenceIdeal.τ).loc Cert.ReferenceIdeal.main_arg17) = m' ((c.tc : Thread Cert.ReferenceIdeal.nD Cert.ReferenceIdeal.τ).loc Cert.ReferenceIdeal.main_arg17)
          ∧ r.2.mem ((c.tc : Thread Cert.ReferenceIdeal.nD Cert.ReferenceIdeal.τ).loc Cert.ReferenceIdeal.main_arg18) = m' ((c.tc : Thread Cert.ReferenceIdeal.nD Cert.ReferenceIdeal.τ).loc Cert.ReferenceIdeal.main_arg18)
          ∧ r.2.mem ((c.tc : Thread Cert.ReferenceIdeal.nD Cert.ReferenceIdeal.τ).loc Cert.ReferenceIdeal.main_arg19) = m' ((c.tc : Thread Cert.ReferenceIdeal.nD Cert.ReferenceIdeal.τ).loc Cert.ReferenceIdeal.main_arg19)
          ∧ r.2.mem ((c.tc : Thread Cert.ReferenceIdeal.nD Cert.ReferenceIdeal.τ).loc Cert.ReferenceIdeal.main_arg20) = m' ((c.tc : Thread Cert.ReferenceIdeal.nD Cert.ReferenceIdeal.τ).loc Cert.ReferenceIdeal.main_arg20)
          ∧ r.2.mem ((c.tc : Thread Cert.ReferenceIdeal.nD Cert.ReferenceIdeal.τ).loc Cert.ReferenceIdeal.main_arg21) = m' ((c.tc : Thread Cert.ReferenceIdeal.nD Cert.ReferenceIdeal.τ).loc Cert.ReferenceIdeal.main_arg21)
          ∧ r.2.mem ((c.tc : Thread Cert.ReferenceIdeal.nD Cert.ReferenceIdeal.τ).loc Cert.ReferenceIdeal.main_arg22) = m' ((c.tc : Thread Cert.ReferenceIdeal.nD Cert.ReferenceIdeal.τ).loc Cert.ReferenceIdeal.main_arg22)
          ∧ r.2.mem ((c.tc : Thread Cert.ReferenceIdeal.nD Cert.ReferenceIdeal.τ).loc Cert.ReferenceIdeal.main_arg23) = m' ((c.tc : Thread Cert.ReferenceIdeal.nD Cert.ReferenceIdeal.τ).loc Cert.ReferenceIdeal.main_arg23))

def Claim : Prop :=
  ∃ (hKernel : Cert.Kernel.Facts) (hKernelIdeal : Cert.KernelIdeal.Facts) (hReferenceIdeal : Cert.ReferenceIdeal.Facts) (hPre_drawn_range : Cert.Pre_drawn_range.Facts),
    quiescent_Kernel (hKernel := hKernel)
    ∧ quiescent_KernelIdeal (hKernelIdeal := hKernelIdeal)
    ∧ quiescent_KernelIdeal_pre_drawn_range (hKernelIdeal := hKernelIdeal) (hPre_drawn_range := hPre_drawn_range)
    ∧ quiescent_ReferenceIdeal (hReferenceIdeal := hReferenceIdeal)
    ∧ quiescent_ReferenceIdeal_pre_drawn_range (hReferenceIdeal := hReferenceIdeal) (hPre_drawn_range := hPre_drawn_range)
    ∧ preserves_Kernel_KernelIdeal
    ∧ algebraic_KernelIdeal_ReferenceIdeal_pre_drawn_range (hKernelIdeal := hKernelIdeal) (hReferenceIdeal := hReferenceIdeal) (hPre_drawn_range := hPre_drawn_range)
-- ==== Pre_drawn_range.lean ====
abbrev S1024x200x20 : Shape := ⟨3, ![1024, 200, 20]⟩
abbrev S13526x32 : Shape := ⟨2, ![13526, 32]⟩
abbrev S54104x5 : Shape := ⟨2, ![54104, 5]⟩
abbrev S9x4 : Shape := ⟨2, ![9, 4]⟩
abbrev S190x16 : Shape := ⟨2, ![190, 16]⟩
abbrev S301x16 : Shape := ⟨2, ![301, 16]⟩
abbrev S6x16 : Shape := ⟨2, ![6, 16]⟩
abbrev S8 : Shape := ⟨1, ![8]⟩
abbrev S2048x129 : Shape := ⟨2, ![2048, 129]⟩
abbrev S2048x512 : Shape := ⟨2, ![2048, 512]⟩
abbrev S2048 : Shape := ⟨1, ![2048]⟩
abbrev S512 : Shape := ⟨1, ![512]⟩
abbrev S256x512 : Shape := ⟨2, ![256, 512]⟩
abbrev S256 : Shape := ⟨1, ![256]⟩
abbrev S1x256 : Shape := ⟨2, ![1, 256]⟩
abbrev S1 : Shape := ⟨1, ![1]⟩
abbrev S_ : Shape := ⟨0, ![]⟩

class Facts : Prop where
  bcast_S_S1024x200x20 : S_.BroadcastsInDim S1024x200x20 (![] : Fin 0 → Fin S1024x200x20.rank)
  reducesTo_S1024x200x20_S_d0_1_2 : S1024x200x20.ReducesTo [0, 1, 2] S_
  h_S_ : 0 < S_.numel
  bcast_S_S190x16 : S_.BroadcastsInDim S190x16 (![] : Fin 0 → Fin S190x16.rank)
  reducesTo_S190x16_S_d0_1 : S190x16.ReducesTo [0, 1] S_
  bcast_S_S6x16 : S_.BroadcastsInDim S6x16 (![] : Fin 0 → Fin S6x16.rank)
  reducesTo_S6x16_S_d0_1 : S6x16.ReducesTo [0, 1] S_
  bcast_S_S8 : S_.BroadcastsInDim S8 (![] : Fin 0 → Fin S8.rank)
  reducesTo_S8_S_d0 : S8.ReducesTo [0] S_
  bcast_S_S2048x129 : S_.BroadcastsInDim S2048x129 (![] : Fin 0 → Fin S2048x129.rank)
  reducesTo_S2048x129_S_d0_1 : S2048x129.ReducesTo [0, 1] S_

variable [Facts]

def fn_part1 {F : FTy → Type} [FloatOps F] (main_arg10 : FVec F S8 .f32) (main_arg12 : FVec F S2048x129 .f32) (main_v15 : IVec S_ 1) (main_v16 : FVec F S8 .f32) : IVec S_ 1 :=
  let main_cst_5 : FVec F S_ .f32 := constant S_ .f32 0x7F800000#32
  let main_v17 : FVec F S8 .f32 := broadcastInDim S8 ![] bcast_S_S8 main_cst_5
  let main_v18 : IVec S8 1 := cmpf .olt main_v16 main_v17
  let main_c_6 : IVec S_ 1 := constantI S_ 1 1#1
  let main_v19 : IVec S_ 1 := (fun x v => Host.reduce IntOp.andi x v reducesTo_S8_S_d0 h_S_) main_v18 main_c_6
  let main_v20 : IVec S_ 1 := andi main_v15 main_v19
  let main_v21 : FVec F S8 .f32 := Host.absf main_arg10
  let main_cst_7 : FVec F S_ .f32 := constant S_ .f32 0x7F800000#32
  let main_v22 : FVec F S8 .f32 := broadcastInDim S8 ![] bcast_S_S8 main_cst_7
  let main_v23 : IVec S8 1 := cmpf .olt main_v21 main_v22
  let main_c_8 : IVec S_ 1 := constantI S_ 1 1#1
  let main_v24 : IVec S_ 1 := (fun x v => Host.reduce IntOp.andi x v reducesTo_S8_S_d0 h_S_) main_v23 main_c_8
  let main_v25 : IVec S_ 1 := andi main_v20 main_v24
  let main_v26 : FVec F S2048x129 .f32 := Host.absf main_arg12
  let main_cst_9 : FVec F S_ .f32 := constant S_ .f32 0x7F800000#32
  let main_v27 : FVec F S2048x129 .f32 := broadcastInDim S2048x129 ![] bcast_S_S2048x129 main_cst_9
  let main_v28 : IVec S2048x129 1 := cmpf .olt main_v26 main_v27
  let main_c_10 : IVec S_ 1 := constantI S_ 1 1#1
  let main_v29 : IVec S_ 1 := (fun x v => Host.reduce IntOp.andi x v reducesTo_S2048x129_S_d0_1 h_S_) main_v28 main_c_10
  let main_v30 : IVec S_ 1 := andi main_v25 main_v29
  main_v30

def fn {F : FTy → Type} [FloatOps F] (main_arg0 : FVec F S1024x200x20 .f32) (main_arg1 : FVec F S13526x32 .f32) (main_arg2 : FVec F S13526x32 .f32) (main_arg3 : FVec F S54104x5 .f32) (main_arg4 : FVec F S9x4 .f32) (main_arg5 : FVec F S190x16 .f32) (main_arg6 : FVec F S301x16 .f32) (main_arg7 : FVec F S301x16 .f32) (main_arg8 : FVec F S6x16 .f32) (main_arg9 : FVec F S8 .f32) (main_arg10 : FVec F S8 .f32) (main_arg11 : FVec F S8 .f32) (main_arg12 : FVec F S2048x129 .f32) (main_arg13 : FVec F S2048x512 .f32) (main_arg14 : FVec F S2048 .f32) (main_arg15 : FVec F S2048 .f32) (main_arg16 : FVec F S512 .f32) (main_arg17 : FVec F S512 .f32) (main_arg18 : FVec F S256x512 .f32) (main_arg19 : FVec F S256 .f32) (main_arg20 : FVec F S256 .f32) (main_arg21 : FVec F S256 .f32) (main_arg22 : FVec F S1x256 .f32) (main_arg23 : FVec F S1 .f32) : IVec S_ 1 :=
  let main_cst : FVec F S_ .f32 := constant S_ .f32 0x00000000#32
  let main_v0 : FVec F S1024x200x20 .f32 := broadcastInDim S1024x200x20 ![] bcast_S_S1024x200x20 main_cst
  let main_v1 : IVec S1024x200x20 1 := cmpf .oge main_arg0 main_v0
  let main_cst_0 : FVec F S_ .f32 := constant S_ .f32 0x3F800000#32
  let main_v2 : FVec F S1024x200x20 .f32 := broadcastInDim S1024x200x20 ![] bcast_S_S1024x200x20 main_cst_0
  let main_v3 : IVec S1024x200x20 1 := cmpf .olt main_arg0 main_v2
  let main_v4 : IVec S1024x200x20 1 := andi main_v1 main_v3
  let main_c : IVec S_ 1 := constantI S_ 1 1#1
  let main_v5 : IVec S_ 1 := (fun x v => Host.reduce IntOp.andi x v reducesTo_S1024x200x20_S_d0_1_2 h_S_) main_v4 main_c
  let main_v6 : FVec F S190x16 .f32 := Host.absf main_arg5
  let main_cst_1 : FVec F S_ .f32 := constant S_ .f32 0x7F800000#32
  let main_v7 : FVec F S190x16 .f32 := broadcastInDim S190x16 ![] bcast_S_S190x16 main_cst_1
  let main_v8 : IVec S190x16 1 := cmpf .olt main_v6 main_v7
  let main_c_2 : IVec S_ 1 := constantI S_ 1 1#1
  let main_v9 : IVec S_ 1 := (fun x v => Host.reduce IntOp.andi x v reducesTo_S190x16_S_d0_1 h_S_) main_v8 main_c_2
  let main_v10 : IVec S_ 1 := andi main_v5 main_v9
  let main_v11 : FVec F S6x16 .f32 := Host.absf main_arg8
  let main_cst_3 : FVec F S_ .f32 := constant S_ .f32 0x7F800000#32
  let main_v12 : FVec F S6x16 .f32 := broadcastInDim S6x16 ![] bcast_S_S6x16 main_cst_3
  let main_v13 : IVec S6x16 1 := cmpf .olt main_v11 main_v12
  let main_c_4 : IVec S_ 1 := constantI S_ 1 1#1
  let main_v14 : IVec S_ 1 := (fun x v => Host.reduce IntOp.andi x v reducesTo_S6x16_S_d0_1 h_S_) main_v13 main_c_4
  let main_v15 : IVec S_ 1 := andi main_v10 main_v14
  let main_v16 : FVec F S8 .f32 := Host.absf main_arg9
  fn_part1 (F := F) main_arg10 main_arg12 main_v15 main_v16
-- ==== Kernel.lean ====
abbrev S1024x200x20 : Shape := ⟨3, ![1024, 200, 20]⟩
abbrev S13526x32 : Shape := ⟨2, ![13526, 32]⟩
abbrev S54104x5 : Shape := ⟨2, ![54104, 5]⟩
abbrev S9x4 : Shape := ⟨2, ![9, 4]⟩
abbrev S190x16 : Shape := ⟨2, ![190, 16]⟩
abbrev S301x16 : Shape := ⟨2, ![301, 16]⟩
abbrev S6x16 : Shape := ⟨2, ![6, 16]⟩
abbrev S8 : Shape := ⟨1, ![8]⟩
abbrev S2048x129 : Shape := ⟨2, ![2048, 129]⟩
abbrev S2048x512 : Shape := ⟨2, ![2048, 512]⟩
abbrev S2048 : Shape := ⟨1, ![2048]⟩
abbrev S512 : Shape := ⟨1, ![512]⟩
abbrev S256x512 : Shape := ⟨2, ![256, 512]⟩
abbrev S256 : Shape := ⟨1, ![256]⟩
abbrev S1x256 : Shape := ⟨2, ![1, 256]⟩
abbrev S1 : Shape := ⟨1, ![1]⟩
abbrev S1024x200x8 : Shape := ⟨3, ![1024, 200, 8]⟩
abbrev S200x1024x8 : Shape := ⟨3, ![200, 1024, 8]⟩
abbrev S204800x8 : Shape := ⟨2, ![204800, 8]⟩
abbrev S_ : Shape := ⟨0, ![]⟩
abbrev S204800x16 : Shape := ⟨2, ![204800, 16]⟩
abbrev S200x1024x16 : Shape := ⟨3, ![200, 1024, 16]⟩
abbrev S1x8 : Shape := ⟨2, ![1, 8]⟩
abbrev S1x16 : Shape := ⟨2, ![1, 16]⟩
abbrev S8192x8 : Shape := ⟨2, ![8192, 8]⟩
abbrev S2x8 : Shape := ⟨2, ![2, 8]⟩
abbrev S129x2048 : Shape := ⟨2, ![129, 2048]⟩
abbrev S64x2048 : Shape := ⟨2, ![64, 2048]⟩
abbrev S5x2048 : Shape := ⟨2, ![5, 2048]⟩
abbrev S11x2048 : Shape := ⟨2, ![11, 2048]⟩
abbrev S4x2048 : Shape := ⟨2, ![4, 2048]⟩
abbrev S12x2048 : Shape := ⟨2, ![12, 2048]⟩
abbrev S16x2048 : Shape := ⟨2, ![16, 2048]⟩
abbrev S16 : Shape := ⟨1, ![16]⟩
abbrev S16x1 : Shape := ⟨2, ![16, 1]⟩
abbrev S32x2048 : Shape := ⟨2, ![32, 2048]⟩
abbrev S8x2048 : Shape := ⟨2, ![8, 2048]⟩
abbrev S240x2048 : Shape := ⟨2, ![240, 2048]⟩
abbrev S512x2048 : Shape := ⟨2, ![512, 2048]⟩
abbrev S1x2048 : Shape := ⟨2, ![1, 2048]⟩
abbrev S1x512 : Shape := ⟨2, ![1, 512]⟩
abbrev S512x256 : Shape := ⟨2, ![512, 256]⟩
abbrev S1x1 : Shape := ⟨2, ![1, 1]⟩
abbrev S1024x1 : Shape := ⟨2, ![1024, 1]⟩
abbrev S1x1024x16 : Shape := ⟨3, ![1, 1024, 16]⟩
abbrev S8x32 : Shape := ⟨2, ![8, 32]⟩
abbrev S8x5 : Shape := ⟨2, ![8, 5]⟩
abbrev S8x4 : Shape := ⟨2, ![8, 4]⟩
abbrev S8x16 : Shape := ⟨2, ![8, 16]⟩
abbrev S1024x512 : Shape := ⟨2, ![1024, 512]⟩
abbrev S1x32 : Shape := ⟨2, ![1, 32]⟩
abbrev S1x5 : Shape := ⟨2, ![1, 5]⟩
abbrev S1x11 : Shape := ⟨2, ![1, 11]⟩
abbrev S1x4 : Shape := ⟨2, ![1, 4]⟩
abbrev S1x12 : Shape := ⟨2, ![1, 12]⟩
abbrev S1x240 : Shape := ⟨2, ![1, 240]⟩
abbrev S1024x16 : Shape := ⟨2, ![1024, 16]⟩
abbrev S1024x2048 : Shape := ⟨2, ![1024, 2048]⟩
abbrev S1024x256 : Shape := ⟨2, ![1024, 256]⟩
abbrev S1024 : Shape := ⟨1, ![1024]⟩

abbrev nBuf : Space → Nat
  | .hbm => 100
  | .vmem => 33
  | .smem => 0
  | _ => 0

abbrev bufTy : (tb : Table) → Fin (tcTables nBuf tb) → BufTy
  | .hbm, ⟨0, _⟩ => ⟨S1024x200x20, .f32⟩
  | .hbm, ⟨1, _⟩ => ⟨S13526x32, .f32⟩
  | .hbm, ⟨2, _⟩ => ⟨S13526x32, .f32⟩
  | .hbm, ⟨3, _⟩ => ⟨S54104x5, .f32⟩
  | .hbm, ⟨4, _⟩ => ⟨S9x4, .f32⟩
  | .hbm, ⟨5, _⟩ => ⟨S190x16, .f32⟩
  | .hbm, ⟨6, _⟩ => ⟨S301x16, .f32⟩
  | .hbm, ⟨7, _⟩ => ⟨S301x16, .f32⟩
  | .hbm, ⟨8, _⟩ => ⟨S6x16, .f32⟩
  | .hbm, ⟨9, _⟩ => ⟨S8, .f32⟩
  | .hbm, ⟨10, _⟩ => ⟨S8, .f32⟩
  | .hbm, ⟨11, _⟩ => ⟨S8, .f32⟩
  | .hbm, ⟨12, _⟩ => ⟨S2048x129, .f32⟩
  | .hbm, ⟨13, _⟩ => ⟨S2048x512, .f32⟩
  | .hbm, ⟨14, _⟩ => ⟨S2048, .f32⟩
  | .hbm, ⟨15, _⟩ => ⟨S2048, .f32⟩
  | .hbm, ⟨16, _⟩ => ⟨S512, .f32⟩
  | .hbm, ⟨17, _⟩ => ⟨S512, .f32⟩
  | .hbm, ⟨18, _⟩ => ⟨S256x512, .f32⟩
  | .hbm, ⟨19, _⟩ => ⟨S256, .f32⟩
  | .hbm, ⟨20, _⟩ => ⟨S256, .f32⟩
  | .hbm, ⟨21, _⟩ => ⟨S256, .f32⟩
  | .hbm, ⟨22, _⟩ => ⟨S1x256, .f32⟩
  | .hbm, ⟨23, _⟩ => ⟨S1, .f32⟩
  | .hbm, ⟨24, _⟩ => ⟨S1024x200x8, .f32⟩
  | .hbm, ⟨25, _⟩ => ⟨S200x1024x8, .f32⟩
  | .hbm, ⟨26, _⟩ => ⟨S204800x8, .f32⟩
  | .hbm, ⟨27, _⟩ => ⟨S_, .i32⟩
  | .hbm, ⟨28, _⟩ => ⟨S_, .f32⟩
  | .hbm, ⟨29, _⟩ => ⟨S204800x16, .f32⟩
  | .hbm, ⟨30, _⟩ => ⟨S200x1024x16, .f32⟩
  | .hbm, ⟨31, _⟩ => ⟨S1024x200x8, .f32⟩
  | .hbm, ⟨32, _⟩ => ⟨S204800x8, .f32⟩
  | .hbm, ⟨33, _⟩ => ⟨S8, .f32⟩
  | .hbm, ⟨34, _⟩ => ⟨S1x8, .f32⟩
  | .hbm, ⟨35, _⟩ => ⟨S8, .f32⟩
  | .hbm, ⟨36, _⟩ => ⟨S1x8, .f32⟩
  | .hbm, ⟨37, _⟩ => ⟨S1x16, .f32⟩
  | .hbm, ⟨38, _⟩ => ⟨S1x16, .f32⟩
  | .hbm, ⟨39, _⟩ => ⟨S129x2048, .f32⟩
  | .hbm, ⟨40, _⟩ => ⟨S64x2048, .f32⟩
  | .hbm, ⟨41, _⟩ => ⟨S5x2048, .f32⟩
  | .hbm, ⟨42, _⟩ => ⟨S_, .f32⟩
  | .hbm, ⟨43, _⟩ => ⟨S11x2048, .f32⟩
  | .hbm, ⟨44, _⟩ => ⟨S4x2048, .f32⟩
  | .hbm, ⟨45, _⟩ => ⟨S_, .f32⟩
  | .hbm, ⟨46, _⟩ => ⟨S12x2048, .f32⟩
  | .hbm, ⟨47, _⟩ => ⟨S16x2048, .f32⟩
  | .hbm, ⟨48, _⟩ => ⟨S1x16, .f32⟩
  | .hbm, ⟨49, _⟩ => ⟨S16, .f32⟩
  | .hbm, ⟨50, _⟩ => ⟨S16x1, .f32⟩
  | .hbm, ⟨51, _⟩ => ⟨S16x2048, .f32⟩
  | .hbm, ⟨52, _⟩ => ⟨S16x2048, .f32⟩
  | .hbm, ⟨53, _⟩ => ⟨S16x2048, .f32⟩
  | .hbm, ⟨54, _⟩ => ⟨S1x16, .f32⟩
  | .hbm, ⟨55, _⟩ => ⟨S16, .f32⟩
  | .hbm, ⟨56, _⟩ => ⟨S16x1, .f32⟩
  | .hbm, ⟨57, _⟩ => ⟨S16x2048, .f32⟩
  | .hbm, ⟨58, _⟩ => ⟨S16x2048, .f32⟩
  | .hbm, ⟨59, _⟩ => ⟨S16x2048, .f32⟩
  | .hbm, ⟨60, _⟩ => ⟨S1x16, .f32⟩
  | .hbm, ⟨61, _⟩ => ⟨S16, .f32⟩
  | .hbm, ⟨62, _⟩ => ⟨S16x1, .f32⟩
  | .hbm, ⟨63, _⟩ => ⟨S16x2048, .f32⟩
  | .hbm, ⟨64, _⟩ => ⟨S16x2048, .f32⟩
  | .hbm, ⟨65, _⟩ => ⟨S16x2048, .f32⟩
  | .hbm, ⟨66, _⟩ => ⟨S1x16, .f32⟩
  | .hbm, ⟨67, _⟩ => ⟨S16, .f32⟩
  | .hbm, ⟨68, _⟩ => ⟨S16x1, .f32⟩
  | .hbm, ⟨69, _⟩ => ⟨S16x2048, .f32⟩
  | .hbm, ⟨70, _⟩ => ⟨S16x2048, .f32⟩
  | .hbm, ⟨71, _⟩ => ⟨S16x2048, .f32⟩
  | .hbm, ⟨72, _⟩ => ⟨S1x16, .f32⟩
  | .hbm, ⟨73, _⟩ => ⟨S16, .f32⟩
  | .hbm, ⟨74, _⟩ => ⟨S16x1, .f32⟩
  | .hbm, ⟨75, _⟩ => ⟨S16x2048, .f32⟩
  | .hbm, ⟨76, _⟩ => ⟨S16x2048, .f32⟩
  | .hbm, ⟨77, _⟩ => ⟨S16x2048, .f32⟩
  | .hbm, ⟨78, _⟩ => ⟨S1x16, .f32⟩
  | .hbm, ⟨79, _⟩ => ⟨S16, .f32⟩
  | .hbm, ⟨80, _⟩ => ⟨S16x1, .f32⟩
  | .hbm, ⟨81, _⟩ => ⟨S16x2048, .f32⟩
  | .hbm, ⟨82, _⟩ => ⟨S16x2048, .f32⟩
  | .hbm, ⟨83, _⟩ => ⟨S32x2048, .f32⟩
  | .hbm, ⟨84, _⟩ => ⟨S8x2048, .f32⟩
  | .hbm, ⟨85, _⟩ => ⟨S_, .f32⟩
  | .hbm, ⟨86, _⟩ => ⟨S8x2048, .f32⟩
  | .hbm, ⟨87, _⟩ => ⟨S240x2048, .f32⟩
  | .hbm, ⟨88, _⟩ => ⟨S512x2048, .f32⟩
  | .hbm, ⟨89, _⟩ => ⟨S2048, .f32⟩
  | .hbm, ⟨90, _⟩ => ⟨S1x2048, .f32⟩
  | .hbm, ⟨91, _⟩ => ⟨S1x512, .f32⟩
  | .hbm, ⟨92, _⟩ => ⟨S1x512, .f32⟩
  | .hbm, ⟨93, _⟩ => ⟨S512x256, .f32⟩
  | .hbm, ⟨94, _⟩ => ⟨S1x256, .f32⟩
  | .hbm, ⟨95, _⟩ => ⟨S1x256, .f32⟩
  | .hbm, ⟨96, _⟩ => ⟨S1x256, .f32⟩
  | .hbm, ⟨97, _⟩ => ⟨S1x1, .f32⟩
  | .hbm, ⟨98, _⟩ => ⟨S1024x1, .f32⟩
  | .hbm, ⟨99, _⟩ => ⟨S1024, .f32⟩
  | .local _ .vmem, ⟨0, _⟩ => ⟨S8192x8, .f32⟩
  | .local _ .vmem, ⟨1, _⟩ => ⟨S8192x8, .f32⟩
  | .local _ .vmem, ⟨2, _⟩ => ⟨S1x8, .f32⟩
  | .local _ .vmem, ⟨3, _⟩ => ⟨S1x8, .f32⟩
  | .local _ .vmem, ⟨4, _⟩ => ⟨S1x16, .f32⟩
  | .local _ .vmem, ⟨5, _⟩ => ⟨S1x16, .f32⟩
  | .local _ .vmem, ⟨6, _⟩ => ⟨S2x8, .f32⟩
  | .local _ .vmem, ⟨7, _⟩ => ⟨S1x1024x16, .f32⟩
  | .local _ .vmem, ⟨8, _⟩ => ⟨S1x1024x16, .f32⟩
  | .local _ .vmem, ⟨9, _⟩ => ⟨S1x16, .f32⟩
  | .local _ .vmem, ⟨10, _⟩ => ⟨S1x16, .f32⟩
  | .local _ .vmem, ⟨11, _⟩ => ⟨S8x32, .f32⟩
  | .local _ .vmem, ⟨12, _⟩ => ⟨S8x32, .f32⟩
  | .local _ .vmem, ⟨13, _⟩ => ⟨S8x5, .f32⟩
  | .local _ .vmem, ⟨14, _⟩ => ⟨S8x4, .f32⟩
  | .local _ .vmem, ⟨15, _⟩ => ⟨S8x16, .f32⟩
  | .local _ .vmem, ⟨16, _⟩ => ⟨S8x16, .f32⟩
  | .local _ .vmem, ⟨17, _⟩ => ⟨S8x16, .f32⟩
  | .local _ .vmem, ⟨18, _⟩ => ⟨S240x2048, .f32⟩
  | .local _ .vmem, ⟨19, _⟩ => ⟨S512x2048, .f32⟩
  | .local _ .vmem, ⟨20, _⟩ => ⟨S1x2048, .f32⟩
  | .local _ .vmem, ⟨21, _⟩ => ⟨S1x512, .f32⟩
  | .local _ .vmem, ⟨22, _⟩ => ⟨S1x512, .f32⟩
  | .local _ .vmem, ⟨23, _⟩ => ⟨S512x256, .f32⟩
  | .local _ .vmem, ⟨24, _⟩ => ⟨S1x256, .f32⟩
  | .local _ .vmem, ⟨25, _⟩ => ⟨S1x256, .f32⟩
  | .local _ .vmem, ⟨26, _⟩ => ⟨S1x256, .f32⟩
  | .local _ .vmem, ⟨27, _⟩ => ⟨S1x256, .f32⟩
  | .local _ .vmem, ⟨28, _⟩ => ⟨S1x1, .f32⟩
  | .local _ .vmem, ⟨29, _⟩ => ⟨S1024x1, .f32⟩
  | .local _ .vmem, ⟨30, _⟩ => ⟨S1024x512, .f32⟩
  | .local _ .vmem, ⟨31, _⟩ => ⟨S1024x512, .f32⟩
  | .local _ .vmem, ⟨32, _⟩ => ⟨S1x2048, .f32⟩
  | _, _ => ⟨S1024x200x20, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | _, _ => false

abbrev semScoped : Fin 0 → Bool
  | ⟨_, h⟩ => absurd h (Nat.not_lt_zero _)

abbrev dmaSemScoped : Fin 29 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | _ => false

abbrev sig : RefSig :=
  ofTc nBuf bufTy 0 29 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_arg19 : Ref sig .tc := ⟨.hbm, 19, rfl⟩
abbrev main_arg20 : Ref sig .tc := ⟨.hbm, 20, rfl⟩
abbrev main_arg21 : Ref sig .tc := ⟨.hbm, 21, rfl⟩
abbrev main_arg22 : Ref sig .tc := ⟨.hbm, 22, rfl⟩
abbrev main_arg23 : Ref sig .tc := ⟨.hbm, 23, rfl⟩
abbrev main_v0 : Ref sig .tc := ⟨.hbm, 24, rfl⟩
abbrev main_v1 : Ref sig .tc := ⟨.hbm, 25, rfl⟩
abbrev main_v2 : Ref sig .tc := ⟨.hbm, 26, rfl⟩
abbrev main_c : Ref sig .tc := ⟨.hbm, 27, rfl⟩
abbrev main_call0_v0 : Ref sig .tc := ⟨.hbm, 28, rfl⟩
abbrev main_v3 : Ref sig .tc := ⟨.hbm, 29, rfl⟩
abbrev main_v4 : Ref sig .tc := ⟨.hbm, 30, rfl⟩
abbrev main_v5 : Ref sig .tc := ⟨.hbm, 31, rfl⟩
abbrev main_v6 : Ref sig .tc := ⟨.hbm, 32, rfl⟩
abbrev main_v7 : Ref sig .tc := ⟨.hbm, 33, rfl⟩
abbrev main_v8 : Ref sig .tc := ⟨.hbm, 34, rfl⟩
abbrev main_v9 : Ref sig .tc := ⟨.hbm, 35, rfl⟩
abbrev main_v10 : Ref sig .tc := ⟨.hbm, 36, rfl⟩
abbrev main_v11_0 : Ref sig .tc := ⟨.hbm, 37, rfl⟩
abbrev main_v11_1 : Ref sig .tc := ⟨.hbm, 38, rfl⟩
abbrev main_v12 : Ref sig .tc := ⟨.hbm, 39, rfl⟩
abbrev main_v13 : Ref sig .tc := ⟨.hbm, 40, rfl⟩
abbrev main_v14 : Ref sig .tc := ⟨.hbm, 41, rfl⟩
abbrev main_cst : Ref sig .tc := ⟨.hbm, 42, rfl⟩
abbrev main_v15 : Ref sig .tc := ⟨.hbm, 43, rfl⟩
abbrev main_v16 : Ref sig .tc := ⟨.hbm, 44, rfl⟩
abbrev main_cst_0 : Ref sig .tc := ⟨.hbm, 45, rfl⟩
abbrev main_v17 : Ref sig .tc := ⟨.hbm, 46, rfl⟩
abbrev main_v18 : Ref sig .tc := ⟨.hbm, 47, rfl⟩
abbrev main_v19 : Ref sig .tc := ⟨.hbm, 48, rfl⟩
abbrev main_v20 : Ref sig .tc := ⟨.hbm, 49, rfl⟩
abbrev main_v21 : Ref sig .tc := ⟨.hbm, 50, rfl⟩
abbrev main_v22 : Ref sig .tc := ⟨.hbm, 51, rfl⟩
abbrev main_v23 : Ref sig .tc := ⟨.hbm, 52, rfl⟩
abbrev main_v24 : Ref sig .tc := ⟨.hbm, 53, rfl⟩
abbrev main_v25 : Ref sig .tc := ⟨.hbm, 54, rfl⟩
abbrev main_v26 : Ref sig .tc := ⟨.hbm, 55, rfl⟩
abbrev main_v27 : Ref sig .tc := ⟨.hbm, 56, rfl⟩
abbrev main_v28 : Ref sig .tc := ⟨.hbm, 57, rfl⟩
abbrev main_v29 : Ref sig .tc := ⟨.hbm, 58, rfl⟩
abbrev main_v30 : Ref sig .tc := ⟨.hbm, 59, rfl⟩
abbrev main_v31 : Ref sig .tc := ⟨.hbm, 60, rfl⟩
abbrev main_v32 : Ref sig .tc := ⟨.hbm, 61, rfl⟩
abbrev main_v33 : Ref sig .tc := ⟨.hbm, 62, rfl⟩
abbrev main_v34 : Ref sig .tc := ⟨.hbm, 63, rfl⟩
abbrev main_v35 : Ref sig .tc := ⟨.hbm, 64, rfl⟩
abbrev main_v36 : Ref sig .tc := ⟨.hbm, 65, rfl⟩
abbrev main_v37 : Ref sig .tc := ⟨.hbm, 66, rfl⟩
abbrev main_v38 : Ref sig .tc := ⟨.hbm, 67, rfl⟩
abbrev main_v39 : Ref sig .tc := ⟨.hbm, 68, rfl⟩
abbrev main_v40 : Ref sig .tc := ⟨.hbm, 69, rfl⟩
abbrev main_v41 : Ref sig .tc := ⟨.hbm, 70, rfl⟩
abbrev main_v42 : Ref sig .tc := ⟨.hbm, 71, rfl⟩
abbrev main_v43 : Ref sig .tc := ⟨.hbm, 72, rfl⟩
abbrev main_v44 : Ref sig .tc := ⟨.hbm, 73, rfl⟩
abbrev main_v45 : Ref sig .tc := ⟨.hbm, 74, rfl⟩
abbrev main_v46 : Ref sig .tc := ⟨.hbm, 75, rfl⟩
abbrev main_v47 : Ref sig .tc := ⟨.hbm, 76, rfl⟩
abbrev main_v48 : Ref sig .tc := ⟨.hbm, 77, rfl⟩
abbrev main_v49 : Ref sig .tc := ⟨.hbm, 78, rfl⟩
abbrev main_v50 : Ref sig .tc := ⟨.hbm, 79, rfl⟩
abbrev main_v51 : Ref sig .tc := ⟨.hbm, 80, rfl⟩
abbrev main_v52 : Ref sig .tc := ⟨.hbm, 81, rfl⟩
abbrev main_v53 : Ref sig .tc := ⟨.hbm, 82, rfl⟩
abbrev main_v54 : Ref sig .tc := ⟨.hbm, 83, rfl⟩
abbrev main_v55 : Ref sig .tc := ⟨.hbm, 84, rfl⟩
abbrev main_cst_1 : Ref sig .tc := ⟨.hbm, 85, rfl⟩
abbrev main_v56 : Ref sig .tc := ⟨.hbm, 86, rfl⟩
abbrev main_v57 : Ref sig .tc := ⟨.hbm, 87, rfl⟩
abbrev main_v58 : Ref sig .tc := ⟨.hbm, 88, rfl⟩
abbrev main_v59 : Ref sig .tc := ⟨.hbm, 89, rfl⟩
abbrev main_v60 : Ref sig .tc := ⟨.hbm, 90, rfl⟩
abbrev main_v61 : Ref sig .tc := ⟨.hbm, 91, rfl⟩
abbrev main_v62 : Ref sig .tc := ⟨.hbm, 92, rfl⟩
abbrev main_v63 : Ref sig .tc := ⟨.hbm, 93, rfl⟩
abbrev main_v64 : Ref sig .tc := ⟨.hbm, 94, rfl⟩
abbrev main_v65 : Ref sig .tc := ⟨.hbm, 95, rfl⟩
abbrev main_v66 : Ref sig .tc := ⟨.hbm, 96, rfl⟩
abbrev main_v67 : Ref sig .tc := ⟨.hbm, 97, rfl⟩
abbrev main_v68 : Ref sig .tc := ⟨.hbm, 98, rfl⟩
abbrev main_v69 : Ref sig .tc := ⟨.hbm, 99, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_scratch0 : Ref sig .tc := ⟨.vmem, 6, rfl⟩
abbrev cc1_stg0_0 : Ref sig .tc := ⟨.vmem, 7, rfl⟩
abbrev cc1_stg0_1 : Ref sig .tc := ⟨.vmem, 8, rfl⟩
abbrev cc1_stg1_0 : Ref sig .tc := ⟨.vmem, 9, rfl⟩
abbrev cc1_stg2_0 : Ref sig .tc := ⟨.vmem, 10, rfl⟩
abbrev cc1_stg3_0 : Ref sig .tc := ⟨.vmem, 11, rfl⟩
abbrev cc1_stg4_0 : Ref sig .tc := ⟨.vmem, 12, rfl⟩
abbrev cc1_stg5_0 : Ref sig .tc := ⟨.vmem, 13, rfl⟩
abbrev cc1_stg6_0 : Ref sig .tc := ⟨.vmem, 14, rfl⟩
abbrev cc1_stg7_0 : Ref sig .tc := ⟨.vmem, 15, rfl⟩
abbrev cc1_stg8_0 : Ref sig .tc := ⟨.vmem, 16, rfl⟩
abbrev cc1_stg9_0 : Ref sig .tc := ⟨.vmem, 17, rfl⟩
abbrev cc1_stg10_0 : Ref sig .tc := ⟨.vmem, 18, rfl⟩
abbrev cc1_stg11_0 : Ref sig .tc := ⟨.vmem, 19, rfl⟩
abbrev cc1_stg12_0 : Ref sig .tc := ⟨.vmem, 20, rfl⟩
abbrev cc1_stg13_0 : Ref sig .tc := ⟨.vmem, 21, rfl⟩
abbrev cc1_stg14_0 : Ref sig .tc := ⟨.vmem, 22, rfl⟩
abbrev cc1_stg15_0 : Ref sig .tc := ⟨.vmem, 23, rfl⟩
abbrev cc1_stg16_0 : Ref sig .tc := ⟨.vmem, 24, rfl⟩
abbrev cc1_stg17_0 : Ref sig .tc := ⟨.vmem, 25, rfl⟩
abbrev cc1_stg18_0 : Ref sig .tc := ⟨.vmem, 26, rfl⟩
abbrev cc1_stg19_0 : Ref sig .tc := ⟨.vmem, 27, rfl⟩
abbrev cc1_stg20_0 : Ref sig .tc := ⟨.vmem, 28, rfl⟩
abbrev cc1_stg21_0 : Ref sig .tc := ⟨.vmem, 29, rfl⟩
abbrev cc1_scratch0 : Ref sig .tc := ⟨.vmem, 30, rfl⟩
abbrev cc1_scratch1 : Ref sig .tc := ⟨.vmem, 31, rfl⟩
abbrev cc1_scratch2 : Ref sig .tc := ⟨.vmem, 32, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc1_sem0_0 : DmaSem sig := 6
abbrev cc1_sem0_1 : DmaSem sig := 7
abbrev cc1_sem1_0 : DmaSem sig := 8
abbrev cc1_sem2_0 : DmaSem sig := 9
abbrev cc1_sem3_0 : DmaSem sig := 10
abbrev cc1_sem4_0 : DmaSem sig := 11
abbrev cc1_sem5_0 : DmaSem sig := 12
abbrev cc1_sem6_0 : DmaSem sig := 13
abbrev cc1_sem7_0 : DmaSem sig := 14
abbrev cc1_sem8_0 : DmaSem sig := 15
abbrev cc1_sem9_0 : DmaSem sig := 16
abbrev cc1_sem10_0 : DmaSem sig := 17
abbrev cc1_sem11_0 : DmaSem sig := 18
abbrev cc1_sem12_0 : DmaSem sig := 19
abbrev cc1_sem13_0 : DmaSem sig := 20
abbrev cc1_sem14_0 : DmaSem sig := 21
abbrev cc1_sem15_0 : DmaSem sig := 22
abbrev cc1_sem16_0 : DmaSem sig := 23
abbrev cc1_sem17_0 : DmaSem sig := 24
abbrev cc1_sem18_0 : DmaSem sig := 25
abbrev cc1_sem19_0 : DmaSem sig := 26
abbrev cc1_sem20_0 : DmaSem sig := 27
abbrev cc1_sem21_0 : DmaSem sig := 28

abbrev nD : Nat := 1
abbrev τ : Topo := Topo.v7x

variable {F : FTy → Type} [FloatOps F]

abbrev grid0 : Pipeline.Grid := ⟨1, ![25], ![false]⟩

def k0_cond2 (i : grid0.Coords) : BitVec 1 :=
  let arg0 : BitVec 32 := BitVec.ofNat 32 (i 0).val
  let c24_i32 : BitVec 32 := 24#32
  let v20 : BitVec 1 := Scalar.cmpi .eq arg0 c24_i32
  let v21 : BitVec 32 := Scalar.extui v20
  let c0_i32_10 : BitVec 32 := 0#32
  let v22 : BitVec 1 := Scalar.cmpi .ne v21 c0_i32_10
  v22

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S8192x8 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x8 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x8 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x16 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x16 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev grid1 : Pipeline.Grid := ⟨1, ![200], ![false]⟩

def k1_cond2 (i : grid1.Coords) : BitVec 1 :=
  let arg0 : BitVec 32 := BitVec.ofNat 32 (i 0).val
  let c199_i32 : BitVec 32 := 199#32
  let v44 : BitVec 1 := Scalar.cmpi .eq arg0 c199_i32
  let v45 : BitVec 32 := Scalar.extui v44
  let c0_i32_21 : BitVec 32 := 0#32
  let v46 : BitVec 1 := Scalar.cmpi .ne v45 c0_i32_21
  v46

def cc1_transform_0 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_6 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_7 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_8 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_9 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_10 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_11 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_12 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_13 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_14 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_15 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_16 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_17 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_18 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_19 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_20 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_21 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage1_0 : Fin 2 → Memref sig .tc .vmem S1x1024x16 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S1x16 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 1 → Memref sig .tc .vmem S1x16 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S8x32 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S8x32 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 1 → Memref sig .tc .vmem S8x5 .f32 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![false]

abbrev stage1_6 : Fin 1 → Memref sig .tc .vmem S8x4 .f32 := fun | 0 => Memref.whole cc1_stg6_0 | ⟨_ + 1, h⟩ => absurd h (Nat.not_lt.2 (Nat.le_add_left _ _))
abbrev sem1_6 : Fin 1 → DmaSem sig := fun | 0 => cc1_sem6_0 | ⟨_ + 1, h⟩ => absurd h (Nat.not_lt.2 (Nat.le_add_left _ _))
abbrev reads1_6 : Fin grid1.rank → Bool := ![false]

abbrev stage1_7 : Fin 1 → Memref sig .tc .vmem S8x16 .f32 := fun | 0 => Memref.whole cc1_stg7_0 | ⟨_ + 1, h⟩ => absurd h (Nat.not_lt.2 (Nat.le_add_left _ _))
abbrev sem1_7 : Fin 1 → DmaSem sig := fun | 0 => cc1_sem7_0 | ⟨_ + 1, h⟩ => absurd h (Nat.not_lt.2 (Nat.le_add_left _ _))
abbrev reads1_7 : Fin grid1.rank → Bool := ![false]

abbrev stage1_8 : Fin 1 → Memref sig .tc .vmem S8x16 .f32 := fun | 0 => Memref.whole cc1_stg8_0 | ⟨_ + 1, h⟩ => absurd h (Nat.not_lt.2 (Nat.le_add_left _ _))
abbrev sem1_8 : Fin 1 → DmaSem sig := fun | 0 => cc1_sem8_0 | ⟨_ + 1, h⟩ => absurd h (Nat.not_lt.2 (Nat.le_add_left _ _))
abbrev reads1_8 : Fin grid1.rank → Bool := ![false]

abbrev stage1_9 : Fin 1 → Memref sig .tc .vmem S8x16 .f32 := fun | 0 => Memref.whole cc1_stg9_0 | ⟨_ + 1, h⟩ => absurd h (Nat.not_lt.2 (Nat.le_add_left _ _))
abbrev sem1_9 : Fin 1 → DmaSem sig := fun | 0 => cc1_sem9_0 | ⟨_ + 1, h⟩ => absurd h (Nat.not_lt.2 (Nat.le_add_left _ _))
abbrev reads1_9 : Fin grid1.rank → Bool := ![false]

abbrev stage1_10 : Fin 1 → Memref sig .tc .vmem S240x2048 .f32 := fun | 0 => Memref.whole cc1_stg10_0 | ⟨_ + 1, h⟩ => absurd h (Nat.not_lt.2 (Nat.le_add_left _ _))
abbrev sem1_10 : Fin 1 → DmaSem sig := fun | 0 => cc1_sem10_0 | ⟨_ + 1, h⟩ => absurd h (Nat.not_lt.2 (Nat.le_add_left _ _))
abbrev reads1_10 : Fin grid1.rank → Bool := ![false]

abbrev stage1_11 : Fin 1 → Memref sig .tc .vmem S512x2048 .f32 := fun | 0 => Memref.whole cc1_stg11_0 | ⟨_ + 1, h⟩ => absurd h (Nat.not_lt.2 (Nat.le_add_left _ _))
abbrev sem1_11 : Fin 1 → DmaSem sig := fun | 0 => cc1_sem11_0 | ⟨_ + 1, h⟩ => absurd h (Nat.not_lt.2 (Nat.le_add_left _ _))
abbrev reads1_11 : Fin grid1.rank → Bool := ![false]

abbrev stage1_12 : Fin 1 → Memref sig .tc .vmem S1x2048 .f32 := fun | 0 => Memref.whole cc1_stg12_0 | ⟨_ + 1, h⟩ => absurd h (Nat.not_lt.2 (Nat.le_add_left _ _))
abbrev sem1_12 : Fin 1 → DmaSem sig := fun | 0 => cc1_sem12_0 | ⟨_ + 1, h⟩ => absurd h (Nat.not_lt.2 (Nat.le_add_left _ _))
abbrev reads1_12 : Fin grid1.rank → Bool := ![false]

abbrev stage1_13 : Fin 1 → Memref sig .tc .vmem S1x512 .f32 := fun | 0 => Memref.whole cc1_stg13_0 | ⟨_ + 1, h⟩ => absurd h (Nat.not_lt.2 (Nat.le_add_left _ _))
abbrev sem1_13 : Fin 1 → DmaSem sig := fun | 0 => cc1_sem13_0 | ⟨_ + 1, h⟩ => absurd h (Nat.not_lt.2 (Nat.le_add_left _ _))
abbrev reads1_13 : Fin grid1.rank → Bool := ![false]

abbrev stage1_14 : Fin 1 → Memref sig .tc .vmem S1x512 .f32 := fun | 0 => Memref.whole cc1_stg14_0 | ⟨_ + 1, h⟩ => absurd h (Nat.not_lt.2 (Nat.le_add_left _ _))
abbrev sem1_14 : Fin 1 → DmaSem sig := fun | 0 => cc1_sem14_0 | ⟨_ + 1, h⟩ => absurd h (Nat.not_lt.2 (Nat.le_add_left _ _))
abbrev reads1_14 : Fin grid1.rank → Bool := ![false]

abbrev stage1_15 : Fin 1 → Memref sig .tc .vmem S512x256 .f32 := fun | 0 => Memref.whole cc1_stg15_0 | ⟨_ + 1, h⟩ => absurd h (Nat.not_lt.2 (Nat.le_add_left _ _))
abbrev sem1_15 : Fin 1 → DmaSem sig := fun | 0 => cc1_sem15_0 | ⟨_ + 1, h⟩ => absurd h (Nat.not_lt.2 (Nat.le_add_left _ _))
abbrev reads1_15 : Fin grid1.rank → Bool := ![false]

abbrev stage1_16 : Fin 1 → Memref sig .tc .vmem S1x256 .f32 := fun | 0 => Memref.whole cc1_stg16_0 | ⟨_ + 1, h⟩ => absurd h (Nat.not_lt.2 (Nat.le_add_left _ _))
abbrev sem1_16 : Fin 1 → DmaSem sig := fun | 0 => cc1_sem16_0 | ⟨_ + 1, h⟩ => absurd h (Nat.not_lt.2 (Nat.le_add_left _ _))
abbrev reads1_16 : Fin grid1.rank → Bool := ![false]

abbrev stage1_17 : Fin 1 → Memref sig .tc .vmem S1x256 .f32 := fun | 0 => Memref.whole cc1_stg17_0 | ⟨_ + 1, h⟩ => absurd h (Nat.not_lt.2 (Nat.le_add_left _ _))
abbrev sem1_17 : Fin 1 → DmaSem sig := fun | 0 => cc1_sem17_0 | ⟨_ + 1, h⟩ => absurd h (Nat.not_lt.2 (Nat.le_add_left _ _))
abbrev reads1_17 : Fin grid1.rank → Bool := ![false]

abbrev stage1_18 : Fin 1 → Memref sig .tc .vmem S1x256 .f32 := fun | 0 => Memref.whole cc1_stg18_0 | ⟨_ + 1, h⟩ => absurd h (Nat.not_lt.2 (Nat.le_add_left _ _))
abbrev sem1_18 : Fin 1 → DmaSem sig := fun | 0 => cc1_sem18_0 | ⟨_ + 1, h⟩ => absurd h (Nat.not_lt.2 (Nat.le_add_left _ _))
abbrev reads1_18 : Fin grid1.rank → Bool := ![false]

abbrev stage1_19 : Fin 1 → Memref sig .tc .vmem S1x256 .f32 := fun | 0 => Memref.whole cc1_stg19_0 | ⟨_ + 1, h⟩ => absurd h (Nat.not_lt.2 (Nat.le_add_left _ _))
abbrev sem1_19 : Fin 1 → DmaSem sig := fun | 0 => cc1_sem19_0 | ⟨_ + 1, h⟩ => absurd h (Nat.not_lt.2 (Nat.le_add_left _ _))
abbrev reads1_19 : Fin grid1.rank → Bool := ![false]

abbrev stage1_20 : Fin 1 → Memref sig .tc .vmem S1x1 .f32 := fun | 0 => Memref.whole cc1_stg20_0 | ⟨_ + 1, h⟩ => absurd h (Nat.not_lt.2 (Nat.le_add_left _ _))
abbrev sem1_20 : Fin 1 → DmaSem sig := fun | 0 => cc1_sem20_0 | ⟨_ + 1, h⟩ => absurd h (Nat.not_lt.2 (Nat.le_add_left _ _))
abbrev reads1_20 : Fin grid1.rank → Bool := ![false]

abbrev stage1_21 : Fin 1 → Memref sig .tc .vmem S1024x1 .f32 := fun | 0 => Memref.whole cc1_stg21_0 | ⟨_ + 1, h⟩ => absurd h (Nat.not_lt.2 (Nat.le_add_left _ _))
abbrev sem1_21 : Fin 1 → DmaSem sig := fun | 0 => cc1_sem21_0 | ⟨_ + 1, h⟩ => absurd h (Nat.not_lt.2 (Nat.le_add_left _ _))
abbrev reads1_21 : Fin grid1.rank → Bool := ![false]
-- ==== ReferenceIdeal.lean ====
abbrev S1024x200x20 : Shape := ⟨3, ![1024, 200, 20]⟩
abbrev S13526x32 : Shape := ⟨2, ![13526, 32]⟩
abbrev S54104x5 : Shape := ⟨2, ![54104, 5]⟩
abbrev S9x4 : Shape := ⟨2, ![9, 4]⟩
abbrev S190x16 : Shape := ⟨2, ![190, 16]⟩
abbrev S301x16 : Shape := ⟨2, ![301, 16]⟩
abbrev S6x16 : Shape := ⟨2, ![6, 16]⟩
abbrev S8 : Shape := ⟨1, ![8]⟩
abbrev S2048x129 : Shape := ⟨2, ![2048, 129]⟩
abbrev S2048x512 : Shape := ⟨2, ![2048, 512]⟩
abbrev S2048 : Shape := ⟨1, ![2048]⟩
abbrev S512 : Shape := ⟨1, ![512]⟩
abbrev S256x512 : Shape := ⟨2, ![256, 512]⟩
abbrev S256 : Shape := ⟨1, ![256]⟩
abbrev S1x256 : Shape := ⟨2, ![1, 256]⟩
abbrev S1 : Shape := ⟨1, ![1]⟩
abbrev S1024x200x1 : Shape := ⟨3, ![1024, 200, 1]⟩
abbrev S1024x200 : Shape := ⟨2, ![1024, 200]⟩
abbrev S_ : Shape := ⟨0, ![]⟩
abbrev S1024x200x32 : Shape := ⟨3, ![1024, 200, 32]⟩
abbrev S1024x200x5 : Shape := ⟨3, ![1024, 200, 5]⟩
abbrev S1024x200x4 : Shape := ⟨3, ![1024, 200, 4]⟩
abbrev S1024x200x6 : Shape := ⟨3, ![1024, 200, 6]⟩
abbrev S1024x200x6x1 : Shape := ⟨4, ![1024, 200, 6, 1]⟩
abbrev S1024x200x6x16 : Shape := ⟨4, ![1024, 200, 6, 16]⟩
abbrev S1x1x6x16 : Shape := ⟨4, ![1, 1, 6, 16]⟩
abbrev S1024x200x16 : Shape := ⟨3, ![1024, 200, 16]⟩
abbrev S1024x200x121 : Shape := ⟨3, ![1024, 200, 121]⟩
abbrev S1024x200x8 : Shape := ⟨3, ![1024, 200, 8]⟩
abbrev S1x1x8 : Shape := ⟨3, ![1, 1, 8]⟩
abbrev S1024x200x129 : Shape := ⟨3, ![1024, 200, 129]⟩
abbrev S1024x512 : Shape := ⟨2, ![1024, 512]⟩
abbrev S200x1024x129 : Shape := ⟨3, ![200, 1024, 129]⟩
abbrev S1x1024x129 : Shape := ⟨3, ![1, 1024, 129]⟩
abbrev S1024x129 : Shape := ⟨2, ![1024, 129]⟩
abbrev S129x2048 : Shape := ⟨2, ![129, 2048]⟩
abbrev S1024x2048 : Shape := ⟨2, ![1024, 2048]⟩
abbrev S512x2048 : Shape := ⟨2, ![512, 2048]⟩
abbrev S1x2048 : Shape := ⟨2, ![1, 2048]⟩
abbrev S1x512 : Shape := ⟨2, ![1, 512]⟩
abbrev S512x256 : Shape := ⟨2, ![512, 256]⟩
abbrev S1024x256 : Shape := ⟨2, ![1024, 256]⟩
abbrev S256x1 : Shape := ⟨2, ![256, 1]⟩
abbrev S1024x1 : Shape := ⟨2, ![1024, 1]⟩
abbrev S1x1 : Shape := ⟨2, ![1, 1]⟩
abbrev S1024 : Shape := ⟨1, ![1024]⟩

abbrev nBuf : Space → Nat
  | .hbm => 281
  | .vmem => 0
  | .smem => 0
  | _ => 0

abbrev hbmTy0_0 (i : Nat) : BufTy := match i % 128 with
  | 0 => ⟨S1024x200x20, .f32⟩
  | 1 => ⟨S13526x32, .f32⟩
  | 2 => ⟨S13526x32, .f32⟩
  | 3 => ⟨S54104x5, .f32⟩
  | 4 => ⟨S9x4, .f32⟩
  | 5 => ⟨S190x16, .f32⟩
  | 6 => ⟨S301x16, .f32⟩
  | 7 => ⟨S301x16, .f32⟩
  | 8 => ⟨S6x16, .f32⟩
  | 9 => ⟨S8, .f32⟩
  | 10 => ⟨S8, .f32⟩
  | 11 => ⟨S8, .f32⟩
  | 12 => ⟨S2048x129, .f32⟩
  | 13 => ⟨S2048x512, .f32⟩
  | 14 => ⟨S2048, .f32⟩
  | 15 => ⟨S2048, .f32⟩
  | 16 => ⟨S512, .f32⟩
  | 17 => ⟨S512, .f32⟩
  | 18 => ⟨S256x512, .f32⟩
  | 19 => ⟨S256, .f32⟩
  | 20 => ⟨S256, .f32⟩
  | 21 => ⟨S256, .f32⟩
  | 22 => ⟨S1x256, .f32⟩
  | 23 => ⟨S1, .f32⟩
  | 24 => ⟨S1024x200x20, .i32⟩
  | 25 => ⟨S1024x200x1, .i32⟩
  | 26 => ⟨S1024x200, .i32⟩
  | 27 => ⟨S_, .i32⟩
  | 28 => ⟨S1024x200, .i32⟩
  | 29 => ⟨S1024x200, .i1⟩
  | 30 => ⟨S_, .i32⟩
  | 31 => ⟨S1024x200, .i32⟩
  | 32 => ⟨S1024x200, .i32⟩
  | 33 => ⟨S1024x200, .i32⟩
  | 34 => ⟨S1024x200x1, .i32⟩
  | 35 => ⟨S1024x200x32, .f32⟩
  | 36 => ⟨S1024x200x1, .i32⟩
  | 37 => ⟨S1024x200, .i32⟩
  | 38 => ⟨S_, .i32⟩
  | 39 => ⟨S1024x200, .i32⟩
  | 40 => ⟨S1024x200, .i1⟩
  | 41 => ⟨S_, .i32⟩
  | 42 => ⟨S1024x200, .i32⟩
  | 43 => ⟨S1024x200, .i32⟩
  | 44 => ⟨S1024x200, .i32⟩
  | 45 => ⟨S1024x200x1, .i32⟩
  | 46 => ⟨S1024x200x32, .f32⟩
  | 47 => ⟨S1024x200x1, .i32⟩
  | 48 => ⟨S1024x200, .i32⟩
  | 49 => ⟨S_, .i32⟩
  | 50 => ⟨S1024x200, .i32⟩
  | 51 => ⟨S1024x200, .i1⟩
  | 52 => ⟨S_, .i32⟩
  | 53 => ⟨S1024x200, .i32⟩
  | 54 => ⟨S1024x200, .i32⟩
  | 55 => ⟨S1024x200, .i32⟩
  | 56 => ⟨S1024x200x1, .i32⟩
  | 57 => ⟨S1024x200x5, .f32⟩
  | 58 => ⟨S1024x200x1, .i32⟩
  | 59 => ⟨S1024x200, .i32⟩
  | 60 => ⟨S_, .i32⟩
  | 61 => ⟨S1024x200, .i32⟩
  | 62 => ⟨S1024x200, .i1⟩
  | 63 => ⟨S_, .i32⟩
  | 64 => ⟨S1024x200, .i32⟩
  | 65 => ⟨S1024x200, .i32⟩
  | 66 => ⟨S1024x200, .i32⟩
  | 67 => ⟨S1024x200x1, .i32⟩
  | 68 => ⟨S1024x200x4, .f32⟩
  | 69 => ⟨S1024x200x6, .i32⟩
  | 70 => ⟨S_, .i32⟩
  | 71 => ⟨S1024x200x6, .i32⟩
  | 72 => ⟨S1024x200x6, .i1⟩
  | 73 => ⟨S_, .i32⟩
  | 74 => ⟨S1024x200x6, .i32⟩
  | 75 => ⟨S1024x200x6, .i32⟩
  | 76 => ⟨S1024x200x6, .i32⟩
  | 77 => ⟨S1024x200x6x1, .i32⟩
  | 78 => ⟨S1024x200x6x16, .f32⟩
  | 79 => ⟨S1x1x6x16, .f32⟩
  | 80 => ⟨S1024x200x6x16, .f32⟩
  | 81 => ⟨S1024x200x6x16, .f32⟩
  | 82 => ⟨S_, .f32⟩
  | 83 => ⟨S1024x200x16, .f32⟩
  | 84 => ⟨S1024x200x1, .i32⟩
  | 85 => ⟨S1024x200, .i32⟩
  | 86 => ⟨S_, .i32⟩
  | 87 => ⟨S1024x200, .i32⟩
  | 88 => ⟨S1024x200, .i1⟩
  | 89 => ⟨S_, .i32⟩
  | 90 => ⟨S1024x200, .i32⟩
  | 91 => ⟨S1024x200, .i32⟩
  | 92 => ⟨S1024x200, .i32⟩
  | 93 => ⟨S1024x200x1, .i32⟩
  | 94 => ⟨S1024x200x16, .f32⟩
  | 95 => ⟨S1024x200x1, .i32⟩
  | 96 => ⟨S1024x200, .i32⟩
  | 97 => ⟨S_, .i32⟩
  | 98 => ⟨S1024x200, .i32⟩
  | 99 => ⟨S1024x200, .i1⟩
  | 100 => ⟨S_, .i32⟩
  | 101 => ⟨S1024x200, .i32⟩
  | 102 => ⟨S1024x200, .i32⟩
  | 103 => ⟨S1024x200, .i32⟩
  | 104 => ⟨S1024x200x1, .i32⟩
  | 105 => ⟨S1024x200x16, .f32⟩
  | 106 => ⟨S1024x200x121, .f32⟩
  | 107 => ⟨S1024x200x8, .f32⟩
  | 108 => ⟨S_, .f32⟩
  | 109 => ⟨S8, .f32⟩
  | 110 => ⟨S_, .f32⟩
  | 111 => ⟨S8, .f32⟩
  | 112 => ⟨S8, .f32⟩
  | 113 => ⟨S1x1x8, .f32⟩
  | 114 => ⟨S1024x200x8, .f32⟩
  | 115 => ⟨S1024x200x8, .f32⟩
  | 116 => ⟨S1024x200x8, .f32⟩
  | 117 => ⟨S_, .f32⟩
  | 118 => ⟨S8, .f32⟩
  | 119 => ⟨S_, .f32⟩
  | 120 => ⟨S8, .f32⟩
  | 121 => ⟨S8, .f32⟩
  | 122 => ⟨S1x1x8, .f32⟩
  | 123 => ⟨S1024x200x8, .f32⟩
  | 124 => ⟨S1024x200x8, .f32⟩
  | 125 => ⟨S_, .f32⟩
  | 126 => ⟨S8, .f32⟩
  | 127 => ⟨S8, .f32⟩
  | _ => ⟨S1024x200x20, .f32⟩

abbrev hbmTy0_1 (i : Nat) : BufTy := match i % 128 with
  | 0 => ⟨S8, .f32⟩
  | 1 => ⟨S1x1x8, .f32⟩
  | 2 => ⟨S1024x200x8, .f32⟩
  | 3 => ⟨S1024x200x8, .f32⟩
  | 4 => ⟨S1x1x8, .f32⟩
  | 5 => ⟨S1024x200x8, .f32⟩
  | 6 => ⟨S1024x200x8, .f32⟩
  | 7 => ⟨S1x1x8, .f32⟩
  | 8 => ⟨S1024x200x8, .f32⟩
  | 9 => ⟨S1024x200x8, .f32⟩
  | 10 => ⟨S1x1x8, .f32⟩
  | 11 => ⟨S1024x200x8, .f32⟩
  | 12 => ⟨S1024x200x8, .f32⟩
  | 13 => ⟨S1024x200x129, .f32⟩
  | 14 => ⟨S_, .f32⟩
  | 15 => ⟨S1024x512, .f32⟩
  | 16 => ⟨S200x1024x129, .f32⟩
  | 17 => ⟨S_, .i32⟩
  | 18 => ⟨S200x1024x129, .f32⟩
  | 19 => ⟨S2048x129, .f32⟩
  | 20 => ⟨S2048x512, .f32⟩
  | 21 => ⟨S2048, .f32⟩
  | 22 => ⟨S2048, .f32⟩
  | 23 => ⟨S_, .i32⟩
  | 24 => ⟨S1024x512, .f32⟩
  | 25 => ⟨S1024x512, .f32⟩
  | 26 => ⟨S_, .i32⟩
  | 27 => ⟨S_, .i1⟩
  | 28 => ⟨S_, .i32⟩
  | 29 => ⟨S_, .i32⟩
  | 30 => ⟨S1x1024x129, .f32⟩
  | 31 => ⟨S1024x129, .f32⟩
  | 32 => ⟨S129x2048, .f32⟩
  | 33 => ⟨S1024x2048, .f32⟩
  | 34 => ⟨S512x2048, .f32⟩
  | 35 => ⟨S1024x2048, .f32⟩
  | 36 => ⟨S1024x2048, .f32⟩
  | 37 => ⟨S1x2048, .f32⟩
  | 38 => ⟨S1024x2048, .f32⟩
  | 39 => ⟨S1024x2048, .f32⟩
  | 40 => ⟨S1x2048, .f32⟩
  | 41 => ⟨S1024x2048, .f32⟩
  | 42 => ⟨S1024x2048, .f32⟩
  | 43 => ⟨S1024x512, .f32⟩
  | 44 => ⟨S1024x512, .f32⟩
  | 45 => ⟨S1024x512, .f32⟩
  | 46 => ⟨S1024x512, .f32⟩
  | 47 => ⟨S1024x512, .f32⟩
  | 48 => ⟨S1024x512, .f32⟩
  | 49 => ⟨S_, .f32⟩
  | 50 => ⟨S1024x512, .f32⟩
  | 51 => ⟨S1024x512, .f32⟩
  | 52 => ⟨S_, .f32⟩
  | 53 => ⟨S1024x512, .f32⟩
  | 54 => ⟨S1024x512, .f32⟩
  | 55 => ⟨S1024x512, .f32⟩
  | 56 => ⟨S1024x512, .f32⟩
  | 57 => ⟨S_, .f32⟩
  | 58 => ⟨S1024x512, .f32⟩
  | 59 => ⟨S1024x512, .f32⟩
  | 60 => ⟨S_, .f32⟩
  | 61 => ⟨S1024x512, .f32⟩
  | 62 => ⟨S1024x512, .f32⟩
  | 63 => ⟨S1024x512, .f32⟩
  | 64 => ⟨S1024x512, .f32⟩
  | 65 => ⟨S1024x512, .f32⟩
  | 66 => ⟨S_, .f32⟩
  | 67 => ⟨S1024x512, .f32⟩
  | 68 => ⟨S1024x512, .f32⟩
  | 69 => ⟨S_, .f32⟩
  | 70 => ⟨S1024x512, .f32⟩
  | 71 => ⟨S1024x512, .f32⟩
  | 72 => ⟨S1024x512, .f32⟩
  | 73 => ⟨S1024x512, .f32⟩
  | 74 => ⟨S1024x512, .f32⟩
  | 75 => ⟨S1024x512, .f32⟩
  | 76 => ⟨S1024x512, .f32⟩
  | 77 => ⟨S_, .i32⟩
  | 78 => ⟨S_, .i32⟩
  | 79 => ⟨S_, .f32⟩
  | 80 => ⟨S512, .f32⟩
  | 81 => ⟨S_, .f32⟩
  | 82 => ⟨S512, .f32⟩
  | 83 => ⟨S512, .f32⟩
  | 84 => ⟨S1x512, .f32⟩
  | 85 => ⟨S1024x512, .f32⟩
  | 86 => ⟨S1024x512, .f32⟩
  | 87 => ⟨S1024x512, .f32⟩
  | 88 => ⟨S_, .f32⟩
  | 89 => ⟨S512, .f32⟩
  | 90 => ⟨S_, .f32⟩
  | 91 => ⟨S512, .f32⟩
  | 92 => ⟨S512, .f32⟩
  | 93 => ⟨S1x512, .f32⟩
  | 94 => ⟨S1024x512, .f32⟩
  | 95 => ⟨S1024x512, .f32⟩
  | 96 => ⟨S_, .f32⟩
  | 97 => ⟨S512, .f32⟩
  | 98 => ⟨S512, .f32⟩
  | 99 => ⟨S512, .f32⟩
  | 100 => ⟨S1x512, .f32⟩
  | 101 => ⟨S1024x512, .f32⟩
  | 102 => ⟨S1024x512, .f32⟩
  | 103 => ⟨S1x512, .f32⟩
  | 104 => ⟨S1024x512, .f32⟩
  | 105 => ⟨S1024x512, .f32⟩
  | 106 => ⟨S1x512, .f32⟩
  | 107 => ⟨S1024x512, .f32⟩
  | 108 => ⟨S1024x512, .f32⟩
  | 109 => ⟨S512x256, .f32⟩
  | 110 => ⟨S1024x256, .f32⟩
  | 111 => ⟨S1x256, .f32⟩
  | 112 => ⟨S1024x256, .f32⟩
  | 113 => ⟨S1024x256, .f32⟩
  | 114 => ⟨S_, .f32⟩
  | 115 => ⟨S1024x256, .f32⟩
  | 116 => ⟨S1024x256, .f32⟩
  | 117 => ⟨S_, .f32⟩
  | 118 => ⟨S256, .f32⟩
  | 119 => ⟨S_, .f32⟩
  | 120 => ⟨S256, .f32⟩
  | 121 => ⟨S256, .f32⟩
  | 122 => ⟨S1x256, .f32⟩
  | 123 => ⟨S1024x256, .f32⟩
  | 124 => ⟨S1024x256, .f32⟩
  | 125 => ⟨S1024x256, .f32⟩
  | 126 => ⟨S_, .f32⟩
  | 127 => ⟨S256, .f32⟩
  | _ => ⟨S1024x200x20, .f32⟩

abbrev hbmTy0_2 (i : Nat) : BufTy := match i % 128 with
  | 0 => ⟨S_, .f32⟩
  | 1 => ⟨S256, .f32⟩
  | 2 => ⟨S256, .f32⟩
  | 3 => ⟨S1x256, .f32⟩
  | 4 => ⟨S1024x256, .f32⟩
  | 5 => ⟨S1024x256, .f32⟩
  | 6 => ⟨S_, .f32⟩
  | 7 => ⟨S256, .f32⟩
  | 8 => ⟨S256, .f32⟩
  | 9 => ⟨S256, .f32⟩
  | 10 => ⟨S1x256, .f32⟩
  | 11 => ⟨S1024x256, .f32⟩
  | 12 => ⟨S1024x256, .f32⟩
  | 13 => ⟨S1x256, .f32⟩
  | 14 => ⟨S1024x256, .f32⟩
  | 15 => ⟨S1024x256, .f32⟩
  | 16 => ⟨S1x256, .f32⟩
  | 17 => ⟨S1024x256, .f32⟩
  | 18 => ⟨S1024x256, .f32⟩
  | 19 => ⟨S256x1, .f32⟩
  | 20 => ⟨S1024x1, .f32⟩
  | 21 => ⟨S1x1, .f32⟩
  | 22 => ⟨S1024x1, .f32⟩
  | 23 => ⟨S1024x1, .f32⟩
  | 24 => ⟨S1024, .f32⟩
  | _ => ⟨S1024x200x20, .f32⟩

abbrev hbmTy (i : Nat) : BufTy := match i / 128 with
  | 0 => hbmTy0_0 i
  | 1 => hbmTy0_1 i
  | 2 => hbmTy0_2 i
  | _ => ⟨S1024x200x20, .f32⟩

abbrev bufTy : (tb : Table) → Fin (tcTables nBuf tb) → BufTy
  | .hbm, ⟨i, _⟩ => hbmTy i
  | _, _ => ⟨S1024x200x20, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_arg19 : Ref sig .tc := ⟨.hbm, 19, rfl⟩
abbrev main_arg20 : Ref sig .tc := ⟨.hbm, 20, rfl⟩
abbrev main_arg21 : Ref sig .tc := ⟨.hbm, 21, rfl⟩
abbrev main_arg22 : Ref sig .tc := ⟨.hbm, 22, rfl⟩
abbrev main_arg23 : Ref sig .tc := ⟨.hbm, 23, rfl⟩
abbrev main_v0 : Ref sig .tc := ⟨.hbm, 24, rfl⟩
abbrev main_v1 : Ref sig .tc := ⟨.hbm, 25, rfl⟩
abbrev main_v2 : Ref sig .tc := ⟨.hbm, 26, rfl⟩
abbrev main_c : Ref sig .tc := ⟨.hbm, 27, rfl⟩
abbrev main_v3 : Ref sig .tc := ⟨.hbm, 28, rfl⟩
abbrev main_v4 : Ref sig .tc := ⟨.hbm, 29, rfl⟩
abbrev main_c_0 : Ref sig .tc := ⟨.hbm, 30, rfl⟩
abbrev main_v5 : Ref sig .tc := ⟨.hbm, 31, rfl⟩
abbrev main_v6 : Ref sig .tc := ⟨.hbm, 32, rfl⟩
abbrev main_v7 : Ref sig .tc := ⟨.hbm, 33, rfl⟩
abbrev main_v8 : Ref sig .tc := ⟨.hbm, 34, rfl⟩
abbrev main_v9 : Ref sig .tc := ⟨.hbm, 35, rfl⟩
abbrev main_v10 : Ref sig .tc := ⟨.hbm, 36, rfl⟩
abbrev main_v11 : Ref sig .tc := ⟨.hbm, 37, rfl⟩
abbrev main_c_1 : Ref sig .tc := ⟨.hbm, 38, rfl⟩
abbrev main_v12 : Ref sig .tc := ⟨.hbm, 39, rfl⟩
abbrev main_v13 : Ref sig .tc := ⟨.hbm, 40, rfl⟩
abbrev main_c_2 : Ref sig .tc := ⟨.hbm, 41, rfl⟩
abbrev main_v14 : Ref sig .tc := ⟨.hbm, 42, rfl⟩
abbrev main_v15 : Ref sig .tc := ⟨.hbm, 43, rfl⟩
abbrev main_v16 : Ref sig .tc := ⟨.hbm, 44, rfl⟩
abbrev main_v17 : Ref sig .tc := ⟨.hbm, 45, rfl⟩
abbrev main_v18 : Ref sig .tc := ⟨.hbm, 46, rfl⟩
abbrev main_v19 : Ref sig .tc := ⟨.hbm, 47, rfl⟩
abbrev main_v20 : Ref sig .tc := ⟨.hbm, 48, rfl⟩
abbrev main_c_3 : Ref sig .tc := ⟨.hbm, 49, rfl⟩
abbrev main_v21 : Ref sig .tc := ⟨.hbm, 50, rfl⟩
abbrev main_v22 : Ref sig .tc := ⟨.hbm, 51, rfl⟩
abbrev main_c_4 : Ref sig .tc := ⟨.hbm, 52, rfl⟩
abbrev main_v23 : Ref sig .tc := ⟨.hbm, 53, rfl⟩
abbrev main_v24 : Ref sig .tc := ⟨.hbm, 54, rfl⟩
abbrev main_v25 : Ref sig .tc := ⟨.hbm, 55, rfl⟩
abbrev main_v26 : Ref sig .tc := ⟨.hbm, 56, rfl⟩
abbrev main_v27 : Ref sig .tc := ⟨.hbm, 57, rfl⟩
abbrev main_v28 : Ref sig .tc := ⟨.hbm, 58, rfl⟩
abbrev main_v29 : Ref sig .tc := ⟨.hbm, 59, rfl⟩
abbrev main_c_5 : Ref sig .tc := ⟨.hbm, 60, rfl⟩
abbrev main_v30 : Ref sig .tc := ⟨.hbm, 61, rfl⟩
abbrev main_v31 : Ref sig .tc := ⟨.hbm, 62, rfl⟩
abbrev main_c_6 : Ref sig .tc := ⟨.hbm, 63, rfl⟩
abbrev main_v32 : Ref sig .tc := ⟨.hbm, 64, rfl⟩
abbrev main_v33 : Ref sig .tc := ⟨.hbm, 65, rfl⟩
abbrev main_v34 : Ref sig .tc := ⟨.hbm, 66, rfl⟩
abbrev main_v35 : Ref sig .tc := ⟨.hbm, 67, rfl⟩
abbrev main_v36 : Ref sig .tc := ⟨.hbm, 68, rfl⟩
abbrev main_v37 : Ref sig .tc := ⟨.hbm, 69, rfl⟩
abbrev main_c_7 : Ref sig .tc := ⟨.hbm, 70, rfl⟩
abbrev main_v38 : Ref sig .tc := ⟨.hbm, 71, rfl⟩
abbrev main_v39 : Ref sig .tc := ⟨.hbm, 72, rfl⟩
abbrev main_c_8 : Ref sig .tc := ⟨.hbm, 73, rfl⟩
abbrev main_v40 : Ref sig .tc := ⟨.hbm, 74, rfl⟩
abbrev main_v41 : Ref sig .tc := ⟨.hbm, 75, rfl⟩
abbrev main_v42 : Ref sig .tc := ⟨.hbm, 76, rfl⟩
abbrev main_v43 : Ref sig .tc := ⟨.hbm, 77, rfl⟩
abbrev main_v44 : Ref sig .tc := ⟨.hbm, 78, rfl⟩
abbrev main_v45 : Ref sig .tc := ⟨.hbm, 79, rfl⟩
abbrev main_v46 : Ref sig .tc := ⟨.hbm, 80, rfl⟩
abbrev main_v47 : Ref sig .tc := ⟨.hbm, 81, rfl⟩
abbrev main_cst : Ref sig .tc := ⟨.hbm, 82, rfl⟩
abbrev main_v48 : Ref sig .tc := ⟨.hbm, 83, rfl⟩
abbrev main_v49 : Ref sig .tc := ⟨.hbm, 84, rfl⟩
abbrev main_v50 : Ref sig .tc := ⟨.hbm, 85, rfl⟩
abbrev main_c_9 : Ref sig .tc := ⟨.hbm, 86, rfl⟩
abbrev main_v51 : Ref sig .tc := ⟨.hbm, 87, rfl⟩
abbrev main_v52 : Ref sig .tc := ⟨.hbm, 88, rfl⟩
abbrev main_c_10 : Ref sig .tc := ⟨.hbm, 89, rfl⟩
abbrev main_v53 : Ref sig .tc := ⟨.hbm, 90, rfl⟩
abbrev main_v54 : Ref sig .tc := ⟨.hbm, 91, rfl⟩
abbrev main_v55 : Ref sig .tc := ⟨.hbm, 92, rfl⟩
abbrev main_v56 : Ref sig .tc := ⟨.hbm, 93, rfl⟩
abbrev main_v57 : Ref sig .tc := ⟨.hbm, 94, rfl⟩
abbrev main_v58 : Ref sig .tc := ⟨.hbm, 95, rfl⟩
abbrev main_v59 : Ref sig .tc := ⟨.hbm, 96, rfl⟩
abbrev main_c_11 : Ref sig .tc := ⟨.hbm, 97, rfl⟩
abbrev main_v60 : Ref sig .tc := ⟨.hbm, 98, rfl⟩
abbrev main_v61 : Ref sig .tc := ⟨.hbm, 99, rfl⟩
abbrev main_c_12 : Ref sig .tc := ⟨.hbm, 100, rfl⟩
abbrev main_v62 : Ref sig .tc := ⟨.hbm, 101, rfl⟩
abbrev main_v63 : Ref sig .tc := ⟨.hbm, 102, rfl⟩
abbrev main_v64 : Ref sig .tc := ⟨.hbm, 103, rfl⟩
abbrev main_v65 : Ref sig .tc := ⟨.hbm, 104, rfl⟩
abbrev main_v66 : Ref sig .tc := ⟨.hbm, 105, rfl⟩
abbrev main_v67 : Ref sig .tc := ⟨.hbm, 106, rfl⟩
abbrev main_v68 : Ref sig .tc := ⟨.hbm, 107, rfl⟩
abbrev main_cst_13 : Ref sig .tc := ⟨.hbm, 108, rfl⟩
abbrev main_v69 : Ref sig .tc := ⟨.hbm, 109, rfl⟩
abbrev main_cst_14 : Ref sig .tc := ⟨.hbm, 110, rfl⟩
abbrev main_v70 : Ref sig .tc := ⟨.hbm, 111, rfl⟩
abbrev main_v71 : Ref sig .tc := ⟨.hbm, 112, rfl⟩
abbrev main_v72 : Ref sig .tc := ⟨.hbm, 113, rfl⟩
abbrev main_v73 : Ref sig .tc := ⟨.hbm, 114, rfl⟩
abbrev main_v74 : Ref sig .tc := ⟨.hbm, 115, rfl⟩
abbrev main_v75 : Ref sig .tc := ⟨.hbm, 116, rfl⟩
abbrev main_cst_15 : Ref sig .tc := ⟨.hbm, 117, rfl⟩
abbrev main_v76 : Ref sig .tc := ⟨.hbm, 118, rfl⟩
abbrev main_cst_16 : Ref sig .tc := ⟨.hbm, 119, rfl⟩
abbrev main_v77 : Ref sig .tc := ⟨.hbm, 120, rfl⟩
abbrev main_v78 : Ref sig .tc := ⟨.hbm, 121, rfl⟩
abbrev main_v79 : Ref sig .tc := ⟨.hbm, 122, rfl⟩
abbrev main_v80 : Ref sig .tc := ⟨.hbm, 123, rfl⟩
abbrev main_v81 : Ref sig .tc := ⟨.hbm, 124, rfl⟩
abbrev main_cst_17 : Ref sig .tc := ⟨.hbm, 125, rfl⟩
abbrev main_v82 : Ref sig .tc := ⟨.hbm, 126, rfl⟩
abbrev main_v83 : Ref sig .tc := ⟨.hbm, 127, rfl⟩
abbrev main_v84 : Ref sig .tc := ⟨.hbm, 128, rfl⟩
abbrev main_v85 : Ref sig .tc := ⟨.hbm, 129, rfl⟩
abbrev main_v86 : Ref sig .tc := ⟨.hbm, 130, rfl⟩
abbrev main_v87 : Ref sig .tc := ⟨.hbm, 131, rfl⟩
abbrev main_v88 : Ref sig .tc := ⟨.hbm, 132, rfl⟩
abbrev main_v89 : Ref sig .tc := ⟨.hbm, 133, rfl⟩
abbrev main_v90 : Ref sig .tc := ⟨.hbm, 134, rfl⟩
abbrev main_v91 : Ref sig .tc := ⟨.hbm, 135, rfl⟩
abbrev main_v92 : Ref sig .tc := ⟨.hbm, 136, rfl⟩
abbrev main_v93 : Ref sig .tc := ⟨.hbm, 137, rfl⟩
abbrev main_v94 : Ref sig .tc := ⟨.hbm, 138, rfl⟩
abbrev main_v95 : Ref sig .tc := ⟨.hbm, 139, rfl⟩
abbrev main_v96 : Ref sig .tc := ⟨.hbm, 140, rfl⟩
abbrev main_v97 : Ref sig .tc := ⟨.hbm, 141, rfl⟩
abbrev main_cst_18 : Ref sig .tc := ⟨.hbm, 142, rfl⟩
abbrev main_v98 : Ref sig .tc := ⟨.hbm, 143, rfl⟩
abbrev main_v99 : Ref sig .tc := ⟨.hbm, 144, rfl⟩
abbrev main_c_19 : Ref sig .tc := ⟨.hbm, 145, rfl⟩
abbrev main_v100_0 : Ref sig .tc := ⟨.hbm, 146, rfl⟩
abbrev main_v100_1 : Ref sig .tc := ⟨.hbm, 147, rfl⟩
abbrev main_v100_2 : Ref sig .tc := ⟨.hbm, 148, rfl⟩
abbrev main_v100_3 : Ref sig .tc := ⟨.hbm, 149, rfl⟩
abbrev main_v100_4 : Ref sig .tc := ⟨.hbm, 150, rfl⟩
abbrev main_v100_5 : Ref sig .tc := ⟨.hbm, 151, rfl⟩
abbrev main_v100_6 : Ref sig .tc := ⟨.hbm, 152, rfl⟩
abbrev main_v100_7 : Ref sig .tc := ⟨.hbm, 153, rfl⟩
abbrev main_while0c_c_37 : Ref sig .tc := ⟨.hbm, 154, rfl⟩
abbrev main_while0c_v163 : Ref sig .tc := ⟨.hbm, 155, rfl⟩
abbrev main_while0b_call0_c : Ref sig .tc := ⟨.hbm, 156, rfl⟩
abbrev main_while0b_call0_c_0 : Ref sig .tc := ⟨.hbm, 157, rfl⟩
abbrev main_while0b_call0_v0 : Ref sig .tc := ⟨.hbm, 158, rfl⟩
abbrev main_while0b_v163 : Ref sig .tc := ⟨.hbm, 159, rfl⟩
abbrev main_while0b_v164 : Ref sig .tc := ⟨.hbm, 160, rfl⟩
abbrev main_while0b_v165 : Ref sig .tc := ⟨.hbm, 161, rfl⟩
abbrev main_while0b_v166 : Ref sig .tc := ⟨.hbm, 162, rfl⟩
abbrev main_while0b_v167 : Ref sig .tc := ⟨.hbm, 163, rfl⟩
abbrev main_while0b_v168 : Ref sig .tc := ⟨.hbm, 164, rfl⟩
abbrev main_while0b_v169 : Ref sig .tc := ⟨.hbm, 165, rfl⟩
abbrev main_while0b_v170 : Ref sig .tc := ⟨.hbm, 166, rfl⟩
abbrev main_while0b_v171 : Ref sig .tc := ⟨.hbm, 167, rfl⟩
abbrev main_while0b_v172 : Ref sig .tc := ⟨.hbm, 168, rfl⟩
abbrev main_while0b_v173 : Ref sig .tc := ⟨.hbm, 169, rfl⟩
abbrev main_while0b_v174 : Ref sig .tc := ⟨.hbm, 170, rfl⟩
abbrev main_while0b_v175 : Ref sig .tc := ⟨.hbm, 171, rfl⟩
abbrev main_while0b_v176 : Ref sig .tc := ⟨.hbm, 172, rfl⟩
abbrev main_while0b_v177 : Ref sig .tc := ⟨.hbm, 173, rfl⟩
abbrev main_while0b_v178 : Ref sig .tc := ⟨.hbm, 174, rfl⟩
abbrev main_while0b_v179 : Ref sig .tc := ⟨.hbm, 175, rfl⟩
abbrev main_while0b_v180 : Ref sig .tc := ⟨.hbm, 176, rfl⟩
abbrev main_while0b_cst_37 : Ref sig .tc := ⟨.hbm, 177, rfl⟩
abbrev main_while0b_v181 : Ref sig .tc := ⟨.hbm, 178, rfl⟩
abbrev main_while0b_v182 : Ref sig .tc := ⟨.hbm, 179, rfl⟩
abbrev main_while0b_cst_38 : Ref sig .tc := ⟨.hbm, 180, rfl⟩
abbrev main_while0b_v183 : Ref sig .tc := ⟨.hbm, 181, rfl⟩
abbrev main_while0b_v184 : Ref sig .tc := ⟨.hbm, 182, rfl⟩
abbrev main_while0b_v185 : Ref sig .tc := ⟨.hbm, 183, rfl⟩
abbrev main_while0b_v186 : Ref sig .tc := ⟨.hbm, 184, rfl⟩
abbrev main_while0b_cst_39 : Ref sig .tc := ⟨.hbm, 185, rfl⟩
abbrev main_while0b_v187 : Ref sig .tc := ⟨.hbm, 186, rfl⟩
abbrev main_while0b_v188 : Ref sig .tc := ⟨.hbm, 187, rfl⟩
abbrev main_while0b_cst_40 : Ref sig .tc := ⟨.hbm, 188, rfl⟩
abbrev main_while0b_v189 : Ref sig .tc := ⟨.hbm, 189, rfl⟩
abbrev main_while0b_v190 : Ref sig .tc := ⟨.hbm, 190, rfl⟩
abbrev main_while0b_v191 : Ref sig .tc := ⟨.hbm, 191, rfl⟩
abbrev main_while0b_v192 : Ref sig .tc := ⟨.hbm, 192, rfl⟩
abbrev main_while0b_v193 : Ref sig .tc := ⟨.hbm, 193, rfl⟩
abbrev main_while0b_cst_41 : Ref sig .tc := ⟨.hbm, 194, rfl⟩
abbrev main_while0b_v194 : Ref sig .tc := ⟨.hbm, 195, rfl⟩
abbrev main_while0b_v195 : Ref sig .tc := ⟨.hbm, 196, rfl⟩
abbrev main_while0b_cst_42 : Ref sig .tc := ⟨.hbm, 197, rfl⟩
abbrev main_while0b_v196 : Ref sig .tc := ⟨.hbm, 198, rfl⟩
abbrev main_while0b_v197 : Ref sig .tc := ⟨.hbm, 199, rfl⟩
abbrev main_while0b_v198 : Ref sig .tc := ⟨.hbm, 200, rfl⟩
abbrev main_while0b_v199 : Ref sig .tc := ⟨.hbm, 201, rfl⟩
abbrev main_while0b_v200 : Ref sig .tc := ⟨.hbm, 202, rfl⟩
abbrev main_while0b_v201 : Ref sig .tc := ⟨.hbm, 203, rfl⟩
abbrev main_while0b_v202 : Ref sig .tc := ⟨.hbm, 204, rfl⟩
abbrev main_while0b_c_43 : Ref sig .tc := ⟨.hbm, 205, rfl⟩
abbrev main_while0b_v203 : Ref sig .tc := ⟨.hbm, 206, rfl⟩
abbrev main_cst_20 : Ref sig .tc := ⟨.hbm, 207, rfl⟩
abbrev main_v101 : Ref sig .tc := ⟨.hbm, 208, rfl⟩
abbrev main_cst_21 : Ref sig .tc := ⟨.hbm, 209, rfl⟩
abbrev main_v102 : Ref sig .tc := ⟨.hbm, 210, rfl⟩
abbrev main_v103 : Ref sig .tc := ⟨.hbm, 211, rfl⟩
abbrev main_v104 : Ref sig .tc := ⟨.hbm, 212, rfl⟩
abbrev main_v105 : Ref sig .tc := ⟨.hbm, 213, rfl⟩
abbrev main_v106 : Ref sig .tc := ⟨.hbm, 214, rfl⟩
abbrev main_v107 : Ref sig .tc := ⟨.hbm, 215, rfl⟩
abbrev main_cst_22 : Ref sig .tc := ⟨.hbm, 216, rfl⟩
abbrev main_v108 : Ref sig .tc := ⟨.hbm, 217, rfl⟩
abbrev main_cst_23 : Ref sig .tc := ⟨.hbm, 218, rfl⟩
abbrev main_v109 : Ref sig .tc := ⟨.hbm, 219, rfl⟩
abbrev main_v110 : Ref sig .tc := ⟨.hbm, 220, rfl⟩
abbrev main_v111 : Ref sig .tc := ⟨.hbm, 221, rfl⟩
abbrev main_v112 : Ref sig .tc := ⟨.hbm, 222, rfl⟩
abbrev main_v113 : Ref sig .tc := ⟨.hbm, 223, rfl⟩
abbrev main_cst_24 : Ref sig .tc := ⟨.hbm, 224, rfl⟩
abbrev main_v114 : Ref sig .tc := ⟨.hbm, 225, rfl⟩
abbrev main_v115 : Ref sig .tc := ⟨.hbm, 226, rfl⟩
abbrev main_v116 : Ref sig .tc := ⟨.hbm, 227, rfl⟩
abbrev main_v117 : Ref sig .tc := ⟨.hbm, 228, rfl⟩
abbrev main_v118 : Ref sig .tc := ⟨.hbm, 229, rfl⟩
abbrev main_v119 : Ref sig .tc := ⟨.hbm, 230, rfl⟩
abbrev main_v120 : Ref sig .tc := ⟨.hbm, 231, rfl⟩
abbrev main_v121 : Ref sig .tc := ⟨.hbm, 232, rfl⟩
abbrev main_v122 : Ref sig .tc := ⟨.hbm, 233, rfl⟩
abbrev main_v123 : Ref sig .tc := ⟨.hbm, 234, rfl⟩
abbrev main_v124 : Ref sig .tc := ⟨.hbm, 235, rfl⟩
abbrev main_v125 : Ref sig .tc := ⟨.hbm, 236, rfl⟩
abbrev main_v126 : Ref sig .tc := ⟨.hbm, 237, rfl⟩
abbrev main_v127 : Ref sig .tc := ⟨.hbm, 238, rfl⟩
abbrev main_v128 : Ref sig .tc := ⟨.hbm, 239, rfl⟩
abbrev main_v129 : Ref sig .tc := ⟨.hbm, 240, rfl⟩
abbrev main_v130 : Ref sig .tc := ⟨.hbm, 241, rfl⟩
abbrev main_call1_cst : Ref sig .tc := ⟨.hbm, 242, rfl⟩
abbrev main_call1_v0 : Ref sig .tc := ⟨.hbm, 243, rfl⟩
abbrev main_v131 : Ref sig .tc := ⟨.hbm, 244, rfl⟩
abbrev main_cst_25 : Ref sig .tc := ⟨.hbm, 245, rfl⟩
abbrev main_v132 : Ref sig .tc := ⟨.hbm, 246, rfl⟩
abbrev main_cst_26 : Ref sig .tc := ⟨.hbm, 247, rfl⟩
abbrev main_v133 : Ref sig .tc := ⟨.hbm, 248, rfl⟩
abbrev main_v134 : Ref sig .tc := ⟨.hbm, 249, rfl⟩
abbrev main_v135 : Ref sig .tc := ⟨.hbm, 250, rfl⟩
abbrev main_v136 : Ref sig .tc := ⟨.hbm, 251, rfl⟩
abbrev main_v137 : Ref sig .tc := ⟨.hbm, 252, rfl⟩
abbrev main_v138 : Ref sig .tc := ⟨.hbm, 253, rfl⟩
abbrev main_cst_27 : Ref sig .tc := ⟨.hbm, 254, rfl⟩
abbrev main_v139 : Ref sig .tc := ⟨.hbm, 255, rfl⟩
abbrev main_cst_28 : Ref sig .tc := ⟨.hbm, 256, rfl⟩
abbrev main_v140 : Ref sig .tc := ⟨.hbm, 257, rfl⟩
abbrev main_v141 : Ref sig .tc := ⟨.hbm, 258, rfl⟩
abbrev main_v142 : Ref sig .tc := ⟨.hbm, 259, rfl⟩
abbrev main_v143 : Ref sig .tc := ⟨.hbm, 260, rfl⟩
abbrev main_v144 : Ref sig .tc := ⟨.hbm, 261, rfl⟩
abbrev main_cst_29 : Ref sig .tc := ⟨.hbm, 262, rfl⟩
abbrev main_v145 : Ref sig .tc := ⟨.hbm, 263, rfl⟩
abbrev main_v146 : Ref sig .tc := ⟨.hbm, 264, rfl⟩
abbrev main_v147 : Ref sig .tc := ⟨.hbm, 265, rfl⟩
abbrev main_v148 : Ref sig .tc := ⟨.hbm, 266, rfl⟩
abbrev main_v149 : Ref sig .tc := ⟨.hbm, 267, rfl⟩
abbrev main_v150 : Ref sig .tc := ⟨.hbm, 268, rfl⟩
abbrev main_v151 : Ref sig .tc := ⟨.hbm, 269, rfl⟩
abbrev main_v152 : Ref sig .tc := ⟨.hbm, 270, rfl⟩
abbrev main_v153 : Ref sig .tc := ⟨.hbm, 271, rfl⟩
abbrev main_v154 : Ref sig .tc := ⟨.hbm, 272, rfl⟩
abbrev main_v155 : Ref sig .tc := ⟨.hbm, 273, rfl⟩
abbrev main_v156 : Ref sig .tc := ⟨.hbm, 274, rfl⟩
abbrev main_v157 : Ref sig .tc := ⟨.hbm, 275, rfl⟩
abbrev main_v158 : Ref sig .tc := ⟨.hbm, 276, rfl⟩
abbrev main_v159 : Ref sig .tc := ⟨.hbm, 277, rfl⟩
abbrev main_v160 : Ref sig .tc := ⟨.hbm, 278, rfl⟩
abbrev main_v161 : Ref sig .tc := ⟨.hbm, 279, rfl⟩
abbrev main_v162 : Ref sig .tc := ⟨.hbm, 280, rfl⟩

abbrev nD : Nat := 1
abbrev τ : Topo := Topo.v7x

variable {F : FTy → Type} [FloatOps F]

abbrev main_while0_count : Scf.Loop 32 := ⟨0#32, 200#32, 1#32⟩
-- ==== Proof.KI.Lstm.lean ====
module

public import proofs.«01_k».proof.Proof.Gen.KernelIdeal.Launch
public import proofs.«01_k».proof.Proof.Gen.KernelIdeal.Skeleton
public import proofs.«01_k».proof.Proof.Gen.KernelIdeal.Points
public import Idealize.ShloMosaic.Lib.Pipeline.FrameBody
public import Idealize.ShloMosaic.Lib.Ring
public import Idealize.ShloMosaic.Lib.Pipeline.Value
public import Idealize.ShloMosaic.Lib.Tactic
public import Idealize.ShloMosaic.Lib.WordCmp
public import Idealize.ShloMosaic.Lib.WritesUnit
public import Idealize.ShloMosaic.Lib.VecWindow
public import Idealize.ShloMosaic.Lib.ValueIdx

@[expose] public section

set_option maxRecDepth 16384

noncomputable section

namespace Cert.KernelIdeal.Own

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.ValueIdx
open Idealize.ShloMosaic.Pipeline (Dat Cfg Window BodyObligation cellOf)

variable {F : FTy → Type} [FloatOps F]

local notation "𝕄" => MT nD τ sig Unit (Elt F) ℕ (UR sig nD τ) ℕ

/-- The first conditional of the recurrence body runs: the grid coordinate is zero. -/
abbrev first1 (i : grid1.Coords) : Prop := (Scalar.cmpi .ne (Scalar.extui (Scalar.cmpi .eq (BitVec.ofNat 32 (i 0).val) 0#32)) 0#32) = 1#1
/-- The second conditional of the recurrence body runs: the grid coordinate is the last one. -/
abbrev last1 (i : grid1.Coords) : Prop := k1_cond2 i = 1#1

/-- The last sixteen rows of the padded input weights. -/
abbrev rW : Rect S240x2048 := Rect.unit (s := S240x2048) ![224, 0] S16x2048.size inb_S240x2048_S16x2048_224_0
abbrev r32 : Rect S8x32 := Rect.unit (s := S8x32) ![0, 0] S1x32.size inb_S8x32_S1x32_0_0
abbrev r5 : Rect S8x5 := Rect.unit (s := S8x5) ![0, 0] S1x5.size inb_S8x5_S1x5_0_0
abbrev r4 : Rect S8x4 := Rect.unit (s := S8x4) ![0, 0] S1x4.size inb_S8x4_S1x4_0_0
abbrev r16 : Rect S8x16 := Rect.unit (s := S8x16) ![0, 0] S1x16.size inb_S8x16_S1x16_0_0

/-- The constant part of the gates: row `0` of each table through the padded weights, plus the bias. -/
def rowOf (y3 y4 : Vec F S8x32 .f32) (y5 : Vec F S8x5 .f32) (y6 : Vec F S8x4 .f32) (y7 y8 y9 : Vec F S8x16 .f32) (y10 : Vec F S240x2048 .f32) (y12 : Vec F S1x2048 .f32) : Vec F S1x2048 .f32 :=
  k1_pay7 (View.ld (Val := Elt F) y3 r32) (View.ld (Val := Elt F) y4 r32) (View.ld (Val := Elt F) y5 r5) (View.ld (Val := Elt F) y6 r4) (View.ld (Val := Elt F) y7 r16) (View.ld (Val := Elt F) y8 r16) (View.ld (Val := Elt F) y9 r16) y10 y12
/-- The hidden state after one step. -/
def hStep (x0 : Vec F S1x1024x16 .f32) (x1 x2 : Vec F S1x16 .f32) (x10 : Vec F S240x2048 .f32) (h : Vec F S1024x512 .f32) (x11 : Vec F S512x2048 .f32) (r : Vec F S1x2048 .f32) (cc : Vec F S1024x512 .f32) : Vec F S1024x512 .f32 :=
  k1_pay3 (k1_pay11 x0 x1 x2 (View.ld (Val := Elt F) x10 rW) h x11 r) (k1_pay13 x0 x1 x2 (View.ld (Val := Elt F) x10 rW) h x11 r cc)
/-- The cell state after one step. -/
def cStep (x0 : Vec F S1x1024x16 .f32) (x1 x2 : Vec F S1x16 .f32) (x10 : Vec F S240x2048 .f32) (h : Vec F S1024x512 .f32) (x11 : Vec F S512x2048 .f32) (r : Vec F S1x2048 .f32) (cc : Vec F S1024x512 .f32) : Vec F S1024x512 .f32 :=
  k1_pay2 (k1_pay12 x0 x1 x2 (View.ld (Val := Elt F) x10 rW) h x11 r cc)
/-- The product the last step hands to the tail (the new hidden state before its store's reshape). -/
def hRaw (x0 : Vec F S1x1024x16 .f32) (x1 x2 : Vec F S1x16 .f32) (x10 : Vec F S240x2048 .f32) (h : Vec F S1024x512 .f32) (x11 : Vec F S512x2048 .f32) (r : Vec F S1x2048 .f32) (cc : Vec F S1024x512 .f32) : Vec F S1024x512 .f32 :=
  k1_pay1 (k1_pay11 x0 x1 x2 (View.ld (Val := Elt F) x10 rW) h x11 r) (k1_pay13 x0 x1 x2 (View.ld (Val := Elt F) x10 rW) h x11 r cc)
/-- The tail: two normalizations, the hidden layer and the output. -/
def tailOf (v : Vec F S1024x512 .f32) (x13 x14 : Vec F S1x512 .f32) (x15 : Vec F S512x256 .f32) (x16 x17 x18 x19 : Vec F S1x256 .f32) (x20 : Vec F S1x1 .f32) : Vec F S1024x1 .f32 :=
  k1_pay4 (k1_pay8 v x13 x14 x15 x16) (k1_pay9 v x13 x14 x15 x16) x17 x18 x19 x20

set_option maxHeartbeats 4000000 in
/-- One step of the recurrence strictly between the first and the last. -/
theorem run1B (c : Dev nD) (i : grid1.Coords) (arg1 : Memref sig .tc .vmem S1x1024x16 .f32) (harg1 : arg1.IsWhole) (arg2 : Memref sig .tc .vmem S1x16 .f32) (harg2 : arg2.IsWhole) (arg3 : Memref sig .tc .vmem S1x16 .f32) (harg3 : arg3.IsWhole) (arg4 : Memref sig .tc .vmem S8x32 .f32) (harg4 : arg4.IsWhole) (arg5 : Memref sig .tc .vmem S8x32 .f32) (harg5 : arg5.IsWhole) (arg6 : Memref sig .tc .vmem S8x5 .f32) (harg6 : arg6.IsWhole) (arg7 : Memref sig .tc .vmem S8x4 .f32) (harg7 : arg7.IsWhole) (arg8 : Memref sig .tc .vmem S8x16 .f32) (harg8 : arg8.IsWhole) (arg9 : Memref sig .tc .vmem S8x16 .f32) (harg9 : arg9.IsWhole) (arg10 : Memref sig .tc .vmem S8x16 .f32) (harg10 : arg10.IsWhole) (arg11 : Memref sig .tc .vmem S240x2048 .f32) (harg11 : arg11.IsWhole) (arg12 : Memref sig .tc .vmem S512x2048 .f32) (harg12 : arg12.IsWhole) (arg13 : Memref sig .tc .vmem S1x2048 .f32) (harg13 : arg13.IsWhole) (arg14 : Memref sig .tc .vmem S1x512 .f32) (harg14 : arg14.IsWhole) (arg15 : Memref sig .tc .vmem S1x512 .f32) (harg15 : arg15.IsWhole) (arg16 : Memref sig .tc .vmem S512x256 .f32) (harg16 : arg16.IsWhole) (arg17 : Memref sig .tc .vmem S1x256 .f32) (harg17 : arg17.IsWhole) (arg18 : Memref sig .tc .vmem S1x256 .f32) (harg18 : arg18.IsWhole) (arg19 : Memref sig .tc .vmem S1x256 .f32) (harg19 : arg19.IsWhole) (arg20 : Memref sig .tc .vmem S1x256 .f32) (harg20 : arg20.IsWhole) (arg21 : Memref sig .tc .vmem S1x1 .f32) (harg21 : arg21.IsWhole) (arg22 : Memref sig .tc .vmem S1024x1 .f32) (harg22 : arg22.IsWhole) (arg23 : Memref sig .tc .vmem S1024x512 .f32) (harg23 : arg23.IsWhole) (arg24 : Memref sig .tc .vmem S1024x512 .f32) (harg24 : arg24.IsWhole) (arg25 : Memref sig .tc .vmem S1x2048 .f32) (harg25 : arg25.IsWhole) (hc0 : ¬first1 i) (hc1 : ¬last1 i)
    (x0 : Vec F S1x1024x16 .f32)    (x1 : Vec F S1x16 .f32)    (x2 : Vec F S1x16 .f32)    (x10 : Vec F S240x2048 .f32)    (x11 : Vec F S512x2048 .f32) (h cc : Vec F S1024x512 .f32) (r : Vec F S1x2048 .f32)
      (E : Set ℕ) (K : PUnit → sProp 𝕄) :
        iprop(owns (c : Thread nD τ) arg1 fullShare x0 ∗ owns (c : Thread nD τ) arg2 fullShare x1 ∗ owns (c : Thread nD τ) arg3 fullShare x2 ∗ owns (c : Thread nD τ) arg11 fullShare x10 ∗ owns (c : Thread nD τ) arg12 fullShare x11
            ∗ owns (c : Thread nD τ) arg23 fullShare h ∗ owns (c : Thread nD τ) arg24 fullShare cc ∗ owns (c : Thread nD τ) arg25 fullShare r
            ∗ (iprop(owns (c : Thread nD τ) arg1 fullShare x0 ∗ owns (c : Thread nD τ) arg2 fullShare x1 ∗ owns (c : Thread nD τ) arg3 fullShare x2 ∗ owns (c : Thread nD τ) arg11 fullShare x10 ∗ owns (c : Thread nD τ) arg12 fullShare x11
                ∗ owns (c : Thread nD τ) arg23 fullShare (hStep x0 x1 x2 x10 h x11 r cc) ∗ owns (c : Thread nD τ) arg24 fullShare (cStep x0 x1 x2 x10 h x11 r cc) ∗ owns (c : Thread nD τ) arg25 fullShare (r)) -∗ K ⟨⟩))
          ⊢ wp frame (wpE (defs₀ (F := F)) Variants.none c none) E (cc1__lstm_body i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25) K := by
    simp only [cc1__lstm_body_eq_skeleton]; unfold cc1__lstm_body_skel
    simp only [k1_part3_eq_skeleton, k1_part1_eq_skeleton, k1_part2_eq_skeleton]
    unfold owns
    iintro ⟨⟨%f0, %hf0, H0⟩, ⟨%f1, %hf1, H1⟩, ⟨%f2, %hf2, H2⟩, ⟨%f10, %hf10, H10⟩, ⟨%f11, %hf11, H11⟩, ⟨%fs23, %hfs23, HS23⟩, ⟨%fs24, %hfs24, HS24⟩, ⟨%fs25, %hfs25, HS25⟩, Hk⟩
    obtain rfl := harg1.eq_unread hf0; obtain rfl := harg2.eq_unread hf1; obtain rfl := harg3.eq_unread hf2; obtain rfl := harg11.eq_unread hf10; obtain rfl := harg12.eq_unread hf11
    obtain rfl := harg23.eq_unread hfs23
    obtain rfl := harg24.eq_unread hfs24
    obtain rfl := harg25.eq_unread hfs25
    sl_exec (disch := first | sl_exact hc0 | sl_exact hc1)
    sl_step
    have e1 : View.readAt (Elt F) arg1.view (Rect.unit ![0, 0, 0] S1x1024x16.size inb_S1x1024x16_S1x1024x16_0_0_0).toLoadRect (harg1.unread x0) = x0 := (View.readAt_full _ _ _).trans (harg1.read_unread _)
    have e2 : View.readAt (Elt F) arg2.view (Rect.unit ![0, 0] S1x16.size inb_S1x16_S1x16_0_0).toLoadRect (harg2.unread x1) = x1 := (View.readAt_full _ _ _).trans (harg2.read_unread _)
    have e3 : View.readAt (Elt F) arg3.view (Rect.unit ![0, 0] S1x16.size inb_S1x16_S1x16_0_0).toLoadRect (harg3.unread x2) = x2 := (View.readAt_full _ _ _).trans (harg3.read_unread _)
    have e11 : View.readAt (Elt F) arg11.view (Rect.unit ![0, 0] S240x2048.size inb_S240x2048_S240x2048_0_0).toLoadRect (harg11.unread x10) = x10 := (View.readAt_full _ _ _).trans (harg11.read_unread _)
    have e11' : View.readAt (Elt F) arg11.view rW.toLoadRect (harg11.unread x10) = View.ld (Val := Elt F) x10 rW := by rw [View.readAt_eq_ld, harg11.read_unread]
    have e12 : View.readAt (Elt F) arg12.view (Rect.unit ![0, 0] S512x2048.size inb_S512x2048_S512x2048_0_0).toLoadRect (harg12.unread x11) = x11 := (View.readAt_full _ _ _).trans (harg12.read_unread _)
    have e23 : View.readAt (Elt F) arg23.view (Rect.unit ![0, 0] S1024x512.size inb_S1024x512_S1024x512_0_0).toLoadRect (harg23.unread h) = h := (View.readAt_full _ _ _).trans (harg23.read_unread _)
    have e24 : View.readAt (Elt F) arg24.view (Rect.unit ![0, 0] S1024x512.size inb_S1024x512_S1024x512_0_0).toLoadRect (harg24.unread cc) = cc := (View.readAt_full _ _ _).trans (harg24.read_unread _)
    have e25 : View.readAt (Elt F) arg25.view (Rect.unit ![0, 0] S1x2048.size inb_S1x2048_S1x2048_0_0).toLoadRect (harg25.unread r) = r := (View.readAt_full _ _ _).trans (harg25.read_unread _)
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H10]
    · iexists _; isplitr; · ipureintro; exact harg11.read_unread _
      iexact H10
    isplitl [H11]
    · iexists _; isplitr; · ipureintro; exact harg12.read_unread _
      iexact H11
    isplitl [HS23]
    · iexists _; isplitr
      swap; · iexact HS23
      ipureintro
      refine (View.read_writes_full _ _ _ _ _).trans ?_
      unfold hStep
      delta run1B.sl.r
      delta run1B.sl.r_2
      simp only [e1, e2, e3, e11', e12, e23, e25, e24]
    isplitl [HS24]
    · iexists _; isplitr
      swap; · iexact HS24
      ipureintro
      refine (View.read_writes_full _ _ _ _ _).trans ?_
      unfold cStep
      delta run1B.sl.r_1
      simp only [e1, e2, e3, e11', e12, e23, e25, e24]
    iexists _; isplitr
    swap; · iexact HS25
    ipureintro
    exact harg25.read_unread _

set_option maxHeartbeats 4000000 in
/-- The first step of the recurrence: the states start at zero and the constant part of the gates is computed. -/
theorem run1A (c : Dev nD) (i : grid1.Coords) (arg1 : Memref sig .tc .vmem S1x1024x16 .f32) (harg1 : arg1.IsWhole) (arg2 : Memref sig .tc .vmem S1x16 .f32) (harg2 : arg2.IsWhole) (arg3 : Memref sig .tc .vmem S1x16 .f32) (harg3 : arg3.IsWhole) (arg4 : Memref sig .tc .vmem S8x32 .f32) (harg4 : arg4.IsWhole) (arg5 : Memref sig .tc .vmem S8x32 .f32) (harg5 : arg5.IsWhole) (arg6 : Memref sig .tc .vmem S8x5 .f32) (harg6 : arg6.IsWhole) (arg7 : Memref sig .tc .vmem S8x4 .f32) (harg7 : arg7.IsWhole) (arg8 : Memref sig .tc .vmem S8x16 .f32) (harg8 : arg8.IsWhole) (arg9 : Memref sig .tc .vmem S8x16 .f32) (harg9 : arg9.IsWhole) (arg10 : Memref sig .tc .vmem S8x16 .f32) (harg10 : arg10.IsWhole) (arg11 : Memref sig .tc .vmem S240x2048 .f32) (harg11 : arg11.IsWhole) (arg12 : Memref sig .tc .vmem S512x2048 .f32) (harg12 : arg12.IsWhole) (arg13 : Memref sig .tc .vmem S1x2048 .f32) (harg13 : arg13.IsWhole) (arg14 : Memref sig .tc .vmem S1x512 .f32) (harg14 : arg14.IsWhole) (arg15 : Memref sig .tc .vmem S1x512 .f32) (harg15 : arg15.IsWhole) (arg16 : Memref sig .tc .vmem S512x256 .f32) (harg16 : arg16.IsWhole) (arg17 : Memref sig .tc .vmem S1x256 .f32) (harg17 : arg17.IsWhole) (arg18 : Memref sig .tc .vmem S1x256 .f32) (harg18 : arg18.IsWhole) (arg19 : Memref sig .tc .vmem S1x256 .f32) (harg19 : arg19.IsWhole) (arg20 : Memref sig .tc .vmem S1x256 .f32) (harg20 : arg20.IsWhole) (arg21 : Memref sig .tc .vmem S1x1 .f32) (harg21 : arg21.IsWhole) (arg22 : Memref sig .tc .vmem S1024x1 .f32) (harg22 : arg22.IsWhole) (arg23 : Memref sig .tc .vmem S1024x512 .f32) (harg23 : arg23.IsWhole) (arg24 : Memref sig .tc .vmem S1024x512 .f32) (harg24 : arg24.IsWhole) (arg25 : Memref sig .tc .vmem S1x2048 .f32) (harg25 : arg25.IsWhole) (hc0 : first1 i) (hc1 : ¬last1 i)
    (x0 : Vec F S1x1024x16 .f32)    (x1 : Vec F S1x16 .f32)    (x2 : Vec F S1x16 .f32)    (x3 : Vec F S8x32 .f32)    (x4 : Vec F S8x32 .f32)    (x5 : Vec F S8x5 .f32)    (x6 : Vec F S8x4 .f32)    (x7 : Vec F S8x16 .f32)    (x8 : Vec F S8x16 .f32)    (x9 : Vec F S8x16 .f32)    (x10 : Vec F S240x2048 .f32)    (x11 : Vec F S512x2048 .f32)    (x12 : Vec F S1x2048 .f32) (z1 z2 : Vec F S1024x512 .f32) (z3 : Vec F S1x2048 .f32)
      (E : Set ℕ) (K : PUnit → sProp 𝕄) :
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare x9 ∗ owns (c : Thread nD τ) arg11 fullShare x10 ∗ owns (c : Thread nD τ) arg12 fullShare x11 ∗ owns (c : Thread nD τ) arg13 fullShare x12
            ∗ owns (c : Thread nD τ) arg23 fullShare z1 ∗ owns (c : Thread nD τ) arg24 fullShare z2 ∗ owns (c : Thread nD τ) arg25 fullShare z3
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare x9 ∗ owns (c : Thread nD τ) arg11 fullShare x10 ∗ owns (c : Thread nD τ) arg12 fullShare x11 ∗ owns (c : Thread nD τ) arg13 fullShare x12
                ∗ owns (c : Thread nD τ) arg23 fullShare (hStep x0 x1 x2 x10 (k1_pay5 (F := F)) x11 (rowOf x3 x4 x5 x6 x7 x8 x9 x10 x12) (k1_pay6 (F := F))) ∗ owns (c : Thread nD τ) arg24 fullShare (cStep x0 x1 x2 x10 (k1_pay5 (F := F)) x11 (rowOf x3 x4 x5 x6 x7 x8 x9 x10 x12) (k1_pay6 (F := F))) ∗ owns (c : Thread nD τ) arg25 fullShare (rowOf x3 x4 x5 x6 x7 x8 x9 x10 x12)) -∗ K ⟨⟩))
          ⊢ wp frame (wpE (defs₀ (F := F)) Variants.none c none) E (cc1__lstm_body i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25) K := by
    simp only [cc1__lstm_body_eq_skeleton]; unfold cc1__lstm_body_skel
    simp only [k1_part3_eq_skeleton, k1_part1_eq_skeleton, k1_part2_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%f12, %hf12, H12⟩, ⟨%fs23, %hfs23, HS23⟩, ⟨%fs24, %hfs24, HS24⟩, ⟨%fs25, %hfs25, HS25⟩, Hk⟩
    obtain rfl := harg1.eq_unread hf0; obtain rfl := harg2.eq_unread hf1; obtain rfl := harg3.eq_unread hf2; obtain rfl := harg4.eq_unread hf3; obtain rfl := harg5.eq_unread hf4; obtain rfl := harg6.eq_unread hf5; obtain rfl := harg7.eq_unread hf6; obtain rfl := harg8.eq_unread hf7; obtain rfl := harg9.eq_unread hf8; obtain rfl := harg10.eq_unread hf9; obtain rfl := harg11.eq_unread hf10; obtain rfl := harg12.eq_unread hf11; obtain rfl := harg13.eq_unread hf12
    sl_exec (disch := first | sl_exact hc0 | sl_exact hc1)
    sl_step
    have c23 : arg23.view.readCov (Val := Elt F) [⟨Rect.unit ![0, 0] ![1024, 512] inb_S1024x512_S1024x512_0_0, k1_pay5 (F := F)⟩] (Rect.unit ![0, 0] ![1024, 512] inb_S1024x512_S1024x512_0_0).toLoadRect = k1_pay5 (F := F) := View.readCov_full _ _ _ _ _
    have c24 : arg24.view.readCov (Val := Elt F) [⟨Rect.unit ![0, 0] ![1024, 512] inb_S1024x512_S1024x512_0_0, k1_pay6 (F := F)⟩] (Rect.unit ![0, 0] ![1024, 512] inb_S1024x512_S1024x512_0_0).toLoadRect = k1_pay6 (F := F) := View.readCov_full _ _ _ _ _
    have c25 : arg25.view.readCov (Val := Elt F) [⟨Rect.unit ![0, 0] ![1, 2048] inb_S1x2048_S1x2048_0_0, k1_pay7 (View.ld (Val := Elt F) x3 r32) (View.ld (Val := Elt F) x4 r32) (View.ld (Val := Elt F) x5 r5) (View.ld (Val := Elt F) x6 r4) (View.ld (Val := Elt F) x7 r16) (View.ld (Val := Elt F) x8 r16) (View.ld (Val := Elt F) x9 r16) x10 x12⟩] (Rect.unit ![0, 0] ![1, 2048] inb_S1x2048_S1x2048_0_0).toLoadRect = k1_pay7 (View.ld (Val := Elt F) x3 r32) (View.ld (Val := Elt F) x4 r32) (View.ld (Val := Elt F) x5 r5) (View.ld (Val := Elt F) x6 r4) (View.ld (Val := Elt F) x7 r16) (View.ld (Val := Elt F) x8 r16) (View.ld (Val := Elt F) x9 r16) x10 x12 := View.readCov_full _ _ _ _ _
    have e1 : View.readAt (Elt F) arg1.view (Rect.unit ![0, 0, 0] S1x1024x16.size inb_S1x1024x16_S1x1024x16_0_0_0).toLoadRect (harg1.unread x0) = x0 := (View.readAt_full _ _ _).trans (harg1.read_unread _)
    have e2 : View.readAt (Elt F) arg2.view (Rect.unit ![0, 0] S1x16.size inb_S1x16_S1x16_0_0).toLoadRect (harg2.unread x1) = x1 := (View.readAt_full _ _ _).trans (harg2.read_unread _)
    have e3 : View.readAt (Elt F) arg3.view (Rect.unit ![0, 0] S1x16.size inb_S1x16_S1x16_0_0).toLoadRect (harg3.unread x2) = x2 := (View.readAt_full _ _ _).trans (harg3.read_unread _)
    have e4 : View.readAt (Elt F) arg4.view (r32).toLoadRect (harg4.unread x3) = View.ld (Val := Elt F) x3 r32 := by rw [View.readAt_eq_ld, harg4.read_unread]
    have e5 : View.readAt (Elt F) arg5.view (r32).toLoadRect (harg5.unread x4) = View.ld (Val := Elt F) x4 r32 := by rw [View.readAt_eq_ld, harg5.read_unread]
    have e6 : View.readAt (Elt F) arg6.view (r5).toLoadRect (harg6.unread x5) = View.ld (Val := Elt F) x5 r5 := by rw [View.readAt_eq_ld, harg6.read_unread]
    have e7 : View.readAt (Elt F) arg7.view (r4).toLoadRect (harg7.unread x6) = View.ld (Val := Elt F) x6 r4 := by rw [View.readAt_eq_ld, harg7.read_unread]
    have e8 : View.readAt (Elt F) arg8.view (r16).toLoadRect (harg8.unread x7) = View.ld (Val := Elt F) x7 r16 := by rw [View.readAt_eq_ld, harg8.read_unread]
    have e9 : View.readAt (Elt F) arg9.view (r16).toLoadRect (harg9.unread x8) = View.ld (Val := Elt F) x8 r16 := by rw [View.readAt_eq_ld, harg9.read_unread]
    have e10 : View.readAt (Elt F) arg10.view (r16).toLoadRect (harg10.unread x9) = View.ld (Val := Elt F) x9 r16 := by rw [View.readAt_eq_ld, harg10.read_unread]
    have e11 : View.readAt (Elt F) arg11.view (Rect.unit ![0, 0] S240x2048.size inb_S240x2048_S240x2048_0_0).toLoadRect (harg11.unread x10) = x10 := (View.readAt_full _ _ _).trans (harg11.read_unread _)
    have e11' : View.readAt (Elt F) arg11.view rW.toLoadRect (harg11.unread x10) = View.ld (Val := Elt F) x10 rW := by rw [View.readAt_eq_ld, harg11.read_unread]
    have e12 : View.readAt (Elt F) arg12.view (Rect.unit ![0, 0] S512x2048.size inb_S512x2048_S512x2048_0_0).toLoadRect (harg12.unread x11) = x11 := (View.readAt_full _ _ _).trans (harg12.read_unread _)
    have e13 : View.readAt (Elt F) arg13.view (Rect.unit ![0, 0] S1x2048.size inb_S1x2048_S1x2048_0_0).toLoadRect (harg13.unread x12) = x12 := (View.readAt_full _ _ _).trans (harg13.read_unread _)
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [H5]
    · iexists _; isplitr; · ipureintro; exact harg6.read_unread _
      iexact H5
    isplitl [H6]
    · iexists _; isplitr; · ipureintro; exact harg7.read_unread _
      iexact H6
    isplitl [H7]
    · iexists _; isplitr; · ipureintro; exact harg8.read_unread _
      iexact H7
    isplitl [H8]
    · iexists _; isplitr; · ipureintro; exact harg9.read_unread _
      iexact H8
    isplitl [H9]
    · iexists _; isplitr; · ipureintro; exact harg10.read_unread _
      iexact H9
    isplitl [H10]
    · iexists _; isplitr; · ipureintro; exact harg11.read_unread _
      iexact H10
    isplitl [H11]
    · iexists _; isplitr; · ipureintro; exact harg12.read_unread _
      iexact H11
    isplitl [H12]
    · iexists _; isplitr; · ipureintro; exact harg13.read_unread _
      iexact H12
    isplitl [HS23]
    · iexists _; isplitr
      swap; · iexact HS23
      ipureintro
      refine (View.read_writes_full _ _ _ _ _).trans ?_
      unfold hStep rowOf
      delta run1A.sl.r_1
      delta run1A.sl.r_3
      delta run1A.sl.v16
      delta run1A.sl.v21
      delta run1A.sl.HS23_1
      delta run1A.sl.v32
      delta run1A.sl.HS24_1
      delta run1A.sl.HS25_1
      delta run1A.sl.r
      simp only [e1, e2, e3, e11', e12, e4, e5, e6, e7, e8, e9, e10, e11, e13]
      simp only [c23, c24, c25]
    isplitl [HS24]
    · iexists _; isplitr
      swap; · iexact HS24
      ipureintro
      refine (View.read_writes_full _ _ _ _ _).trans ?_
      unfold cStep rowOf
      delta run1A.sl.r_2
      delta run1A.sl.v16
      delta run1A.sl.v21
      delta run1A.sl.HS23_1
      delta run1A.sl.v32
      delta run1A.sl.HS24_1
      delta run1A.sl.HS25_1
      delta run1A.sl.r
      simp only [e1, e2, e3, e11', e12, e4, e5, e6, e7, e8, e9, e10, e11, e13]
      simp only [c23, c24, c25]
    iexists _; isplitr
    swap; · iexact HS25
    ipureintro
    refine (View.read_writes_full _ _ _ _ _).trans ?_
    unfold rowOf
    delta run1A.sl.r
    simp only [e4, e5, e6, e7, e8, e9, e10, e11, e13]

set_option maxHeartbeats 4000000 in
/-- The last step of the recurrence, then the tail. -/
theorem run1C (c : Dev nD) (i : grid1.Coords) (arg1 : Memref sig .tc .vmem S1x1024x16 .f32) (harg1 : arg1.IsWhole) (arg2 : Memref sig .tc .vmem S1x16 .f32) (harg2 : arg2.IsWhole) (arg3 : Memref sig .tc .vmem S1x16 .f32) (harg3 : arg3.IsWhole) (arg4 : Memref sig .tc .vmem S8x32 .f32) (harg4 : arg4.IsWhole) (arg5 : Memref sig .tc .vmem S8x32 .f32) (harg5 : arg5.IsWhole) (arg6 : Memref sig .tc .vmem S8x5 .f32) (harg6 : arg6.IsWhole) (arg7 : Memref sig .tc .vmem S8x4 .f32) (harg7 : arg7.IsWhole) (arg8 : Memref sig .tc .vmem S8x16 .f32) (harg8 : arg8.IsWhole) (arg9 : Memref sig .tc .vmem S8x16 .f32) (harg9 : arg9.IsWhole) (arg10 : Memref sig .tc .vmem S8x16 .f32) (harg10 : arg10.IsWhole) (arg11 : Memref sig .tc .vmem S240x2048 .f32) (harg11 : arg11.IsWhole) (arg12 : Memref sig .tc .vmem S512x2048 .f32) (harg12 : arg12.IsWhole) (arg13 : Memref sig .tc .vmem S1x2048 .f32) (harg13 : arg13.IsWhole) (arg14 : Memref sig .tc .vmem S1x512 .f32) (harg14 : arg14.IsWhole) (arg15 : Memref sig .tc .vmem S1x512 .f32) (harg15 : arg15.IsWhole) (arg16 : Memref sig .tc .vmem S512x256 .f32) (harg16 : arg16.IsWhole) (arg17 : Memref sig .tc .vmem S1x256 .f32) (harg17 : arg17.IsWhole) (arg18 : Memref sig .tc .vmem S1x256 .f32) (harg18 : arg18.IsWhole) (arg19 : Memref sig .tc .vmem S1x256 .f32) (harg19 : arg19.IsWhole) (arg20 : Memref sig .tc .vmem S1x256 .f32) (harg20 : arg20.IsWhole) (arg21 : Memref sig .tc .vmem S1x1 .f32) (harg21 : arg21.IsWhole) (arg22 : Memref sig .tc .vmem S1024x1 .f32) (harg22 : arg22.IsWhole) (arg23 : Memref sig .tc .vmem S1024x512 .f32) (harg23 : arg23.IsWhole) (arg24 : Memref sig .tc .vmem S1024x512 .f32) (harg24 : arg24.IsWhole) (arg25 : Memref sig .tc .vmem S1x2048 .f32) (harg25 : arg25.IsWhole) (hc0 : ¬first1 i) (hc1 : last1 i)
    (x0 : Vec F S1x1024x16 .f32)    (x1 : Vec F S1x16 .f32)    (x2 : Vec F S1x16 .f32)    (x10 : Vec F S240x2048 .f32)    (x11 : Vec F S512x2048 .f32)    (x13 : Vec F S1x512 .f32)    (x14 : Vec F S1x512 .f32)    (x15 : Vec F S512x256 .f32)    (x16 : Vec F S1x256 .f32)    (x17 : Vec F S1x256 .f32)    (x18 : Vec F S1x256 .f32)    (x19 : Vec F S1x256 .f32)    (x20 : Vec F S1x1 .f32) (z4 : Vec F S1024x1 .f32) (h cc : Vec F S1024x512 .f32) (r : Vec F S1x2048 .f32)
      (E : Set ℕ) (K : PUnit → sProp 𝕄) :
        iprop(owns (c : Thread nD τ) arg1 fullShare x0 ∗ owns (c : Thread nD τ) arg2 fullShare x1 ∗ owns (c : Thread nD τ) arg3 fullShare x2 ∗ owns (c : Thread nD τ) arg11 fullShare x10 ∗ owns (c : Thread nD τ) arg12 fullShare x11 ∗ owns (c : Thread nD τ) arg14 fullShare x13 ∗ owns (c : Thread nD τ) arg15 fullShare x14 ∗ owns (c : Thread nD τ) arg16 fullShare x15 ∗ owns (c : Thread nD τ) arg17 fullShare x16 ∗ owns (c : Thread nD τ) arg18 fullShare x17 ∗ owns (c : Thread nD τ) arg19 fullShare x18 ∗ owns (c : Thread nD τ) arg20 fullShare x19 ∗ owns (c : Thread nD τ) arg21 fullShare x20
            ∗ owns (c : Thread nD τ) arg22 fullShare z4 ∗ owns (c : Thread nD τ) arg23 fullShare h ∗ owns (c : Thread nD τ) arg24 fullShare cc ∗ owns (c : Thread nD τ) arg25 fullShare r
            ∗ (iprop(owns (c : Thread nD τ) arg1 fullShare x0 ∗ owns (c : Thread nD τ) arg2 fullShare x1 ∗ owns (c : Thread nD τ) arg3 fullShare x2 ∗ owns (c : Thread nD τ) arg11 fullShare x10 ∗ owns (c : Thread nD τ) arg12 fullShare x11 ∗ owns (c : Thread nD τ) arg14 fullShare x13 ∗ owns (c : Thread nD τ) arg15 fullShare x14 ∗ owns (c : Thread nD τ) arg16 fullShare x15 ∗ owns (c : Thread nD τ) arg17 fullShare x16 ∗ owns (c : Thread nD τ) arg18 fullShare x17 ∗ owns (c : Thread nD τ) arg19 fullShare x18 ∗ owns (c : Thread nD τ) arg20 fullShare x19 ∗ owns (c : Thread nD τ) arg21 fullShare x20
                ∗ owns (c : Thread nD τ) arg22 fullShare (tailOf (hRaw x0 x1 x2 x10 h x11 r cc) x13 x14 x15 x16 x17 x18 x19 x20) ∗ owns (c : Thread nD τ) arg23 fullShare (hStep x0 x1 x2 x10 h x11 r cc) ∗ owns (c : Thread nD τ) arg24 fullShare (cStep x0 x1 x2 x10 h x11 r cc) ∗ owns (c : Thread nD τ) arg25 fullShare (r)) -∗ K ⟨⟩))
          ⊢ wp frame (wpE (defs₀ (F := F)) Variants.none c none) E (cc1__lstm_body i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25) K := by
    simp only [cc1__lstm_body_eq_skeleton]; unfold cc1__lstm_body_skel
    simp only [k1_part3_eq_skeleton, k1_part1_eq_skeleton, k1_part2_eq_skeleton]
    unfold owns
    iintro ⟨⟨%f0, %hf0, H0⟩, ⟨%f1, %hf1, H1⟩, ⟨%f2, %hf2, H2⟩, ⟨%f10, %hf10, H10⟩, ⟨%f11, %hf11, H11⟩, ⟨%f13, %hf13, H13⟩, ⟨%f14, %hf14, H14⟩, ⟨%f15, %hf15, H15⟩, ⟨%f16, %hf16, H16⟩, ⟨%f17, %hf17, H17⟩, ⟨%f18, %hf18, H18⟩, ⟨%f19, %hf19, H19⟩, ⟨%f20, %hf20, H20⟩, ⟨%fs22, %hfs22, HS22⟩, ⟨%fs23, %hfs23, HS23⟩, ⟨%fs24, %hfs24, HS24⟩, ⟨%fs25, %hfs25, HS25⟩, Hk⟩
    obtain rfl := harg1.eq_unread hf0; obtain rfl := harg2.eq_unread hf1; obtain rfl := harg3.eq_unread hf2; obtain rfl := harg11.eq_unread hf10; obtain rfl := harg12.eq_unread hf11; obtain rfl := harg14.eq_unread hf13; obtain rfl := harg15.eq_unread hf14; obtain rfl := harg16.eq_unread hf15; obtain rfl := harg17.eq_unread hf16; obtain rfl := harg18.eq_unread hf17; obtain rfl := harg19.eq_unread hf18; obtain rfl := harg20.eq_unread hf19; obtain rfl := harg21.eq_unread hf20
    obtain rfl := harg23.eq_unread hfs23
    obtain rfl := harg24.eq_unread hfs24
    obtain rfl := harg25.eq_unread hfs25
    sl_exec (disch := first | sl_exact hc0 | sl_exact hc1)
    sl_step
    have e1 : View.readAt (Elt F) arg1.view (Rect.unit ![0, 0, 0] S1x1024x16.size inb_S1x1024x16_S1x1024x16_0_0_0).toLoadRect (harg1.unread x0) = x0 := (View.readAt_full _ _ _).trans (harg1.read_unread _)
    have e2 : View.readAt (Elt F) arg2.view (Rect.unit ![0, 0] S1x16.size inb_S1x16_S1x16_0_0).toLoadRect (harg2.unread x1) = x1 := (View.readAt_full _ _ _).trans (harg2.read_unread _)
    have e3 : View.readAt (Elt F) arg3.view (Rect.unit ![0, 0] S1x16.size inb_S1x16_S1x16_0_0).toLoadRect (harg3.unread x2) = x2 := (View.readAt_full _ _ _).trans (harg3.read_unread _)
    have e11 : View.readAt (Elt F) arg11.view (Rect.unit ![0, 0] S240x2048.size inb_S240x2048_S240x2048_0_0).toLoadRect (harg11.unread x10) = x10 := (View.readAt_full _ _ _).trans (harg11.read_unread _)
    have e11' : View.readAt (Elt F) arg11.view rW.toLoadRect (harg11.unread x10) = View.ld (Val := Elt F) x10 rW := by rw [View.readAt_eq_ld, harg11.read_unread]
    have e12 : View.readAt (Elt F) arg12.view (Rect.unit ![0, 0] S512x2048.size inb_S512x2048_S512x2048_0_0).toLoadRect (harg12.unread x11) = x11 := (View.readAt_full _ _ _).trans (harg12.read_unread _)
    have e14 : View.readAt (Elt F) arg14.view (Rect.unit ![0, 0] S1x512.size inb_S1x512_S1x512_0_0).toLoadRect (harg14.unread x13) = x13 := (View.readAt_full _ _ _).trans (harg14.read_unread _)
    have e15 : View.readAt (Elt F) arg15.view (Rect.unit ![0, 0] S1x512.size inb_S1x512_S1x512_0_0).toLoadRect (harg15.unread x14) = x14 := (View.readAt_full _ _ _).trans (harg15.read_unread _)
    have e16 : View.readAt (Elt F) arg16.view (Rect.unit ![0, 0] S512x256.size inb_S512x256_S512x256_0_0).toLoadRect (harg16.unread x15) = x15 := (View.readAt_full _ _ _).trans (harg16.read_unread _)
    have e17 : View.readAt (Elt F) arg17.view (Rect.unit ![0, 0] S1x256.size inb_S1x256_S1x256_0_0).toLoadRect (harg17.unread x16) = x16 := (View.readAt_full _ _ _).trans (harg17.read_unread _)
    have e18 : View.readAt (Elt F) arg18.view (Rect.unit ![0, 0] S1x256.size inb_S1x256_S1x256_0_0).toLoadRect (harg18.unread x17) = x17 := (View.readAt_full _ _ _).trans (harg18.read_unread _)
    have e19 : View.readAt (Elt F) arg19.view (Rect.unit ![0, 0] S1x256.size inb_S1x256_S1x256_0_0).toLoadRect (harg19.unread x18) = x18 := (View.readAt_full _ _ _).trans (harg19.read_unread _)
    have e20 : View.readAt (Elt F) arg20.view (Rect.unit ![0, 0] S1x256.size inb_S1x256_S1x256_0_0).toLoadRect (harg20.unread x19) = x19 := (View.readAt_full _ _ _).trans (harg20.read_unread _)
    have e21 : View.readAt (Elt F) arg21.view (Rect.unit ![0, 0] S1x1.size inb_S1x1_S1x1_0_0).toLoadRect (harg21.unread x20) = x20 := (View.readAt_full _ _ _).trans (harg21.read_unread _)
    have e23 : View.readAt (Elt F) arg23.view (Rect.unit ![0, 0] S1024x512.size inb_S1024x512_S1024x512_0_0).toLoadRect (harg23.unread h) = h := (View.readAt_full _ _ _).trans (harg23.read_unread _)
    have e24 : View.readAt (Elt F) arg24.view (Rect.unit ![0, 0] S1024x512.size inb_S1024x512_S1024x512_0_0).toLoadRect (harg24.unread cc) = cc := (View.readAt_full _ _ _).trans (harg24.read_unread _)
    have e25 : View.readAt (Elt F) arg25.view (Rect.unit ![0, 0] S1x2048.size inb_S1x2048_S1x2048_0_0).toLoadRect (harg25.unread r) = r := (View.readAt_full _ _ _).trans (harg25.read_unread _)
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H10]
    · iexists _; isplitr; · ipureintro; exact harg11.read_unread _
      iexact H10
    isplitl [H11]
    · iexists _; isplitr; · ipureintro; exact harg12.read_unread _
      iexact H11
    isplitl [H13]
    · iexists _; isplitr; · ipureintro; exact harg14.read_unread _
      iexact H13
    isplitl [H14]
    · iexists _; isplitr; · ipureintro; exact harg15.read_unread _
      iexact H14
    isplitl [H15]
    · iexists _; isplitr; · ipureintro; exact harg16.read_unread _
      iexact H15
    isplitl [H16]
    · iexists _; isplitr; · ipureintro; exact harg17.read_unread _
      iexact H16
    isplitl [H17]
    · iexists _; isplitr; · ipureintro; exact harg18.read_unread _
      iexact H17
    isplitl [H18]
    · iexists _; isplitr; · ipureintro; exact harg19.read_unread _
      iexact H18
    isplitl [H19]
    · iexists _; isplitr; · ipureintro; exact harg20.read_unread _
      iexact H19
    isplitl [H20]
    · iexists _; isplitr; · ipureintro; exact harg21.read_unread _
      iexact H20
    isplitl [HS22]
    · iexists _; isplitr
      swap; · iexact HS22
      ipureintro
      refine (View.read_writes_full _ _ _ _ _).trans ?_
      unfold tailOf hRaw
      delta run1C.sl.r_3
      delta run1C.sl.r_4
      delta run1C.sl.r
      delta run1C.sl.r_2
      simp only [e1, e2, e3, e11', e12, e23, e25, e24, e14, e15, e16, e17, e18, e19, e20, e21]
    isplitl [HS23]
    · iexists _; isplitr
      swap; · iexact HS23
      ipureintro
      refine (View.read_writes_full _ _ _ _ _).trans ?_
      unfold hStep
      delta run1C.sl.r
      delta run1C.sl.r_2
      simp only [e1, e2, e3, e11', e12, e23, e25, e24]
    isplitl [HS24]
    · iexists _; isplitr
      swap; · iexact HS24
      ipureintro
      refine (View.read_writes_full _ _ _ _ _).trans ?_
      unfold cStep
      delta run1C.sl.r_1
      simp only [e1, e2, e3, e11', e12, e23, e25, e24]
    iexists _; isplitr
    swap; · iexact HS25
    ipureintro
    exact harg25.read_unread _

end Cert.KernelIdeal.Own

end
-- ==== Proof.KI.LstmData.lean ====
module

public import proofs.«01_k».proof.Proof.KI.Lstm
public import proofs.«01_k».proof.Proof.Gen.KernelIdeal.Skeleton
public import proofs.«01_k».proof.Proof.Gen.KernelIdeal.Points
public import Idealize.ShloMosaic.Lib.Pipeline.FrameBody
public import Idealize.ShloMosaic.Lib.Ring
public import Idealize.ShloMosaic.Lib.Pipeline.Value
public import Idealize.ShloMosaic.Lib.Tactic
public import Idealize.ShloMosaic.Lib.WordCmp
public import Idealize.ShloMosaic.Lib.WritesUnit
public import Idealize.ShloMosaic.Lib.VecWindow
public import Idealize.ShloMosaic.Lib.ValueIdx

@[expose] public section

set_option maxRecDepth 16384

noncomputable section

namespace Cert.KernelIdeal.Own

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.ValueIdx
open Idealize.ShloMosaic.Pipeline (Dat Cfg Window BodyObligation cellOf)

variable {F : FTy → Type} [FloatOps F]

local notation "𝕄" => MT nD τ sig Unit (Elt F) ℕ (UR sig nD τ) ℕ

/-! ## The data of the recurrence region, over any contents its arrays hold at entry -/

variable (V : (c : Dev nD) → (b : Ref sig .tc) → Buf (Elt F) ((c : Thread nD τ).loc b))

/-- Window `w`'s block at point `t`. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- The first point of the recurrence. -/
abbrev t0_1 : Fin cfg1.N := ⟨0, lt_of_lt_of_eq (by decide) N_1.symm⟩

/-- A value for a part of table window 3's buffer that no fetch fills; nothing reads it. -/
def dflt1_3 : (cfg1.win 3).block.Idx → Elt F (cfg1.win 3).elt := fun _ => Classical.choice inferInstance
/-- What table window 3's buffer holds at point `t`. -/
def X1_3 (c : Dev nD) (t : Fin cfg1.N) : (cfg1.win 3).block.Idx → Elt F (cfg1.win 3).elt :=
  (cfg1.win 3).fill (cfg1.grid.coords t) dflt1_3 (iblk1 V c 3 t)
theorem xsize1_3 : ∀ t : Fin cfg1.N, ∀ a, (cfg1.win 3).xsize (cfg1.grid.coords t) a = (cfg1.win 3).size a := (by decide +kernel : ∀ t : Fin grid1.N, ∀ a, _)
theorem moved1_3 (t : Fin cfg1.N) (j : (cfg1.win 3).block.Idx) : (cfg1.win 3).moved (cfg1.grid.coords t) j = true :=
  ((cfg1.win 3).moved_iff _ j).mpr fun a => by rw [xsize1_3 t a]; exact (j a).isLt
theorem fill1_3 (t : Fin cfg1.N) (d d' : (cfg1.win 3).block.Idx → Elt F (cfg1.win 3).elt) (g) :
    (cfg1.win 3).fill (cfg1.grid.coords t) d g = (cfg1.win 3).fill (cfg1.grid.coords t) d' g := by
  funext j; unfold Pipeline.Window.fill; rw [dif_pos (moved1_3 t j), dif_pos (moved1_3 t j)]

/-- A value for a part of table window 4's buffer that no fetch fills; nothing reads it. -/
def dflt1_4 : (cfg1.win 4).block.Idx → Elt F (cfg1.win 4).elt := fun _ => Classical.choice inferInstance
/-- What table window 4's buffer holds at point `t`. -/
def X1_4 (c : Dev nD) (t : Fin cfg1.N) : (cfg1.win 4).block.Idx → Elt F (cfg1.win 4).elt :=
  (cfg1.win 4).fill (cfg1.grid.coords t) dflt1_4 (iblk1 V c 4 t)
theorem xsize1_4 : ∀ t : Fin cfg1.N, ∀ a, (cfg1.win 4).xsize (cfg1.grid.coords t) a = (cfg1.win 4).size a := (by decide +kernel : ∀ t : Fin grid1.N, ∀ a, _)
theorem moved1_4 (t : Fin cfg1.N) (j : (cfg1.win 4).block.Idx) : (cfg1.win 4).moved (cfg1.grid.coords t) j = true :=
  ((cfg1.win 4).moved_iff _ j).mpr fun a => by rw [xsize1_4 t a]; exact (j a).isLt
theorem fill1_4 (t : Fin cfg1.N) (d d' : (cfg1.win 4).block.Idx → Elt F (cfg1.win 4).elt) (g) :
    (cfg1.win 4).fill (cfg1.grid.coords t) d g = (cfg1.win 4).fill (cfg1.grid.coords t) d' g := by
  funext j; unfold Pipeline.Window.fill; rw [dif_pos (moved1_4 t j), dif_pos (moved1_4 t j)]

/-- A value for a part of table window 6's buffer that no fetch fills; nothing reads it. -/
def dflt1_6 : (cfg1.win 6).block.Idx → Elt F (cfg1.win 6).elt := fun _ => Classical.choice inferInstance
/-- What table window 6's buffer holds at point `t`. -/
def X1_6 (c : Dev nD) (t : Fin cfg1.N) : (cfg1.win 6).block.Idx → Elt F (cfg1.win 6).elt :=
  (cfg1.win 6).fill (cfg1.grid.coords t) dflt1_6 (iblk1 V c 6 t)
theorem xsize1_6 : ∀ t : Fin cfg1.N, ∀ a, (cfg1.win 6).xsize (cfg1.grid.coords t) a = (cfg1.win 6).size a := (by decide +kernel : ∀ t : Fin grid1.N, ∀ a, _)
theorem moved1_6 (t : Fin cfg1.N) (j : (cfg1.win 6).block.Idx) : (cfg1.win 6).moved (cfg1.grid.coords t) j = true :=
  ((cfg1.win 6).moved_iff _ j).mpr fun a => by rw [xsize1_6 t a]; exact (j a).isLt
theorem fill1_6 (t : Fin cfg1.N) (d d' : (cfg1.win 6).block.Idx → Elt F (cfg1.win 6).elt) (g) :
    (cfg1.win 6).fill (cfg1.grid.coords t) d g = (cfg1.win 6).fill (cfg1.grid.coords t) d' g := by
  funext j; unfold Pipeline.Window.fill; rw [dif_pos (moved1_6 t j), dif_pos (moved1_6 t j)]

/-- A value for a part of table window 7's buffer that no fetch fills; nothing reads it. -/
def dflt1_7 : (cfg1.win 7).block.Idx → Elt F (cfg1.win 7).elt := fun _ => Classical.choice inferInstance
/-- What table window 7's buffer holds at point `t`. -/
def X1_7 (c : Dev nD) (t : Fin cfg1.N) : (cfg1.win 7).block.Idx → Elt F (cfg1.win 7).elt :=
  (cfg1.win 7).fill (cfg1.grid.coords t) dflt1_7 (iblk1 V c 7 t)
theorem xsize1_7 : ∀ t : Fin cfg1.N, ∀ a, (cfg1.win 7).xsize (cfg1.grid.coords t) a = (cfg1.win 7).size a := (by decide +kernel : ∀ t : Fin grid1.N, ∀ a, _)
theorem moved1_7 (t : Fin cfg1.N) (j : (cfg1.win 7).block.Idx) : (cfg1.win 7).moved (cfg1.grid.coords t) j = true :=
  ((cfg1.win 7).moved_iff _ j).mpr fun a => by rw [xsize1_7 t a]; exact (j a).isLt
theorem fill1_7 (t : Fin cfg1.N) (d d' : (cfg1.win 7).block.Idx → Elt F (cfg1.win 7).elt) (g) :
    (cfg1.win 7).fill (cfg1.grid.coords t) d g = (cfg1.win 7).fill (cfg1.grid.coords t) d' g := by
  funext j; unfold Pipeline.Window.fill; rw [dif_pos (moved1_7 t j), dif_pos (moved1_7 t j)]

/-- A value for a part of table window 8's buffer that no fetch fills; nothing reads it. -/
def dflt1_8 : (cfg1.win 8).block.Idx → Elt F (cfg1.win 8).elt := fun _ => Classical.choice inferInstance
/-- What table window 8's buffer holds at point `t`. -/
def X1_8 (c : Dev nD) (t : Fin cfg1.N) : (cfg1.win 8).block.Idx → Elt F (cfg1.win 8).elt :=
  (cfg1.win 8).fill (cfg1.grid.coords t) dflt1_8 (iblk1 V c 8 t)
theorem xsize1_8 : ∀ t : Fin cfg1.N, ∀ a, (cfg1.win 8).xsize (cfg1.grid.coords t) a = (cfg1.win 8).size a := (by decide +kernel : ∀ t : Fin grid1.N, ∀ a, _)
theorem moved1_8 (t : Fin cfg1.N) (j : (cfg1.win 8).block.Idx) : (cfg1.win 8).moved (cfg1.grid.coords t) j = true :=
  ((cfg1.win 8).moved_iff _ j).mpr fun a => by rw [xsize1_8 t a]; exact (j a).isLt
theorem fill1_8 (t : Fin cfg1.N) (d d' : (cfg1.win 8).block.Idx → Elt F (cfg1.win 8).elt) (g) :
    (cfg1.win 8).fill (cfg1.grid.coords t) d g = (cfg1.win 8).fill (cfg1.grid.coords t) d' g := by
  funext j; unfold Pipeline.Window.fill; rw [dif_pos (moved1_8 t j), dif_pos (moved1_8 t j)]

/-- A value for a part of table window 9's buffer that no fetch fills; nothing reads it. -/
def dflt1_9 : (cfg1.win 9).block.Idx → Elt F (cfg1.win 9).elt := fun _ => Classical.choice inferInstance
/-- What table window 9's buffer holds at point `t`. -/
def X1_9 (c : Dev nD) (t : Fin cfg1.N) : (cfg1.win 9).block.Idx → Elt F (cfg1.win 9).elt :=
  (cfg1.win 9).fill (cfg1.grid.coords t) dflt1_9 (iblk1 V c 9 t)
theorem xsize1_9 : ∀ t : Fin cfg1.N, ∀ a, (cfg1.win 9).xsize (cfg1.grid.coords t) a = (cfg1.win 9).size a := (by decide +kernel : ∀ t : Fin grid1.N, ∀ a, _)
theorem moved1_9 (t : Fin cfg1.N) (j : (cfg1.win 9).block.Idx) : (cfg1.win 9).moved (cfg1.grid.coords t) j = true :=
  ((cfg1.win 9).moved_iff _ j).mpr fun a => by rw [xsize1_9 t a]; exact (j a).isLt
theorem fill1_9 (t : Fin cfg1.N) (d d' : (cfg1.win 9).block.Idx → Elt F (cfg1.win 9).elt) (g) :
    (cfg1.win 9).fill (cfg1.grid.coords t) d g = (cfg1.win 9).fill (cfg1.grid.coords t) d' g := by
  funext j; unfold Pipeline.Window.fill; rw [dif_pos (moved1_9 t j), dif_pos (moved1_9 t j)]

/-- The block of the padded inputs the recurrence reads at its `n`-th point. -/
def xAt (c : Dev nD) (n : ℕ) : Vec F S1x1024x16 .f32 :=
  iblk1 V c 0 ⟨n % 200, lt_of_lt_of_eq (Nat.mod_lt _ (by decide)) N_1.symm⟩

theorem xAt_val (c : Dev nD) (t : Fin cfg1.N) : xAt V c t.val = iblk1 V c 0 t := by
  have hN : t.val < 200 := lt_of_lt_of_eq t.isLt (show cfg1.N = 200 from N_1)
  have key : ∀ k (hk : k < cfg1.N), k = t.val → (iblk1 V c 0 ⟨k, hk⟩ : Vec F S1x1024x16 .f32) = iblk1 V c 0 t := by
    rintro k hk rfl; rfl
  exact key _ _ (Nat.mod_eq_of_lt hN)

/-- The constant part of the gates, from the first point's blocks. -/
def rowV (c : Dev nD) : Vec F S1x2048 .f32 :=
  rowOf (X1_3 V c t0_1) (X1_4 V c t0_1) (iblk1 V c 5 t0_1) (X1_6 V c t0_1) (X1_7 V c t0_1) (X1_8 V c t0_1) (X1_9 V c t0_1) (V c main_v57) (V c main_v60)

/-- The hidden and the cell state after `n` points. -/
def st (c : Dev nD) : ℕ → Vec F S1024x512 .f32 × Vec F S1024x512 .f32
  | 0 => (k1_pay5 (F := F), k1_pay6 (F := F))
  | n + 1 => (hStep (xAt V c n) (V c main_v11_0) (V c main_v11_1) (V c main_v57) (st c n).1 (V c main_v58) (rowV V c) (st c n).2,
      cStep (xAt V c n) (V c main_v11_0) (V c main_v11_1) (V c main_v57) (st c n).1 (V c main_v58) (rowV V c) (st c n).2)

abbrev scH : Memref sig .tc .vmem S1024x512 .f32 := Memref.whole cc1_scratch0
abbrev scC : Memref sig .tc .vmem S1024x512 .f32 := Memref.whole cc1_scratch1
abbrev scR : Memref sig .tc .vmem S1x2048 .f32 := Memref.whole cc1_scratch2

/-- Before position `n` the scratches hold the states after `n` points and the constant row (anything at all before
    the first point). -/
def Phi1 (c : Dev nD) (n : ℕ) : sProp 𝕄 :=
  iprop((∃ h : Vec F S1024x512 .f32, ∃ cc : Vec F S1024x512 .f32, ∃ r : Vec F S1x2048 .f32,
      ⌜n ≠ 0 → h = (st V c n).1 ∧ cc = (st V c n).2 ∧ r = rowV V c⌝
      ∗ owns (c : Thread nD τ) scH fullShare h ∗ owns (c : Thread nD τ) scC fullShare cc ∗ owns (c : Thread nD τ) scR fullShare r)
    ∗ Pipeline.scopedRestBut (Ix := Unit) (Name := ℕ) (U := UR sig nD τ) (Lvl := ℕ) (Val := Elt F) spec1 c [cc1_scratch0, cc1_scratch1, cc1_scratch2])

/-- The column the recurrence region writes. -/
def outV (c : Dev nD) : Vec F S1024x1 .f32 :=
  tailOf (hRaw (xAt V c 199) (V c main_v11_0) (V c main_v11_1) (V c main_v57) (st V c 199).1 (V c main_v58) (rowV V c) (st V c 199).2)
    (V c main_v61) (V c main_v62) (V c main_v63) (V c main_v64) (V c main_v65) (V c main_v66) (V c main_arg22) (V c main_v67)

/-- The proof data of the recurrence region on core `c`. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => X1_3 V c t
    | ⟨4, _⟩ => X1_4 V c t
    | ⟨5, _⟩ => iblk1 V c 5 t
    | ⟨6, _⟩ => X1_6 V c t
    | ⟨7, _⟩ => X1_7 V c t
    | ⟨8, _⟩ => X1_8 V c t
    | ⟨9, _⟩ => X1_9 V c t
    | ⟨10, _⟩ => iblk1 V c 10 t
    | ⟨11, _⟩ => iblk1 V c 11 t
    | ⟨12, _⟩ => iblk1 V c 12 t
    | ⟨13, _⟩ => iblk1 V c 13 t
    | ⟨14, _⟩ => iblk1 V c 14 t
    | ⟨15, _⟩ => iblk1 V c 15 t
    | ⟨16, _⟩ => iblk1 V c 16 t
    | ⟨17, _⟩ => iblk1 V c 17 t
    | ⟨18, _⟩ => iblk1 V c 18 t
    | ⟨19, _⟩ => iblk1 V c 19 t
    | ⟨20, _⟩ => iblk1 V c 20 t
    | ⟨21, _⟩ => outV V c
    | ⟨_ + 22, h⟩ => absurd h (Nat.not_lt.2 (Nat.le_add_left _ _))
  Φ t := Phi1 V c t.val
  q _ := fullShare
  owed _ := 0

theorem A1_eq (c : Dev nD) (w : Fin cfg1.W) : (dat1 V c).A w = V c (Pipeline.arrRef spec1 w) := by
  dsimp only [dat1]
theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = X1_3 V c t := by dsimp only [dat1]
theorem after1_4 (c : Dev nD) (t : Fin cfg1.N) : (dat1 V c).after 4 t = X1_4 V c t := by dsimp only [dat1]
theorem after1_5 (c : Dev nD) (t : Fin cfg1.N) : (dat1 V c).after 5 t = iblk1 V c 5 t := by dsimp only [dat1]
theorem after1_6 (c : Dev nD) (t : Fin cfg1.N) : (dat1 V c).after 6 t = X1_6 V c t := by dsimp only [dat1]
theorem after1_7 (c : Dev nD) (t : Fin cfg1.N) : (dat1 V c).after 7 t = X1_7 V c t := by dsimp only [dat1]
theorem after1_8 (c : Dev nD) (t : Fin cfg1.N) : (dat1 V c).after 8 t = X1_8 V c t := by dsimp only [dat1]
theorem after1_9 (c : Dev nD) (t : Fin cfg1.N) : (dat1 V c).after 9 t = X1_9 V c t := by dsimp only [dat1]
theorem after1_10 (c : Dev nD) (t : Fin cfg1.N) : (dat1 V c).after 10 t = iblk1 V c 10 t := by dsimp only [dat1]
theorem after1_11 (c : Dev nD) (t : Fin cfg1.N) : (dat1 V c).after 11 t = iblk1 V c 11 t := by dsimp only [dat1]
theorem after1_12 (c : Dev nD) (t : Fin cfg1.N) : (dat1 V c).after 12 t = iblk1 V c 12 t := by dsimp only [dat1]
theorem after1_13 (c : Dev nD) (t : Fin cfg1.N) : (dat1 V c).after 13 t = iblk1 V c 13 t := by dsimp only [dat1]
theorem after1_14 (c : Dev nD) (t : Fin cfg1.N) : (dat1 V c).after 14 t = iblk1 V c 14 t := by dsimp only [dat1]
theorem after1_15 (c : Dev nD) (t : Fin cfg1.N) : (dat1 V c).after 15 t = iblk1 V c 15 t := by dsimp only [dat1]
theorem after1_16 (c : Dev nD) (t : Fin cfg1.N) : (dat1 V c).after 16 t = iblk1 V c 16 t := by dsimp only [dat1]
theorem after1_17 (c : Dev nD) (t : Fin cfg1.N) : (dat1 V c).after 17 t = iblk1 V c 17 t := by dsimp only [dat1]
theorem after1_18 (c : Dev nD) (t : Fin cfg1.N) : (dat1 V c).after 18 t = iblk1 V c 18 t := by dsimp only [dat1]
theorem after1_19 (c : Dev nD) (t : Fin cfg1.N) : (dat1 V c).after 19 t = iblk1 V c 19 t := by dsimp only [dat1]
theorem after1_20 (c : Dev nD) (t : Fin cfg1.N) : (dat1 V c).after 20 t = iblk1 V c 20 t := by dsimp only [dat1]
theorem after1_21 (c : Dev nD) (t : Fin cfg1.N) : (dat1 V c).after 21 t = outV V c := by dsimp only [dat1]

theorem before1_0 (c : Dev nD) (t : Fin cfg1.N) (d) : (dat1 V c).before 0 t d = iblk1 V c 0 t :=
  ((dat1 V c).before_in_eq_fetched 0 rfl (fun _ => rfl) (fun _ _ _ => rfl) (fun t => by rw [after1_0]; unfold Dat.blockOf iblk1; rw [A1_eq]; try rfl) t d).trans
    (by unfold Dat.fetched Dat.blockOf iblk1; rw [A1_eq]; try rfl)
theorem before1_1 (c : Dev nD) (t : Fin cfg1.N) (d) : (dat1 V c).before 1 t d = iblk1 V c 1 t :=
  ((dat1 V c).before_in_eq_fetched 1 rfl (fun _ => rfl) (fun _ _ _ => rfl) (fun t => by rw [after1_1]; unfold Dat.blockOf iblk1; rw [A1_eq]; try rfl) t d).trans
    (by unfold Dat.fetched Dat.blockOf iblk1; rw [A1_eq]; try rfl)
theorem before1_2 (c : Dev nD) (t : Fin cfg1.N) (d) : (dat1 V c).before 2 t d = iblk1 V c 2 t :=
  ((dat1 V c).before_in_eq_fetched 2 rfl (fun _ => rfl) (fun _ _ _ => rfl) (fun t => by rw [after1_2]; unfold Dat.blockOf iblk1; rw [A1_eq]; try rfl) t d).trans
    (by unfold Dat.fetched Dat.blockOf iblk1; rw [A1_eq]; try rfl)
theorem before1_3 (c : Dev nD) (t : Fin cfg1.N) (d) : (dat1 V c).before 3 t d = X1_3 V c t :=
  ((dat1 V c).before_in_eq_fetched 3 rfl (fun _ => rfl)
      (fun t t' h => funext fun a => congrArg (fun n => Pipeline.Clip.of n ((cfg1.win 3).size a) (S13526x32.size a)) (congrFun h a))
      (fun t => by rw [after1_3]; unfold X1_3; rw [Pipeline.Window.cut_fill]; unfold Dat.blockOf iblk1; rw [A1_eq]; try rfl) t d).trans
    (by unfold Dat.fetched X1_3; rw [fill1_3 t d dflt1_3]; unfold Dat.blockOf iblk1; rw [A1_eq]; try rfl)
theorem before1_4 (c : Dev nD) (t : Fin cfg1.N) (d) : (dat1 V c).before 4 t d = X1_4 V c t :=
  ((dat1 V c).before_in_eq_fetched 4 rfl (fun _ => rfl)
      (fun t t' h => funext fun a => congrArg (fun n => Pipeline.Clip.of n ((cfg1.win 4).size a) (S13526x32.size a)) (congrFun h a))
      (fun t => by rw [after1_4]; unfold X1_4; rw [Pipeline.Window.cut_fill]; unfold Dat.blockOf iblk1; rw [A1_eq]; try rfl) t d).trans
    (by unfold Dat.fetched X1_4; rw [fill1_4 t d dflt1_4]; unfold Dat.blockOf iblk1; rw [A1_eq]; try rfl)
theorem before1_5 (c : Dev nD) (t : Fin cfg1.N) (d) : (dat1 V c).before 5 t d = iblk1 V c 5 t :=
  ((dat1 V c).before_in_eq_fetched 5 rfl (fun _ => rfl) (fun _ _ _ => rfl) (fun t => by rw [after1_5]; unfold Dat.blockOf iblk1; rw [A1_eq]; try rfl) t d).trans
    (by unfold Dat.fetched Dat.blockOf iblk1; rw [A1_eq]; try rfl)
theorem before1_6 (c : Dev nD) (t : Fin cfg1.N) (d) : (dat1 V c).before 6 t d = X1_6 V c t :=
  ((dat1 V c).before_in_eq_fetched 6 rfl (fun _ => rfl)
      (fun t t' h => funext fun a => congrArg (fun n => Pipeline.Clip.of n ((cfg1.win 6).size a) (S9x4.size a)) (congrFun h a))
      (fun t => by rw [after1_6]; unfold X1_6; rw [Pipeline.Window.cut_fill]; unfold Dat.blockOf iblk1; rw [A1_eq]; try rfl) t d).trans
    (by unfold Dat.fetched X1_6; rw [fill1_6 t d dflt1_6]; unfold Dat.blockOf iblk1; rw [A1_eq]; try rfl)
theorem before1_7 (c : Dev nD) (t : Fin cfg1.N) (d) : (dat1 V c).before 7 t d = X1_7 V c t :=
  ((dat1 V c).before_in_eq_fetched 7 rfl (fun _ => rfl)
      (fun t t' h => funext fun a => congrArg (fun n => Pipeline.Clip.of n ((cfg1.win 7).size a) (S190x16.size a)) (congrFun h a))
      (fun t => by rw [after1_7]; unfold X1_7; rw [Pipeline.Window.cut_fill]; unfold Dat.blockOf iblk1; rw [A1_eq]; try rfl) t d).trans
    (by unfold Dat.fetched X1_7; rw [fill1_7 t d dflt1_7]; unfold Dat.blockOf iblk1; rw [A1_eq]; try rfl)
theorem before1_8 (c : Dev nD) (t : Fin cfg1.N) (d) : (dat1 V c).before 8 t d = X1_8 V c t :=
  ((dat1 V c).before_in_eq_fetched 8 rfl (fun _ => rfl)
      (fun t t' h => funext fun a => congrArg (fun n => Pipeline.Clip.of n ((cfg1.win 8).size a) (S301x16.size a)) (congrFun h a))
      (fun t => by rw [after1_8]; unfold X1_8; rw [Pipeline.Window.cut_fill]; unfold Dat.blockOf iblk1; rw [A1_eq]; try rfl) t d).trans
    (by unfold Dat.fetched X1_8; rw [fill1_8 t d dflt1_8]; unfold Dat.blockOf iblk1; rw [A1_eq]; try rfl)
theorem before1_9 (c : Dev nD) (t : Fin cfg1.N) (d) : (dat1 V c).before 9 t d = X1_9 V c t :=
  ((dat1 V c).before_in_eq_fetched 9 rfl (fun _ => rfl)
      (fun t t' h => funext fun a => congrArg (fun n => Pipeline.Clip.of n ((cfg1.win 9).size a) (S301x16.size a)) (congrFun h a))
      (fun t => by rw [after1_9]; unfold X1_9; rw [Pipeline.Window.cut_fill]; unfold Dat.blockOf iblk1; rw [A1_eq]; try rfl) t d).trans
    (by unfold Dat.fetched X1_9; rw [fill1_9 t d dflt1_9]; unfold Dat.blockOf iblk1; rw [A1_eq]; try rfl)
theorem before1_10 (c : Dev nD) (t : Fin cfg1.N) (d) : (dat1 V c).before 10 t d = iblk1 V c 10 t :=
  ((dat1 V c).before_in_eq_fetched 10 rfl (fun _ => rfl) (fun _ _ _ => rfl) (fun t => by rw [after1_10]; unfold Dat.blockOf iblk1; rw [A1_eq]; try rfl) t d).trans
    (by unfold Dat.fetched Dat.blockOf iblk1; rw [A1_eq]; try rfl)
theorem before1_11 (c : Dev nD) (t : Fin cfg1.N) (d) : (dat1 V c).before 11 t d = iblk1 V c 11 t :=
  ((dat1 V c).before_in_eq_fetched 11 rfl (fun _ => rfl) (fun _ _ _ => rfl) (fun t => by rw [after1_11]; unfold Dat.blockOf iblk1; rw [A1_eq]; try rfl) t d).trans
    (by unfold Dat.fetched Dat.blockOf iblk1; rw [A1_eq]; try rfl)
theorem before1_12 (c : Dev nD) (t : Fin cfg1.N) (d) : (dat1 V c).before 12 t d = iblk1 V c 12 t :=
  ((dat1 V c).before_in_eq_fetched 12 rfl (fun _ => rfl) (fun _ _ _ => rfl) (fun t => by rw [after1_12]; unfold Dat.blockOf iblk1; rw [A1_eq]; try rfl) t d).trans
    (by unfold Dat.fetched Dat.blockOf iblk1; rw [A1_eq]; try rfl)
theorem before1_13 (c : Dev nD) (t : Fin cfg1.N) (d) : (dat1 V c).before 13 t d = iblk1 V c 13 t :=
  ((dat1 V c).before_in_eq_fetched 13 rfl (fun _ => rfl) (fun _ _ _ => rfl) (fun t => by rw [after1_13]; unfold Dat.blockOf iblk1; rw [A1_eq]; try rfl) t d).trans
    (by unfold Dat.fetched Dat.blockOf iblk1; rw [A1_eq]; try rfl)
theorem before1_14 (c : Dev nD) (t : Fin cfg1.N) (d) : (dat1 V c).before 14 t d = iblk1 V c 14 t :=
  ((dat1 V c).before_in_eq_fetched 14 rfl (fun _ => rfl) (fun _ _ _ => rfl) (fun t => by rw [after1_14]; unfold Dat.blockOf iblk1; rw [A1_eq]; try rfl) t d).trans
    (by unfold Dat.fetched Dat.blockOf iblk1; rw [A1_eq]; try rfl)
theorem before1_15 (c : Dev nD) (t : Fin cfg1.N) (d) : (dat1 V c).before 15 t d = iblk1 V c 15 t :=
  ((dat1 V c).before_in_eq_fetched 15 rfl (fun _ => rfl) (fun _ _ _ => rfl) (fun t => by rw [after1_15]; unfold Dat.blockOf iblk1; rw [A1_eq]; try rfl) t d).trans
    (by unfold Dat.fetched Dat.blockOf iblk1; rw [A1_eq]; try rfl)
theorem before1_16 (c : Dev nD) (t : Fin cfg1.N) (d) : (dat1 V c).before 16 t d = iblk1 V c 16 t :=
  ((dat1 V c).before_in_eq_fetched 16 rfl (fun _ => rfl) (fun _ _ _ => rfl) (fun t => by rw [after1_16]; unfold Dat.blockOf iblk1; rw [A1_eq]; try rfl) t d).trans
    (by unfold Dat.fetched Dat.blockOf iblk1; rw [A1_eq]; try rfl)
theorem before1_17 (c : Dev nD) (t : Fin cfg1.N) (d) : (dat1 V c).before 17 t d = iblk1 V c 17 t :=
  ((dat1 V c).before_in_eq_fetched 17 rfl (fun _ => rfl) (fun _ _ _ => rfl) (fun t => by rw [after1_17]; unfold Dat.blockOf iblk1; rw [A1_eq]; try rfl) t d).trans
    (by unfold Dat.fetched Dat.blockOf iblk1; rw [A1_eq]; try rfl)
theorem before1_18 (c : Dev nD) (t : Fin cfg1.N) (d) : (dat1 V c).before 18 t d = iblk1 V c 18 t :=
  ((dat1 V c).before_in_eq_fetched 18 rfl (fun _ => rfl) (fun _ _ _ => rfl) (fun t => by rw [after1_18]; unfold Dat.blockOf iblk1; rw [A1_eq]; try rfl) t d).trans
    (by unfold Dat.fetched Dat.blockOf iblk1; rw [A1_eq]; try rfl)
theorem before1_19 (c : Dev nD) (t : Fin cfg1.N) (d) : (dat1 V c).before 19 t d = iblk1 V c 19 t :=
  ((dat1 V c).before_in_eq_fetched 19 rfl (fun _ => rfl) (fun _ _ _ => rfl) (fun t => by rw [after1_19]; unfold Dat.blockOf iblk1; rw [A1_eq]; try rfl) t d).trans
    (by unfold Dat.fetched Dat.blockOf iblk1; rw [A1_eq]; try rfl)
theorem before1_20 (c : Dev nD) (t : Fin cfg1.N) (d) : (dat1 V c).before 20 t d = iblk1 V c 20 t :=
  ((dat1 V c).before_in_eq_fetched 20 rfl (fun _ => rfl) (fun _ _ _ => rfl) (fun t => by rw [after1_20]; unfold Dat.blockOf iblk1; rw [A1_eq]; try rfl) t d).trans
    (by unfold Dat.fetched Dat.blockOf iblk1; rw [A1_eq]; try rfl)

/-! A one-block window's block is its whole array. -/

theorem iblk1_1 (c : Dev nD) (t : Fin cfg1.N) : iblk1 V c 1 t = V c main_v11_0 := by
  funext y
  show V c main_v11_0 (((cfg1.win 1).blk t).view.emb y) = V c main_v11_0 y
  refine congrArg (V c main_v11_0) (funext fun a => Fin.ext ?_)
  match a with
  | ⟨0, _⟩ => show 0 * 1 + 1 * (y 0).val = (y 0).val; omega
  | ⟨1, _⟩ => show 0 * 16 + 1 * (y 1).val = (y 1).val; omega
theorem iblk1_2 (c : Dev nD) (t : Fin cfg1.N) : iblk1 V c 2 t = V c main_v11_1 := by
  funext y
  show V c main_v11_1 (((cfg1.win 2).blk t).view.emb y) = V c main_v11_1 y
  refine congrArg (V c main_v11_1) (funext fun a => Fin.ext ?_)
  match a with
  | ⟨0, _⟩ => show 0 * 1 + 1 * (y 0).val = (y 0).val; omega
  | ⟨1, _⟩ => show 0 * 16 + 1 * (y 1).val = (y 1).val; omega
theorem iblk1_10 (c : Dev nD) (t : Fin cfg1.N) : iblk1 V c 10 t = V c main_v57 := by
  funext y
  show V c main_v57 (((cfg1.win 10).blk t).view.emb y) = V c main_v57 y
  refine congrArg (V c main_v57) (funext fun a => Fin.ext ?_)
  match a with
  | ⟨0, _⟩ => show 0 * 240 + 1 * (y 0).val = (y 0).val; omega
  | ⟨1, _⟩ => show 0 * 2048 + 1 * (y 1).val = (y 1).val; omega
theorem iblk1_11 (c : Dev nD) (t : Fin cfg1.N) : iblk1 V c 11 t = V c main_v58 := by
  funext y
  show V c main_v58 (((cfg1.win 11).blk t).view.emb y) = V c main_v58 y
  refine congrArg (V c main_v58) (funext fun a => Fin.ext ?_)
  match a with
  | ⟨0, _⟩ => show 0 * 512 + 1 * (y 0).val = (y 0).val; omega
  | ⟨1, _⟩ => show 0 * 2048 + 1 * (y 1).val = (y 1).val; omega
theorem iblk1_12 (c : Dev nD) (t : Fin cfg1.N) : iblk1 V c 12 t = V c main_v60 := by
  funext y
  show V c main_v60 (((cfg1.win 12).blk t).view.emb y) = V c main_v60 y
  refine congrArg (V c main_v60) (funext fun a => Fin.ext ?_)
  match a with
  | ⟨0, _⟩ => show 0 * 1 + 1 * (y 0).val = (y 0).val; omega
  | ⟨1, _⟩ => show 0 * 2048 + 1 * (y 1).val = (y 1).val; omega
theorem iblk1_13 (c : Dev nD) (t : Fin cfg1.N) : iblk1 V c 13 t = V c main_v61 := by
  funext y
  show V c main_v61 (((cfg1.win 13).blk t).view.emb y) = V c main_v61 y
  refine congrArg (V c main_v61) (funext fun a => Fin.ext ?_)
  match a with
  | ⟨0, _⟩ => show 0 * 1 + 1 * (y 0).val = (y 0).val; omega
  | ⟨1, _⟩ => show 0 * 512 + 1 * (y 1).val = (y 1).val; omega
theorem iblk1_14 (c : Dev nD) (t : Fin cfg1.N) : iblk1 V c 14 t = V c main_v62 := by
  funext y
  show V c main_v62 (((cfg1.win 14).blk t).view.emb y) = V c main_v62 y
  refine congrArg (V c main_v62) (funext fun a => Fin.ext ?_)
  match a with
  | ⟨0, _⟩ => show 0 * 1 + 1 * (y 0).val = (y 0).val; omega
  | ⟨1, _⟩ => show 0 * 512 + 1 * (y 1).val = (y 1).val; omega
theorem iblk1_15 (c : Dev nD) (t : Fin cfg1.N) : iblk1 V c 15 t = V c main_v63 := by
  funext y
  show V c main_v63 (((cfg1.win 15).blk t).view.emb y) = V c main_v63 y
  refine congrArg (V c main_v63) (funext fun a => Fin.ext ?_)
  match a with
  | ⟨0, _⟩ => show 0 * 512 + 1 * (y 0).val = (y 0).val; omega
  | ⟨1, _⟩ => show 0 * 256 + 1 * (y 1).val = (y 1).val; omega
theorem iblk1_16 (c : Dev nD) (t : Fin cfg1.N) : iblk1 V c 16 t = V c main_v64 := by
  funext y
  show V c main_v64 (((cfg1.win 16).blk t).view.emb y) = V c main_v64 y
  refine congrArg (V c main_v64) (funext fun a => Fin.ext ?_)
  match a with
  | ⟨0, _⟩ => show 0 * 1 + 1 * (y 0).val = (y 0).val; omega
  | ⟨1, _⟩ => show 0 * 256 + 1 * (y 1).val = (y 1).val; omega
theorem iblk1_17 (c : Dev nD) (t : Fin cfg1.N) : iblk1 V c 17 t = V c main_v65 := by
  funext y
  show V c main_v65 (((cfg1.win 17).blk t).view.emb y) = V c main_v65 y
  refine congrArg (V c main_v65) (funext fun a => Fin.ext ?_)
  match a with
  | ⟨0, _⟩ => show 0 * 1 + 1 * (y 0).val = (y 0).val; omega
  | ⟨1, _⟩ => show 0 * 256 + 1 * (y 1).val = (y 1).val; omega
theorem iblk1_18 (c : Dev nD) (t : Fin cfg1.N) : iblk1 V c 18 t = V c main_v66 := by
  funext y
  show V c main_v66 (((cfg1.win 18).blk t).view.emb y) = V c main_v66 y
  refine congrArg (V c main_v66) (funext fun a => Fin.ext ?_)
  match a with
  | ⟨0, _⟩ => show 0 * 1 + 1 * (y 0).val = (y 0).val; omega
  | ⟨1, _⟩ => show 0 * 256 + 1 * (y 1).val = (y 1).val; omega
theorem iblk1_19 (c : Dev nD) (t : Fin cfg1.N) : iblk1 V c 19 t = V c main_arg22 := by
  funext y
  show V c main_arg22 (((cfg1.win 19).blk t).view.emb y) = V c main_arg22 y
  refine congrArg (V c main_arg22) (funext fun a => Fin.ext ?_)
  match a with
  | ⟨0, _⟩ => show 0 * 1 + 1 * (y 0).val = (y 0).val; omega
  | ⟨1, _⟩ => show 0 * 256 + 1 * (y 1).val = (y 1).val; omega
theorem iblk1_20 (c : Dev nD) (t : Fin cfg1.N) : iblk1 V c 20 t = V c main_v67 := by
  funext y
  show V c main_v67 (((cfg1.win 20).blk t).view.emb y) = V c main_v67 y
  refine congrArg (V c main_v67) (funext fun a => Fin.ext ?_)
  match a with
  | ⟨0, _⟩ => show 0 * 1 + 1 * (y 0).val = (y 0).val; omega
  | ⟨1, _⟩ => show 0 * 1 + 1 * (y 1).val = (y 1).val; omega

/-! A table window's buffer holds the table's first eight rows. -/

theorem tab1_3 (c : Dev nD) (t : Fin cfg1.N) (y : S8x32.Idx) (h : (y 0).val < 13526) :
    X1_3 V c t y = V c main_arg1 (ix2 ⟨(y 0).val, h⟩ (y 1)) := by
  unfold X1_3 Pipeline.Window.fill
  rw [dif_pos (moved1_3 t y)]
  show V c main_arg1 (((cfg1.win 3).blk t).view.emb _) = _
  refine congrArg (V c main_arg1) (funext fun a => Fin.ext ?_)
  match a with
  | ⟨0, _⟩ => show 0 * 8 + 1 * (y 0).val = (y 0).val; omega
  | ⟨1, _⟩ => show 0 * 32 + 1 * (y 1).val = (y 1).val; omega
theorem tab1_4 (c : Dev nD) (t : Fin cfg1.N) (y : S8x32.Idx) (h : (y 0).val < 13526) :
    X1_4 V c t y = V c main_arg2 (ix2 ⟨(y 0).val, h⟩ (y 1)) := by
  unfold X1_4 Pipeline.Window.fill
  rw [dif_pos (moved1_4 t y)]
  show V c main_arg2 (((cfg1.win 4).blk t).view.emb _) = _
  refine congrArg (V c main_arg2) (funext fun a => Fin.ext ?_)
  match a with
  | ⟨0, _⟩ => show 0 * 8 + 1 * (y 0).val = (y 0).val; omega
  | ⟨1, _⟩ => show 0 * 32 + 1 * (y 1).val = (y 1).val; omega
theorem tab1_6 (c : Dev nD) (t : Fin cfg1.N) (y : S8x4.Idx) (h : (y 0).val < 9) :
    X1_6 V c t y = V c main_arg4 (ix2 ⟨(y 0).val, h⟩ (y 1)) := by
  unfold X1_6 Pipeline.Window.fill
  rw [dif_pos (moved1_6 t y)]
  show V c main_arg4 (((cfg1.win 6).blk t).view.emb _) = _
  refine congrArg (V c main_arg4) (funext fun a => Fin.ext ?_)
  match a with
  | ⟨0, _⟩ => show 0 * 8 + 1 * (y 0).val = (y 0).val; omega
  | ⟨1, _⟩ => show 0 * 4 + 1 * (y 1).val = (y 1).val; omega
theorem tab1_7 (c : Dev nD) (t : Fin cfg1.N) (y : S8x16.Idx) (h : (y 0).val < 190) :
    X1_7 V c t y = V c main_arg5 (ix2 ⟨(y 0).val, h⟩ (y 1)) := by
  unfold X1_7 Pipeline.Window.fill
  rw [dif_pos (moved1_7 t y)]
  show V c main_arg5 (((cfg1.win 7).blk t).view.emb _) = _
  refine congrArg (V c main_arg5) (funext fun a => Fin.ext ?_)
  match a with
  | ⟨0, _⟩ => show 0 * 8 + 1 * (y 0).val = (y 0).val; omega
  | ⟨1, _⟩ => show 0 * 16 + 1 * (y 1).val = (y 1).val; omega
theorem tab1_8 (c : Dev nD) (t : Fin cfg1.N) (y : S8x16.Idx) (h : (y 0).val < 301) :
    X1_8 V c t y = V c main_arg6 (ix2 ⟨(y 0).val, h⟩ (y 1)) := by
  unfold X1_8 Pipeline.Window.fill
  rw [dif_pos (moved1_8 t y)]
  show V c main_arg6 (((cfg1.win 8).blk t).view.emb _) = _
  refine congrArg (V c main_arg6) (funext fun a => Fin.ext ?_)
  match a with
  | ⟨0, _⟩ => show 0 * 8 + 1 * (y 0).val = (y 0).val; omega
  | ⟨1, _⟩ => show 0 * 16 + 1 * (y 1).val = (y 1).val; omega
theorem tab1_9 (c : Dev nD) (t : Fin cfg1.N) (y : S8x16.Idx) (h : (y 0).val < 301) :
    X1_9 V c t y = V c main_arg7 (ix2 ⟨(y 0).val, h⟩ (y 1)) := by
  unfold X1_9 Pipeline.Window.fill
  rw [dif_pos (moved1_9 t y)]
  show V c main_arg7 (((cfg1.win 9).blk t).view.emb _) = _
  refine congrArg (V c main_arg7) (funext fun a => Fin.ext ?_)
  match a with
  | ⟨0, _⟩ => show 0 * 8 + 1 * (y 0).val = (y 0).val; omega
  | ⟨1, _⟩ => show 0 * 16 + 1 * (y 1).val = (y 1).val; omega
theorem tab1_5 (c : Dev nD) (t : Fin cfg1.N) (y : S8x5.Idx) (h : (y 0).val < 54104) :
    iblk1 V c 5 t y = V c main_arg3 (ix2 ⟨(y 0).val, h⟩ (y 1)) := by
  show V c main_arg3 (((cfg1.win 5).blk t).view.emb _) = _
  refine congrArg (V c main_arg3) (funext fun a => Fin.ext ?_)
  match a with
  | ⟨0, _⟩ => show 0 * 8 + 1 * (y 0).val = (y 0).val; omega
  | ⟨1, _⟩ => show 0 * 5 + 1 * (y 1).val = (y 1).val; omega

/-- The block read at point `t` is row `t` of the padded inputs. -/
theorem iblk1_0 (c : Dev nD) (t : Fin cfg1.N) (y : S1x1024x16.Idx) (h : t.val < 200) :
    iblk1 V c 0 t y = V c main_v4 (ix3 ⟨t.val, h⟩ (y 1) (y 2)) := by
  have hi : ∀ t : Fin grid1.N, win1_0.index t (0 : Fin 3) = t.val ∧ win1_0.index t (1 : Fin 3) = 0 ∧ win1_0.index t (2 : Fin 3) = 0 := by decide +kernel
  show V c main_v4 (((cfg1.win 0).blk t).view.emb y) = _
  refine congrArg (V c main_v4) (funext fun a => Fin.ext ?_)
  match a with
  | ⟨0, _⟩ => have h0 : (y 0).val < 1 := (y 0).isLt; show win1_0.index t (0 : Fin 3) * 1 + 1 * (y 0).val = t.val; rw [(hi t).1]; omega
  | ⟨1, _⟩ => show win1_0.index t (1 : Fin 3) * 1024 + 1 * (y 1).val = (y 1).val; rw [(hi t).2.1]; omega
  | ⟨2, _⟩ => show win1_0.index t (2 : Fin 3) * 16 + 1 * (y 2).val = (y 2).val; rw [(hi t).2.2]; omega

/-! ## The conditions' closed forms and where the result window is live -/

theorem hfirst1 (t : Fin cfg1.N) : first1 (grid1.coords t) ↔ t.val = 0 := by
  have ht : t.val < 200 := Nat.lt_of_lt_of_eq t.isLt N_1
  have e0 : (grid1.coords t 0).val = t.val / 1 % 200 := Pipeline.Grid.coords_val t 0 (by decide) rfl
  simp only [first1, e0]
  word_cmp
theorem hlast1 (t : Fin cfg1.N) : last1 (grid1.coords t) ↔ t.val = 199 := by
  have ht : t.val < 200 := Nat.lt_of_lt_of_eq t.isLt N_1
  have e0 : (grid1.coords t 0).val = t.val / 1 % 200 := Pipeline.Grid.coords_val t 0 (by decide) rfl
  simp only [last1, k1_cond2, e0]
  word_cmp

theorem idle1_21 : ∀ t : Fin cfg1.N, t.val ≠ 199 → cfg1.idle 21 (grid1.coords t) = true := (by decide +kernel : ∀ t : Fin grid1.N, _)
theorem noFlush1_21 : ∀ t : Fin cfg1.N, t.val ≠ 199 → (cfg1.win 21).flush t = false := (by decide +kernel : ∀ t : Fin grid1.N, _)
theorem live1_21 : ∀ t : Fin cfg1.N, t.val = 199 → cfg1.idle 21 (grid1.coords t) = false := (by decide +kernel : ∀ t : Fin grid1.N, _)

abbrev ms1_0 (t : Fin cfg1.N) : Memref sig .tc .vmem S1x1024x16 .f32 := win1_0.stage (cfg1.slots t 0)
abbrev ms1_1 (t : Fin cfg1.N) : Memref sig .tc .vmem S1x16 .f32 := win1_1.stage (cfg1.slots t 1)
abbrev ms1_2 (t : Fin cfg1.N) : Memref sig .tc .vmem S1x16 .f32 := win1_2.stage (cfg1.slots t 2)
abbrev ms1_3 (t : Fin cfg1.N) : Memref sig .tc .vmem S8x32 .f32 := win1_3.stage (cfg1.slots t 3)
abbrev ms1_4 (t : Fin cfg1.N) : Memref sig .tc .vmem S8x32 .f32 := win1_4.stage (cfg1.slots t 4)
abbrev ms1_5 (t : Fin cfg1.N) : Memref sig .tc .vmem S8x5 .f32 := win1_5.stage (cfg1.slots t 5)
abbrev ms1_6 (t : Fin cfg1.N) : Memref sig .tc .vmem S8x4 .f32 := win1_6.stage (cfg1.slots t 6)
abbrev ms1_7 (t : Fin cfg1.N) : Memref sig .tc .vmem S8x16 .f32 := win1_7.stage (cfg1.slots t 7)
abbrev ms1_8 (t : Fin cfg1.N) : Memref sig .tc .vmem S8x16 .f32 := win1_8.stage (cfg1.slots t 8)
abbrev ms1_9 (t : Fin cfg1.N) : Memref sig .tc .vmem S8x16 .f32 := win1_9.stage (cfg1.slots t 9)
abbrev ms1_10 (t : Fin cfg1.N) : Memref sig .tc .vmem S240x2048 .f32 := win1_10.stage (cfg1.slots t 10)
abbrev ms1_11 (t : Fin cfg1.N) : Memref sig .tc .vmem S512x2048 .f32 := win1_11.stage (cfg1.slots t 11)
abbrev ms1_12 (t : Fin cfg1.N) : Memref sig .tc .vmem S1x2048 .f32 := win1_12.stage (cfg1.slots t 12)
abbrev ms1_13 (t : Fin cfg1.N) : Memref sig .tc .vmem S1x512 .f32 := win1_13.stage (cfg1.slots t 13)
abbrev ms1_14 (t : Fin cfg1.N) : Memref sig .tc .vmem S1x512 .f32 := win1_14.stage (cfg1.slots t 14)
abbrev ms1_15 (t : Fin cfg1.N) : Memref sig .tc .vmem S512x256 .f32 := win1_15.stage (cfg1.slots t 15)
abbrev ms1_16 (t : Fin cfg1.N) : Memref sig .tc .vmem S1x256 .f32 := win1_16.stage (cfg1.slots t 16)
abbrev ms1_17 (t : Fin cfg1.N) : Memref sig .tc .vmem S1x256 .f32 := win1_17.stage (cfg1.slots t 17)
abbrev ms1_18 (t : Fin cfg1.N) : Memref sig .tc .vmem S1x256 .f32 := win1_18.stage (cfg1.slots t 18)
abbrev ms1_19 (t : Fin cfg1.N) : Memref sig .tc .vmem S1x256 .f32 := win1_19.stage (cfg1.slots t 19)
abbrev ms1_20 (t : Fin cfg1.N) : Memref sig .tc .vmem S1x1 .f32 := win1_20.stage (cfg1.slots t 20)
abbrev ms1_21 (t : Fin cfg1.N) : Memref sig .tc .vmem S1024x1 .f32 := win1_21.stage (cfg1.slots t 21)

/-- What the body is called with at point `t`. -/
def bodyPre1 (c : Dev nD) (t : Fin cfg1.N) : sProp 𝕄 :=
  iprop((dat1 V c).Φ t.castSucc ∗ (dat1 V c).owesAt () t.castSucc
    ∗ (∃ d, owns (c : Thread nD τ) (ms1_0 t) fullShare ((dat1 V c).before 0 t d))
    ∗ (∃ d, owns (c : Thread nD τ) (ms1_1 t) fullShare ((dat1 V c).before 1 t d))
    ∗ (∃ d, owns (c : Thread nD τ) (ms1_2 t) fullShare ((dat1 V c).before 2 t d))
    ∗ (∃ d, owns (c : Thread nD τ) (ms1_3 t) fullShare ((dat1 V c).before 3 t d))
    ∗ (∃ d, owns (c : Thread nD τ) (ms1_4 t) fullShare ((dat1 V c).before 4 t d))
    ∗ (∃ d, owns (c : Thread nD τ) (ms1_5 t) fullShare ((dat1 V c).before 5 t d))
    ∗ (∃ d, owns (c : Thread nD τ) (ms1_6 t) fullShare ((dat1 V c).before 6 t d))
    ∗ (∃ d, owns (c : Thread nD τ) (ms1_7 t) fullShare ((dat1 V c).before 7 t d))
    ∗ (∃ d, owns (c : Thread nD τ) (ms1_8 t) fullShare ((dat1 V c).before 8 t d))
    ∗ (∃ d, owns (c : Thread nD τ) (ms1_9 t) fullShare ((dat1 V c).before 9 t d))
    ∗ (∃ d, owns (c : Thread nD τ) (ms1_10 t) fullShare ((dat1 V c).before 10 t d))
    ∗ (∃ d, owns (c : Thread nD τ) (ms1_11 t) fullShare ((dat1 V c).before 11 t d))
    ∗ (∃ d, owns (c : Thread nD τ) (ms1_12 t) fullShare ((dat1 V c).before 12 t d))
    ∗ (∃ d, owns (c : Thread nD τ) (ms1_13 t) fullShare ((dat1 V c).before 13 t d))
    ∗ (∃ d, owns (c : Thread nD τ) (ms1_14 t) fullShare ((dat1 V c).before 14 t d))
    ∗ (∃ d, owns (c : Thread nD τ) (ms1_15 t) fullShare ((dat1 V c).before 15 t d))
    ∗ (∃ d, owns (c : Thread nD τ) (ms1_16 t) fullShare ((dat1 V c).before 16 t d))
    ∗ (∃ d, owns (c : Thread nD τ) (ms1_17 t) fullShare ((dat1 V c).before 17 t d))
    ∗ (∃ d, owns (c : Thread nD τ) (ms1_18 t) fullShare ((dat1 V c).before 18 t d))
    ∗ (∃ d, owns (c : Thread nD τ) (ms1_19 t) fullShare ((dat1 V c).before 19 t d))
    ∗ (∃ d, owns (c : Thread nD τ) (ms1_20 t) fullShare ((dat1 V c).before 20 t d))
    ∗ (∃ d, owns (c : Thread nD τ) (ms1_21 t) fullShare ((dat1 V c).before 21 t d)))

/-- What the body returns at point `t`. -/
def bodyPost1 (c : Dev nD) (t : Fin cfg1.N) : sProp 𝕄 :=
  iprop((dat1 V c).Φ t.succ ∗ (dat1 V c).owesAt () t.succ
    ∗ (dat1 V c).leavesExact 0 t
    ∗ (dat1 V c).leavesExact 1 t
    ∗ (dat1 V c).leavesExact 2 t
    ∗ (dat1 V c).leavesExact 3 t
    ∗ (dat1 V c).leavesExact 4 t
    ∗ (dat1 V c).leavesExact 5 t
    ∗ (dat1 V c).leavesExact 6 t
    ∗ (dat1 V c).leavesExact 7 t
    ∗ (dat1 V c).leavesExact 8 t
    ∗ (dat1 V c).leavesExact 9 t
    ∗ (dat1 V c).leavesExact 10 t
    ∗ (dat1 V c).leavesExact 11 t
    ∗ (dat1 V c).leavesExact 12 t
    ∗ (dat1 V c).leavesExact 13 t
    ∗ (dat1 V c).leavesExact 14 t
    ∗ (dat1 V c).leavesExact 15 t
    ∗ (dat1 V c).leavesExact 16 t
    ∗ (dat1 V c).leavesExact 17 t
    ∗ (dat1 V c).leavesExact 18 t
    ∗ (dat1 V c).leavesExact 19 t
    ∗ (dat1 V c).leavesExact 20 t
    ∗ (dat1 V c).leavesExact 21 t)
theorem leaves1_0 (c : Dev nD) (t : Fin cfg1.N) : (dat1 V c).leavesExact 0 t = owns (c : Thread nD τ) (ms1_0 t) fullShare (iblk1 V c 0 t) := by
  unfold Dat.leavesExact; rw [show cfg1.idle 0 (grid1.coords t) = false from rfl, after1_0]
theorem leaves1_1 (c : Dev nD) (t : Fin cfg1.N) : (dat1 V c).leavesExact 1 t = owns (c : Thread nD τ) (ms1_1 t) fullShare (V c main_v11_0) := by
  unfold Dat.leavesExact; rw [show cfg1.idle 1 (grid1.coords t) = false from rfl, after1_1, iblk1_1]
theorem bef1_1 (c : Dev nD) (t : Fin cfg1.N) (d) : (dat1 V c).before 1 t d = V c main_v11_0 := (before1_1 V c t d).trans (iblk1_1 V c t)
theorem leaves1_2 (c : Dev nD) (t : Fin cfg1.N) : (dat1 V c).leavesExact 2 t = owns (c : Thread nD τ) (ms1_2 t) fullShare (V c main_v11_1) := by
  unfold Dat.leavesExact; rw [show cfg1.idle 2 (grid1.coords t) = false from rfl, after1_2, iblk1_2]
theorem bef1_2 (c : Dev nD) (t : Fin cfg1.N) (d) : (dat1 V c).before 2 t d = V c main_v11_1 := (before1_2 V c t d).trans (iblk1_2 V c t)
theorem leaves1_3 (c : Dev nD) (t : Fin cfg1.N) : (dat1 V c).leavesExact 3 t = owns (c : Thread nD τ) (ms1_3 t) fullShare (X1_3 V c t) := by
  unfold Dat.leavesExact; rw [show cfg1.idle 3 (grid1.coords t) = false from rfl, after1_3]
theorem leaves1_4 (c : Dev nD) (t : Fin cfg1.N) : (dat1 V c).leavesExact 4 t = owns (c : Thread nD τ) (ms1_4 t) fullShare (X1_4 V c t) := by
  unfold Dat.leavesExact; rw [show cfg1.idle 4 (grid1.coords t) = false from rfl, after1_4]
theorem leaves1_5 (c : Dev nD) (t : Fin cfg1.N) : (dat1 V c).leavesExact 5 t = owns (c : Thread nD τ) (ms1_5 t) fullShare (iblk1 V c 5 t) := by
  unfold Dat.leavesExact; rw [show cfg1.idle 5 (grid1.coords t) = false from rfl, after1_5]
theorem leaves1_6 (c : Dev nD) (t : Fin cfg1.N) : (dat1 V c).leavesExact 6 t = owns (c : Thread nD τ) (ms1_6 t) fullShare (X1_6 V c t) := by
  unfold Dat.leavesExact; rw [show cfg1.idle 6 (grid1.coords t) = false from rfl, after1_6]
theorem leaves1_7 (c : Dev nD) (t : Fin cfg1.N) : (dat1 V c).leavesExact 7 t = owns (c : Thread nD τ) (ms1_7 t) fullShare (X1_7 V c t) := by
  unfold Dat.leavesExact; rw [show cfg1.idle 7 (grid1.coords t) = false from rfl, after1_7]
theorem leaves1_8 (c : Dev nD) (t : Fin cfg1.N) : (dat1 V c).leavesExact 8 t = owns (c : Thread nD τ) (ms1_8 t) fullShare (X1_8 V c t) := by
  unfold Dat.leavesExact; rw [show cfg1.idle 8 (grid1.coords t) = false from rfl, after1_8]
theorem leaves1_9 (c : Dev nD) (t : Fin cfg1.N) : (dat1 V c).leavesExact 9 t = owns (c : Thread nD τ) (ms1_9 t) fullShare (X1_9 V c t) := by
  unfold Dat.leavesExact; rw [show cfg1.idle 9 (grid1.coords t) = false from rfl, after1_9]
theorem leaves1_10 (c : Dev nD) (t : Fin cfg1.N) : (dat1 V c).leavesExact 10 t = owns (c : Thread nD τ) (ms1_10 t) fullShare (V c main_v57) := by
  unfold Dat.leavesExact; rw [show cfg1.idle 10 (grid1.coords t) = false from rfl, after1_10, iblk1_10]
theorem bef1_10 (c : Dev nD) (t : Fin cfg1.N) (d) : (dat1 V c).before 10 t d = V c main_v57 := (before1_10 V c t d).trans (iblk1_10 V c t)
theorem leaves1_11 (c : Dev nD) (t : Fin cfg1.N) : (dat1 V c).leavesExact 11 t = owns (c : Thread nD τ) (ms1_11 t) fullShare (V c main_v58) := by
  unfold Dat.leavesExact; rw [show cfg1.idle 11 (grid1.coords t) = false from rfl, after1_11, iblk1_11]
theorem bef1_11 (c : Dev nD) (t : Fin cfg1.N) (d) : (dat1 V c).before 11 t d = V c main_v58 := (before1_11 V c t d).trans (iblk1_11 V c t)
theorem leaves1_12 (c : Dev nD) (t : Fin cfg1.N) : (dat1 V c).leavesExact 12 t = owns (c : Thread nD τ) (ms1_12 t) fullShare (V c main_v60) := by
  unfold Dat.leavesExact; rw [show cfg1.idle 12 (grid1.coords t) = false from rfl, after1_12, iblk1_12]
theorem bef1_12 (c : Dev nD) (t : Fin cfg1.N) (d) : (dat1 V c).before 12 t d = V c main_v60 := (before1_12 V c t d).trans (iblk1_12 V c t)
theorem leaves1_13 (c : Dev nD) (t : Fin cfg1.N) : (dat1 V c).leavesExact 13 t = owns (c : Thread nD τ) (ms1_13 t) fullShare (V c main_v61) := by
  unfold Dat.leavesExact; rw [show cfg1.idle 13 (grid1.coords t) = false from rfl, after1_13, iblk1_13]
theorem bef1_13 (c : Dev nD) (t : Fin cfg1.N) (d) : (dat1 V c).before 13 t d = V c main_v61 := (before1_13 V c t d).trans (iblk1_13 V c t)
theorem leaves1_14 (c : Dev nD) (t : Fin cfg1.N) : (dat1 V c).leavesExact 14 t = owns (c : Thread nD τ) (ms1_14 t) fullShare (V c main_v62) := by
  unfold Dat.leavesExact; rw [show cfg1.idle 14 (grid1.coords t) = false from rfl, after1_14, iblk1_14]
theorem bef1_14 (c : Dev nD) (t : Fin cfg1.N) (d) : (dat1 V c).before 14 t d = V c main_v62 := (before1_14 V c t d).trans (iblk1_14 V c t)
theorem leaves1_15 (c : Dev nD) (t : Fin cfg1.N) : (dat1 V c).leavesExact 15 t = owns (c : Thread nD τ) (ms1_15 t) fullShare (V c main_v63) := by
  unfold Dat.leavesExact; rw [show cfg1.idle 15 (grid1.coords t) = false from rfl, after1_15, iblk1_15]
theorem bef1_15 (c : Dev nD) (t : Fin cfg1.N) (d) : (dat1 V c).before 15 t d = V c main_v63 := (before1_15 V c t d).trans (iblk1_15 V c t)
theorem leaves1_16 (c : Dev nD) (t : Fin cfg1.N) : (dat1 V c).leavesExact 16 t = owns (c : Thread nD τ) (ms1_16 t) fullShare (V c main_v64) := by
  unfold Dat.leavesExact; rw [show cfg1.idle 16 (grid1.coords t) = false from rfl, after1_16, iblk1_16]
theorem bef1_16 (c : Dev nD) (t : Fin cfg1.N) (d) : (dat1 V c).before 16 t d = V c main_v64 := (before1_16 V c t d).trans (iblk1_16 V c t)
theorem leaves1_17 (c : Dev nD) (t : Fin cfg1.N) : (dat1 V c).leavesExact 17 t = owns (c : Thread nD τ) (ms1_17 t) fullShare (V c main_v65) := by
  unfold Dat.leavesExact; rw [show cfg1.idle 17 (grid1.coords t) = false from rfl, after1_17, iblk1_17]
theorem bef1_17 (c : Dev nD) (t : Fin cfg1.N) (d) : (dat1 V c).before 17 t d = V c main_v65 := (before1_17 V c t d).trans (iblk1_17 V c t)
theorem leaves1_18 (c : Dev nD) (t : Fin cfg1.N) : (dat1 V c).leavesExact 18 t = owns (c : Thread nD τ) (ms1_18 t) fullShare (V c main_v66) := by
  unfold Dat.leavesExact; rw [show cfg1.idle 18 (grid1.coords t) = false from rfl, after1_18, iblk1_18]
theorem bef1_18 (c : Dev nD) (t : Fin cfg1.N) (d) : (dat1 V c).before 18 t d = V c main_v66 := (before1_18 V c t d).trans (iblk1_18 V c t)
theorem leaves1_19 (c : Dev nD) (t : Fin cfg1.N) : (dat1 V c).leavesExact 19 t = owns (c : Thread nD τ) (ms1_19 t) fullShare (V c main_arg22) := by
  unfold Dat.leavesExact; rw [show cfg1.idle 19 (grid1.coords t) = false from rfl, after1_19, iblk1_19]
theorem bef1_19 (c : Dev nD) (t : Fin cfg1.N) (d) : (dat1 V c).before 19 t d = V c main_arg22 := (before1_19 V c t d).trans (iblk1_19 V c t)
theorem leaves1_20 (c : Dev nD) (t : Fin cfg1.N) : (dat1 V c).leavesExact 20 t = owns (c : Thread nD τ) (ms1_20 t) fullShare (V c main_v67) := by
  unfold Dat.leavesExact; rw [show cfg1.idle 20 (grid1.coords t) = false from rfl, after1_20, iblk1_20]
theorem bef1_20 (c : Dev nD) (t : Fin cfg1.N) (d) : (dat1 V c).before 20 t d = V c main_v67 := (before1_20 V c t d).trans (iblk1_20 V c t)

set_option maxHeartbeats 8000000 in
/-- The recurrence body strictly between the first and the last point. -/
theorem sound1B (c : Dev nD) (t : Fin cfg1.N) (h0 : t.val ≠ 0) (h1 : t.val ≠ 199) :
    bodyPre1 V c t ⊢ wp frame (wpE (defs₀ (F := F)) Variants.none c none) Set.univ (bodyAt1 t) (fun _ => bodyPost1 V c t) := by
  unfold bodyPre1 bodyPost1 bodyAt1
  simp only [before1_0, bef1_1, bef1_2, before1_3, before1_4, before1_5, before1_6, before1_7, before1_8, before1_9, bef1_10, bef1_11, bef1_12, bef1_13, bef1_14, bef1_15, bef1_16, bef1_17, bef1_18, bef1_19, bef1_20]
  rw [show (dat1 V c).owesAt () t.succ = (dat1 V c).owesAt () t.castSucc from rfl]
  rw [show (dat1 V c).Φ t.succ = Phi1 V c (t.val + 1) from rfl, show (dat1 V c).Φ t.castSucc = Phi1 V c t.val from rfl]
  have hN : t.val < 200 := lt_of_lt_of_eq t.isLt (show cfg1.N = 200 from N_1)
  rw [leaves1_0, leaves1_1, leaves1_2, leaves1_3, leaves1_4, leaves1_5, leaves1_6, leaves1_7, leaves1_8, leaves1_9, leaves1_10, leaves1_11, leaves1_12, leaves1_13, leaves1_14, leaves1_15, leaves1_16, leaves1_17, leaves1_18, leaves1_19, leaves1_20]
  unfold Phi1
  rw [Dat.leavesExact_idle (dat1 V c) 21 t (idle1_21 t h1) (noFlush1_21 t h1)]
  simp only [st, xAt_val]
  iintro ⟨⟨⟨%h, %cc, %r, %hs, HA, HB, HC⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩, ⟨%d14, H14⟩, ⟨%d15, H15⟩, ⟨%d16, H16⟩, ⟨%d17, H17⟩, ⟨%d18, H18⟩, ⟨%d19, H19⟩, ⟨%d20, H20⟩, ⟨%d21, H21⟩⟩
  obtain ⟨rfl, rfl, rfl⟩ := hs h0
  iapply (run1B c (grid1.coords t) _ _ _ _ _ _ _ _ _ _ _ _ _ _ _ _ _ _ _ _ _ _ _ _ _ _ _ _ _ _ _ _ _ _ _ _ _ _ _ _ _ _ _ _ _ _ _ _ _ _ (fun h => h0 ((hfirst1 t).mp h)) (fun h => h1 ((hlast1 t).mp h)) (iblk1 V c 0 t) (V c main_v11_0) (V c main_v11_1) (V c main_v57) (V c main_v58) (st V c t.val).1 (st V c t.val).2 (rowV V c) Set.univ _)
  isplitl [H0]; · iexact H0
  isplitl [H1]; · iexact H1
  isplitl [H2]; · iexact H2
  isplitl [H10]; · iexact H10
  isplitl [H11]; · iexact H11
  isplitl [HA]; · iexact HA
  isplitl [HB]; · iexact HB
  isplitl [HC]; · iexact HC
  iintro ⟨H0, H1, H2, H10, H11, HA, HB, HC⟩
  isplitl [HA HB HC Hg]
  · isplitl [HA HB HC]
    · iexists _; iexists _; iexists _; isplitr
      swap
      · isplitl [HA]; · iexact HA
        isplitl [HB]; · iexact HB
        iexact HC
      ipureintro; exact fun _ => ⟨rfl, rfl, rfl⟩
    iexact Hg
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [H14]; · iexact H14
  isplitl [H15]; · iexact H15
  isplitl [H16]; · iexact H16
  isplitl [H17]; · iexact H17
  isplitl [H18]; · iexact H18
  isplitl [H19]; · iexact H19
  isplitl [H20]; · iexact H20
  iexists _; iexact H21

set_option maxHeartbeats 8000000 in
/-- The recurrence body at the first point. -/
theorem sound1A (c : Dev nD) (t : Fin cfg1.N) (h0 : t.val = 0) (h1 : t.val ≠ 199) :
    bodyPre1 V c t ⊢ wp frame (wpE (defs₀ (F := F)) Variants.none c none) Set.univ (bodyAt1 t) (fun _ => bodyPost1 V c t) := by
  unfold bodyPre1 bodyPost1 bodyAt1
  simp only [before1_0, bef1_1, bef1_2, before1_3, before1_4, before1_5, before1_6, before1_7, before1_8, before1_9, bef1_10, bef1_11, bef1_12, bef1_13, bef1_14, bef1_15, bef1_16, bef1_17, bef1_18, bef1_19, bef1_20]
  rw [show (dat1 V c).owesAt () t.succ = (dat1 V c).owesAt () t.castSucc from rfl]
  rw [show (dat1 V c).Φ t.succ = Phi1 V c (t.val + 1) from rfl, show (dat1 V c).Φ t.castSucc = Phi1 V c t.val from rfl]
  have hN : t.val < 200 := lt_of_lt_of_eq t.isLt (show cfg1.N = 200 from N_1)
  rw [leaves1_0, leaves1_1, leaves1_2, leaves1_3, leaves1_4, leaves1_5, leaves1_6, leaves1_7, leaves1_8, leaves1_9, leaves1_10, leaves1_11, leaves1_12, leaves1_13, leaves1_14, leaves1_15, leaves1_16, leaves1_17, leaves1_18, leaves1_19, leaves1_20]
  unfold Phi1
  rw [Dat.leavesExact_idle (dat1 V c) 21 t (idle1_21 t h1) (noFlush1_21 t h1)]
  have ht : t = t0_1 := Fin.ext h0
  rw [h0]
  unfold st
  rw [show xAt V c 0 = iblk1 V c 0 t from by rw [← xAt_val, h0]]
  unfold st rowV
  rw [← ht]
  iintro ⟨⟨⟨%h, %cc, %r, %hs, HA, HB, HC⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩, ⟨%d14, H14⟩, ⟨%d15, H15⟩, ⟨%d16, H16⟩, ⟨%d17, H17⟩, ⟨%d18, H18⟩, ⟨%d19, H19⟩, ⟨%d20, H20⟩, ⟨%d21, H21⟩⟩
  iapply (run1A c (grid1.coords t) _ _ _ _ _ _ _ _ _ _ _ _ _ _ _ _ _ _ _ _ _ _ _ _ _ _ _ _ _ _ _ _ _ _ _ _ _ _ _ _ _ _ _ _ _ _ _ _ _ _ ((hfirst1 t).mpr h0) (fun h => h1 ((hlast1 t).mp h)) (iblk1 V c 0 t) (V c main_v11_0) (V c main_v11_1) (X1_3 V c t) (X1_4 V c t) (iblk1 V c 5 t) (X1_6 V c t) (X1_7 V c t) (X1_8 V c t) (X1_9 V c t) (V c main_v57) (V c main_v58) (V c main_v60) _ _ _ Set.univ _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [HA]; · iexact HA
  isplitl [HB]; · iexact HB
  isplitl [HC]; · iexact HC
  iintro ⟨H0, H1, H2, H3, H4, H5, H6, H7, H8, H9, H10, H11, H12, HA, HB, HC⟩
  isplitl [HA HB HC Hg]
  · isplitl [HA HB HC]
    · iexists _; iexists _; iexists _; isplitr
      swap
      · isplitl [HA]; · iexact HA
        isplitl [HB]; · iexact HB
        iexact HC
      ipureintro; exact fun _ => ⟨rfl, rfl, rfl⟩
    iexact Hg
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [H14]; · iexact H14
  isplitl [H15]; · iexact H15
  isplitl [H16]; · iexact H16
  isplitl [H17]; · iexact H17
  isplitl [H18]; · iexact H18
  isplitl [H19]; · iexact H19
  isplitl [H20]; · iexact H20
  iexists _; iexact H21

set_option maxHeartbeats 8000000 in
/-- The recurrence body at the last point. -/
theorem sound1C (c : Dev nD) (t : Fin cfg1.N) (h0 : t.val ≠ 0) (h1 : t.val = 199) :
    bodyPre1 V c t ⊢ wp frame (wpE (defs₀ (F := F)) Variants.none c none) Set.univ (bodyAt1 t) (fun _ => bodyPost1 V c t) := by
  unfold bodyPre1 bodyPost1 bodyAt1
  simp only [before1_0, bef1_1, bef1_2, before1_3, before1_4, before1_5, before1_6, before1_7, before1_8, before1_9, bef1_10, bef1_11, bef1_12, bef1_13, bef1_14, bef1_15, bef1_16, bef1_17, bef1_18, bef1_19, bef1_20]
  rw [show (dat1 V c).owesAt () t.succ = (dat1 V c).owesAt () t.castSucc from rfl]
  rw [show (dat1 V c).Φ t.succ = Phi1 V c (t.val + 1) from rfl, show (dat1 V c).Φ t.castSucc = Phi1 V c t.val from rfl]
  have hN : t.val < 200 := lt_of_lt_of_eq t.isLt (show cfg1.N = 200 from N_1)
  rw [leaves1_0, leaves1_1, leaves1_2, leaves1_3, leaves1_4, leaves1_5, leaves1_6, leaves1_7, leaves1_8, leaves1_9, leaves1_10, leaves1_11, leaves1_12, leaves1_13, leaves1_14, leaves1_15, leaves1_16, leaves1_17, leaves1_18, leaves1_19, leaves1_20]
  unfold Phi1
  rw [show (dat1 V c).leavesExact 21 t = owns (c : Thread nD τ) (ms1_21 t) fullShare (outV V c) from by
    unfold Dat.leavesExact; rw [live1_21 t h1, after1_21]]
  unfold outV
  rw [show (199 : ℕ) = t.val from h1.symm]
  simp only [st, xAt_val]
  iintro ⟨⟨⟨%h, %cc, %r, %hs, HA, HB, HC⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩, ⟨%d14, H14⟩, ⟨%d15, H15⟩, ⟨%d16, H16⟩, ⟨%d17, H17⟩, ⟨%d18, H18⟩, ⟨%d19, H19⟩, ⟨%d20, H20⟩, ⟨%d21, H21⟩⟩
  obtain ⟨rfl, rfl, rfl⟩ := hs h0
  iapply (run1C c (grid1.coords t) _ _ _ _ _ _ _ _ _ _ _ _ _ _ _ _ _ _ _ _ _ _ _ _ _ _ _ _ _ _ _ _ _ _ _ _ _ _ _ _ _ _ _ _ _ _ _ _ _ _ (fun h => h0 ((hfirst1 t).mp h)) ((hlast1 t).mpr h1) (iblk1 V c 0 t) (V c main_v11_0) (V c main_v11_1) (V c main_v57) (V c main_v58) (V c main_v61) (V c main_v62) (V c main_v63) (V c main_v64) (V c main_v65) (V c main_v66) (V c main_arg22) (V c main_v67) _ (st V c t.val).1 (st V c t.val).2 (rowV V c) Set.univ _)
  isplitl [H0]; · iexact H0
  isplitl [H1]; · iexact H1
  isplitl [H2]; · iexact H2
  isplitl [H10]; · iexact H10
  isplitl [H11]; · iexact H11
  isplitl [H13]; · iexact H13
  isplitl [H14]; · iexact H14
  isplitl [H15]; · iexact H15
  isplitl [H16]; · iexact H16
  isplitl [H17]; · iexact H17
  isplitl [H18]; · iexact H18
  isplitl [H19]; · iexact H19
  isplitl [H20]; · iexact H20
  isplitl [H21]; · iexact H21
  isplitl [HA]; · iexact HA
  isplitl [HB]; · iexact HB
  isplitl [HC]; · iexact HC
  iintro ⟨H0, H1, H2, H10, H11, H13, H14, H15, H16, H17, H18, H19, H20, H21, HA, HB, HC⟩
  isplitl [HA HB HC Hg]
  · isplitl [HA HB HC]
    · iexists _; iexists _; iexists _; isplitr
      swap
      · isplitl [HA]; · iexact HA
        isplitl [HB]; · iexact HB
        iexact HC
      ipureintro; exact fun _ => ⟨rfl, rfl, rfl⟩
    iexact Hg
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [H14]; · iexact H14
  isplitl [H15]; · iexact H15
  isplitl [H16]; · iexact H16
  isplitl [H17]; · iexact H17
  isplitl [H18]; · iexact H18
  isplitl [H19]; · iexact H19
  isplitl [H20]; · iexact H20
  iexact H21

/-- The recurrence body at any point takes the invariant before the point to the invariant after it. -/
theorem sound_body1 (c : Dev nD) (t : Fin cfg1.N) :
    bodyPre1 V c t ⊢ wp frame (wpE (defs₀ (F := F)) Variants.none c none) Set.univ (bodyAt1 t) (fun _ => bodyPost1 V c t) := by
  by_cases h1 : t.val = 199
  · exact sound1C V c t (by omega) h1
  · by_cases h0 : t.val = 0
    · exact sound1A V c t h0 h1
    · exact sound1B V c t h0 h1

theorem defs₀_row1 (t : Fin cfg1.N) :
    defs₀ (F := F) .tc cfg1.body (cfg1.bodyArgs t (cfg1.slots t)) = bodyAt1 t := by
  unfold defs₀; rw [Defs.onTc_tc]

set_option maxHeartbeats 4000000 in
/-- The obligation of the recurrence body at every point. -/
theorem body_obligation1 (c : Dev nD) : BodyObligation (dat1 V c) (defs₀ (F := F)) Variants.none () Set.univ := fun t => by
  rw [bigSep_W1, bigSep_W1, defs₀_row1]
  exact triple_restated (sound_body1 V c t) rfl .rfl fun _ => .rfl

theorem scopedRest1_split (c : Dev nD) :
    (Pipeline.scopedRest (Ix := Unit) (Name := ℕ) (U := UR sig nD τ) (Lvl := ℕ) (Val := Elt F) spec1 c : sProp 𝕄)
      = iprop(iprop((∃ f : Buf (Elt F) ((c : Thread nD τ).loc cc1_scratch0), ((c : Thread nD τ).loc cc1_scratch0) ↦{fullShare} f)
          ∗ (∃ f : Buf (Elt F) ((c : Thread nD τ).loc cc1_scratch1), ((c : Thread nD τ).loc cc1_scratch1) ↦{fullShare} f)
          ∗ (∃ f : Buf (Elt F) ((c : Thread nD τ).loc cc1_scratch2), ((c : Thread nD τ).loc cc1_scratch2) ↦{fullShare} f))
          ∗ Pipeline.scopedRestBut (Ix := Unit) (Name := ℕ) (U := UR sig nD τ) (Lvl := ℕ) (Val := Elt F) spec1 c [cc1_scratch0, cc1_scratch1, cc1_scratch2]) :=
  Pipeline.scopedRest_split_of_list spec1 c [cc1_scratch0, cc1_scratch1, cc1_scratch2] (by decide) (by decide)

/-- The scoped rest is the invariant before the first point. -/
theorem hin1 (c : Dev nD) :
    (Pipeline.scopedRest (Ix := Unit) (Name := ℕ) (U := UR sig nD τ) (Lvl := ℕ) (Val := Elt F) spec1 c : sProp 𝕄) ⊢ Phi1 V c 0 := by
  rw [scopedRest1_split]; unfold Phi1; simp only [scH, scC, scR, owns_whole]
  iintro ⟨⟨⟨%f, H⟩, ⟨%g, G⟩, ⟨%k, K⟩⟩, Hr⟩
  isplitl [H G K]
  · iexists f; iexists g; iexists k; isplitr
    · ipureintro; exact fun h => absurd rfl h
    isplitl [H]; · iexact H
    isplitl [G]; · iexact G
    iexact K
  iexact Hr

/-- After any point the invariant gives the scoped rest back. -/
theorem hout1 (c : Dev nD) (n : ℕ) :
    Phi1 V c n ⊢ (Pipeline.scopedRest (Ix := Unit) (Name := ℕ) (U := UR sig nD τ) (Lvl := ℕ) (Val := Elt F) spec1 c : sProp 𝕄) := by
  rw [scopedRest1_split]; unfold Phi1; simp only [scH, scC, scR, owns_whole]
  iintro ⟨⟨%h, %cc, %r, -, H, G, K⟩, Hr⟩
  isplitl [H G K]
  · isplitl [H]; · iexists h; iexact H
    isplitl [G]; · iexists cc; iexact G
    iexists r; iexact K
  iexact Hr

theorem mem_blk1_21 (t : Fin cfg1.N) (i : S1024x1.Idx) :
    i ∈ ((cfg1.win 21).blk t).view.set ↔ ∀ a : Fin 2, win1_21.index t a * S1024x1.size a ≤ (i a).val ∧ (i a).val < win1_21.index t a * S1024x1.size a + S1024x1.size a := by
  show i ∈ ((View.whole main_v68).slice (win1_21.rect t)).set ↔ _
  rw [View.set_slice_whole, Rect.mem_set_unit]
  exact Iff.rfl

/-- The result's array after the region. -/
theorem final1_21 (c : Dev nD) : (dat1 V c).arrAt 21 cfg1.N = outV V c :=
  (dat1 V c).arrAt_eq_of_cover 21 _ (fun t hf => by
    show (cfg1.win 21).cut (grid1.coords t) ((dat1 V c).after 21 t) = _
    rw [after1_21]
    funext y
    show outV V c ((cfg1.win 21).xinj (grid1.coords t) y) = outV V c (((cfg1.win 21).blk t).view.emb y)
    refine congrArg (outV V c) (funext fun a => Fin.ext ?_)
    match a with
    | ⟨0, _⟩ => show (y 0).val = 0 * 1024 + 1 * (y 0).val; omega
    | ⟨1, _⟩ => show (y 1).val = 0 * 1 + 1 * (y 1).val; omega)
  (fun i => by
    refine ⟨⟨199, lt_of_lt_of_eq (by decide) N_1.symm⟩, (flush1_21 _).mpr rfl, (mem_blk1_21 _ i).mpr ?_⟩
    intro a
    match a with
    | ⟨0, _⟩ => have h : (i 0).val < 1024 := (i 0).isLt; exact ⟨by show 0 * 1024 ≤ (i 0).val; omega, by show (i 0).val < 0 * 1024 + 1024; omega⟩
    | ⟨1, _⟩ => have h : (i 1).val < 1 := (i 1).isLt; exact ⟨by show 0 * 1 ≤ (i 1).val; omega, by show (i 1).val < 0 * 1 + 1; omega⟩)

end Cert.KernelIdeal.Own

end
-- ==== Proof.KI.Stats.lean ====
module

public import proofs.«01_k».proof.Proof.Gen.KernelIdeal.Launch
public import proofs.«01_k».proof.Proof.Gen.KernelIdeal.Skeleton
public import proofs.«01_k».proof.Proof.Gen.KernelIdeal.Points
public import Idealize.ShloMosaic.Lib.Pipeline.FrameBody
public import Idealize.ShloMosaic.Lib.Ring
public import Idealize.ShloMosaic.Lib.Pipeline.Value
public import Idealize.ShloMosaic.Lib.Tactic
public import Idealize.ShloMosaic.Lib.WordCmp
public import Idealize.ShloMosaic.Lib.WritesUnit
public import Idealize.ShloMosaic.Lib.VecWindow
public import Idealize.ShloMosaic.Lib.ValueIdx

@[expose] public section

set_option maxRecDepth 16384

noncomputable section

namespace Cert.KernelIdeal.Own

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.ValueIdx
open Idealize.ShloMosaic.Pipeline (Dat Cfg Window BodyObligation cellOf)

variable {F : FTy → Type} [FloatOps F]

local notation "𝕄" => MT nD τ sig Unit (Elt F) ℕ (UR sig nD τ) ℕ

/-- The first conditional of the statistics body runs: the grid coordinate is zero. -/
abbrev first0 (i : grid0.Coords) : Prop := (Scalar.cmpi .ne (Scalar.extui (Scalar.cmpi .eq (BitVec.ofNat 32 (i 0).val) 0#32)) 0#32) = 1#1
/-- The second conditional of the statistics body runs: the grid coordinate is the last one. -/
abbrev last0 (i : grid0.Coords) : Prop := k0_cond2 i = 1#1

/-- The rectangle of row `0` of the two-row accumulator. -/
abbrev rA : Rect S2x8 := Rect.unit (s := S2x8) ![0, 0] S1x8.size inb_S2x8_S1x8_0_0
/-- The rectangle of row `1` of the two-row accumulator. -/
abbrev rB : Rect S2x8 := Rect.unit (s := S2x8) ![1, 0] S1x8.size inb_S2x8_S1x8_1_0

/-- The two-row accumulator whose rows are `a` and `b`. -/
def rowsOf (a b : Vec F S1x8 .f32) : Vec F S2x8 .f32 := fun y => if (y 0).val = 0 then a (ix2 (0 : Fin 1) (y 1)) else b (ix2 (0 : Fin 1) (y 1))

theorem rowsOf_A (a b : Vec F S1x8 .f32) : View.ld (Val := Elt F) (rowsOf a b) rA = a := by
  funext x
  have h0 : (x 0).val = 0 := Nat.lt_one_iff.mp (x 0).isLt
  have h : (rA.idx x (0 : Fin 2)).val = 0 := by show 0 + 1 * (x 0).val = 0; omega
  show rowsOf a b (rA.idx x) = a x
  unfold rowsOf
  rw [if_pos h]
  refine congrArg a (funext fun k => ?_)
  fin_cases k
  · exact Fin.ext h0.symm
  · exact Fin.ext (by show 0 + 1 * (x 1).val = (x 1).val; omega)

theorem rowsOf_B (a b : Vec F S1x8 .f32) : View.ld (Val := Elt F) (rowsOf a b) rB = b := by
  funext x
  have h0 : (x 0).val = 0 := Nat.lt_one_iff.mp (x 0).isLt
  have h : ¬ (rB.idx x (0 : Fin 2)).val = 0 := by show ¬ (1 + 1 * (x 0).val = 0); omega
  show rowsOf a b (rB.idx x) = b x
  unfold rowsOf
  rw [if_neg h]
  refine congrArg b (funext fun k => ?_)
  fin_cases k
  · exact Fin.ext h0.symm
  · exact Fin.ext (by show 0 + 1 * (x 1).val = (x 1).val; omega)

/-- Storing row `1` over row `0` leaves exactly those two rows, whatever was there before. -/
theorem read_rows (v : View sig .tc .vmem S2x8 .f32) (f : v.ty.Contents (Elt F)) (a b : Vec F S1x8 .f32) (L : List (View.Piece (Elt F) S2x8 .f32)) :
    v.read (Elt F) (v.writes (Elt F) f (⟨rB, b⟩ :: ⟨rA, a⟩ :: L)) = rowsOf a b := by
  funext y
  rcases (show (y 0).val = 0 ∨ (y 0).val = 1 by have : (y 0).val < 2 := (y 0).isLt; omega) with h | h
  · rw [View.read_writes_cons_rows_of_not_mem (d := ![2, 8]) (o := 1) (W := 1) v f _ _ _ y rfl rfl (Or.inl (by rw [h]; decide))]
    exact (View.read_writes_cons_rows_of_mem (d := ![2, 8]) (o := 0) (size := S1x8.size) v f inb_S2x8_S1x8_0_0 a L y (ix2 (0 : Fin 1) (y 1)) rfl h rfl).trans (if_pos h).symm
  · exact (View.read_writes_cons_rows_of_mem (d := ![2, 8]) (o := 1) (size := S1x8.size) v f inb_S2x8_S1x8_1_0 b _ y (ix2 (0 : Fin 1) (y 1)) rfl h rfl).trans (if_neg (by rw [h]; decide)).symm

/-- Loading row `1` after a store of row `0` reads what was there before. -/
theorem readAt_skip (v : View sig .tc .vmem S2x8 .f32) (f : v.ty.Contents (Elt F)) (a : Vec F S1x8 .f32) (L : List (View.Piece (Elt F) S2x8 .f32)) :
    v.readAt (Elt F) rB.toLoadRect (v.writes (Elt F) f (⟨rA, a⟩ :: L)) = v.readAt (Elt F) rB.toLoadRect (v.writes (Elt F) f L) := by
  funext x
  have h : (rB.idx x (0 : Fin 2)).val = 1 := by
    have h0 : (x 0).val = 0 := Nat.lt_one_iff.mp (x 0).isLt
    show 1 + 1 * (x 0).val = 1; omega
  exact View.read_writes_cons_rows_of_not_mem (d := ![2, 8]) (o := 0) (W := 1) v f _ _ _ (rB.idx x) rfl rfl (Or.inr (by rw [h]))

/-- The zero rows the accumulator starts from. -/
def zrow0 : Vec F S1x8 .f32 := View.ld (Val := Elt F) (k0_pay1 (F := F)) rA
def zrow1 : Vec F S1x8 .f32 := View.ld (Val := Elt F) (k0_pay1 (F := F)) rB

set_option maxHeartbeats 2000000 in
/-- The statistics body at a point between the first and the last: both rows take the block's sums. -/
theorem run0B (c : Dev nD) (i : grid0.Coords) (arg1 : Memref sig .tc .vmem S8192x8 .f32) (harg1 : arg1.IsWhole) (arg2 : Memref sig .tc .vmem S1x8 .f32) (harg2 : arg2.IsWhole) (arg3 : Memref sig .tc .vmem S1x8 .f32) (harg3 : arg3.IsWhole) (arg4 : Memref sig .tc .vmem S1x16 .f32) (harg4 : arg4.IsWhole) (arg5 : Memref sig .tc .vmem S1x16 .f32) (harg5 : arg5.IsWhole) (arg6 : Memref sig .tc .vmem S2x8 .f32) (harg6 : arg6.IsWhole) (hc0 : ¬first0 i) (hc1 : ¬last0 i)
    (x0 : Vec F S8192x8 .f32) (a b : Vec F S1x8 .f32)
      (E : Set ℕ) (K : PUnit → sProp 𝕄) :
        iprop(owns (c : Thread nD τ) arg1 fullShare x0 ∗ owns (c : Thread nD τ) arg6 fullShare (rowsOf a b)
            ∗ (iprop(owns (c : Thread nD τ) arg1 fullShare x0 ∗ owns (c : Thread nD τ) arg6 fullShare (rowsOf (k0_pay3 x0 a) (k0_pay4 x0 b))) -∗ K ⟨⟩))
          ⊢ wp frame (wpE (defs₀ (F := F)) Variants.none c none) E (cc0__stats_body i arg1 harg1 arg2 harg2 arg3 harg3 arg4 harg4 arg5 harg5 arg6 harg6) K := by
    simp only [cc0__stats_body_eq_skeleton]; unfold cc0__stats_body_skel
    unfold owns
    iintro ⟨⟨%f0, %hf0, H0⟩, ⟨%fs0, %hfs0, HS0⟩, Hk⟩
    obtain rfl := harg1.eq_unread hf0; obtain rfl := harg6.eq_unread hfs0
    sl_exec (disch := first | sl_exact hc0 | sl_exact hc1)
    sl_step
    iapply Hk
    isplitl [H0]
    · iexists _; isplitr; · ipureintro; exact harg1.read_unread _
      iexact H0
    iexists _; isplitr
    swap; · iexact HS0
    ipureintro
    refine (read_rows _ _ _ _ _).trans ?_
    unfold run0B.sl.v12
    refine congrArg₂ rowsOf (congrArg₂ k0_pay3 ?_ ?_) (congrArg₂ k0_pay4 ?_ ?_)
    · exact (View.readAt_full _ _ _).trans (harg1.read_unread _)
    · rw [View.readAt_eq_ld, harg6.read_unread]; exact rowsOf_A a b
    · exact (View.readAt_full _ _ _).trans (harg1.read_unread _)
    · rw [View.readAt_eq_ld, harg6.read_unread]; exact rowsOf_B a b

set_option maxHeartbeats 2000000 in
/-- The statistics body at the first point: the rows start at zero. -/
theorem run0A (c : Dev nD) (i : grid0.Coords) (arg1 : Memref sig .tc .vmem S8192x8 .f32) (harg1 : arg1.IsWhole) (arg2 : Memref sig .tc .vmem S1x8 .f32) (harg2 : arg2.IsWhole) (arg3 : Memref sig .tc .vmem S1x8 .f32) (harg3 : arg3.IsWhole) (arg4 : Memref sig .tc .vmem S1x16 .f32) (harg4 : arg4.IsWhole) (arg5 : Memref sig .tc .vmem S1x16 .f32) (harg5 : arg5.IsWhole) (arg6 : Memref sig .tc .vmem S2x8 .f32) (harg6 : arg6.IsWhole) (hc0 : first0 i) (hc1 : ¬last0 i)
    (x0 : Vec F S8192x8 .f32) (xs : Vec F S2x8 .f32)
      (E : Set ℕ) (K : PUnit → sProp 𝕄) :
        iprop(owns (c : Thread nD τ) arg1 fullShare x0 ∗ owns (c : Thread nD τ) arg6 fullShare xs
            ∗ (iprop(owns (c : Thread nD τ) arg1 fullShare x0 ∗ owns (c : Thread nD τ) arg6 fullShare (rowsOf (k0_pay3 x0 zrow0) (k0_pay4 x0 zrow1))) -∗ K ⟨⟩))
          ⊢ wp frame (wpE (defs₀ (F := F)) Variants.none c none) E (cc0__stats_body i arg1 harg1 arg2 harg2 arg3 harg3 arg4 harg4 arg5 harg5 arg6 harg6) K := by
    simp only [cc0__stats_body_eq_skeleton]; unfold cc0__stats_body_skel
    unfold owns
    iintro ⟨⟨%f0, %hf0, H0⟩, ⟨%fs0, %hfs0, HS0⟩, Hk⟩
    obtain rfl := harg1.eq_unread hf0; obtain rfl := harg6.eq_unread hfs0
    sl_exec (disch := first | sl_exact hc0 | sl_exact hc1)
    sl_step
    iapply Hk
    isplitl [H0]
    · iexists _; isplitr; · ipureintro; exact harg1.read_unread _
      iexact H0
    iexists _; isplitr
    swap; · iexact HS0
    ipureintro
    refine (read_rows _ _ _ _ _).trans ?_
    unfold run0A.sl.v5 run0A.sl.v12
    refine congrArg₂ rowsOf (congrArg₂ k0_pay3 ?_ ?_) (congrArg₂ k0_pay4 ?_ ?_)
    · exact (View.readAt_full _ _ _).trans (harg1.read_unread _)
    · unfold run0A.sl.HS0_1 View.readCov
      rw [View.readAt_eq_ld, View.read_writes_full]; rfl
    · exact (View.readAt_full _ _ _).trans (harg1.read_unread _)
    · unfold run0A.sl.HS0_2
      refine (readAt_skip arg6.view _ _ _).trans ?_
      unfold run0A.sl.HS0_1
      rw [View.readAt_eq_ld, View.read_writes_full]; rfl

set_option maxHeartbeats 2000000 in
/-- The statistics body at the last point: the rows take the last block, and the two results are computed from them. -/
theorem run0C (c : Dev nD) (i : grid0.Coords) (arg1 : Memref sig .tc .vmem S8192x8 .f32) (harg1 : arg1.IsWhole) (arg2 : Memref sig .tc .vmem S1x8 .f32) (harg2 : arg2.IsWhole) (arg3 : Memref sig .tc .vmem S1x8 .f32) (harg3 : arg3.IsWhole) (arg4 : Memref sig .tc .vmem S1x16 .f32) (harg4 : arg4.IsWhole) (arg5 : Memref sig .tc .vmem S1x16 .f32) (harg5 : arg5.IsWhole) (arg6 : Memref sig .tc .vmem S2x8 .f32) (harg6 : arg6.IsWhole) (hc0 : ¬first0 i) (hc1 : last0 i)
    (x0 : Vec F S8192x8 .f32) (x1 x2 : Vec F S1x8 .f32) (y3 y4 : Vec F S1x16 .f32) (a b : Vec F S1x8 .f32)
      (E : Set ℕ) (K : PUnit → sProp 𝕄) :
        iprop(owns (c : Thread nD τ) arg1 fullShare x0 ∗ owns (c : Thread nD τ) arg2 fullShare x1 ∗ owns (c : Thread nD τ) arg3 fullShare x2
            ∗ owns (c : Thread nD τ) arg4 fullShare y3 ∗ owns (c : Thread nD τ) arg5 fullShare y4 ∗ owns (c : Thread nD τ) arg6 fullShare (rowsOf a b)
            ∗ (iprop(owns (c : Thread nD τ) arg1 fullShare x0 ∗ owns (c : Thread nD τ) arg2 fullShare x1 ∗ owns (c : Thread nD τ) arg3 fullShare x2
                ∗ owns (c : Thread nD τ) arg4 fullShare (k0_pay8 (k0_pay3 x0 a) (k0_pay4 x0 b) x1)
                ∗ owns (c : Thread nD τ) arg5 fullShare (k0_pay9 (k0_pay3 x0 a) (k0_pay4 x0 b) x1 x2)
                ∗ owns (c : Thread nD τ) arg6 fullShare (rowsOf (k0_pay3 x0 a) (k0_pay4 x0 b))) -∗ K ⟨⟩))
          ⊢ wp frame (wpE (defs₀ (F := F)) Variants.none c none) E (cc0__stats_body i arg1 harg1 arg2 harg2 arg3 harg3 arg4 harg4 arg5 harg5 arg6 harg6) K := by
    simp only [cc0__stats_body_eq_skeleton]; unfold cc0__stats_body_skel
    unfold owns
    iintro ⟨⟨%f0, %hf0, H0⟩, ⟨%f1, %hf1, H1⟩, ⟨%f2, %hf2, H2⟩, ⟨%f3, %hf3, H3⟩, ⟨%f4, %hf4, H4⟩, ⟨%fs0, %hfs0, HS0⟩, Hk⟩
    obtain rfl := harg1.eq_unread hf0; obtain rfl := harg2.eq_unread hf1; obtain rfl := harg3.eq_unread hf2; obtain rfl := harg6.eq_unread hfs0
    sl_exec (disch := first | sl_exact hc0 | sl_exact hc1)
    sl_step
    have e1 : View.readAt (Elt F) arg1.view (Rect.unit ![0, 0] S8192x8.size inb_S8192x8_S8192x8_0_0).toLoadRect (harg1.unread x0) = x0 := (View.readAt_full _ _ _).trans (harg1.read_unread _)
    have e2 : View.readAt (Elt F) arg2.view (Rect.unit ![0, 0] S1x8.size inb_S1x8_S1x8_0_0).toLoadRect (harg2.unread x1) = x1 := (View.readAt_full _ _ _).trans (harg2.read_unread _)
    have e3 : View.readAt (Elt F) arg3.view (Rect.unit ![0, 0] S1x8.size inb_S1x8_S1x8_0_0).toLoadRect (harg3.unread x2) = x2 := (View.readAt_full _ _ _).trans (harg3.read_unread _)
    have eA : View.readAt (Elt F) arg6.view rA.toLoadRect (harg6.unread (rowsOf a b)) = a := by rw [View.readAt_eq_ld, harg6.read_unread]; exact rowsOf_A a b
    have eB : View.readAt (Elt F) arg6.view rB.toLoadRect (harg6.unread (rowsOf a b)) = b := by rw [View.readAt_eq_ld, harg6.read_unread]; exact rowsOf_B a b
    have e23 : run0C.sl.v23 c arg1 harg1 arg6 harg6 x0 a b = k0_pay3 x0 a := by
      unfold run0C.sl.v23 run0C.sl.HS0_2 View.readCov run0C.sl.v12
      rw [View.readAt_eq_ld, read_rows, e1, eA, eB]; exact rowsOf_A _ _
    have e26 : run0C.sl.v26 c arg1 harg1 arg6 harg6 x0 a b = k0_pay4 x0 b := by
      unfold run0C.sl.v26 run0C.sl.HS0_2 View.readCov run0C.sl.v12
      rw [View.readAt_eq_ld, read_rows, e1, eA, eB]; exact rowsOf_B _ _
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr
      swap; · iexact H3
      ipureintro
      refine (View.read_writes_full _ _ _ _ _).trans ?_
      rw [e23, e26, e2]
    isplitl [H4]
    · iexists _; isplitr
      swap; · iexact H4
      ipureintro
      refine (View.read_writes_full _ _ _ _ _).trans ?_
      rw [e23, e26, e2, e3]
    iexists _; isplitr
    swap; · iexact HS0
    ipureintro
    refine (read_rows _ _ _ _ _).trans ?_
    unfold run0C.sl.v12
    refine congrArg₂ rowsOf (congrArg₂ k0_pay3 ?_ ?_) (congrArg₂ k0_pay4 ?_ ?_)
    · exact (View.readAt_full _ _ _).trans (harg1.read_unread _)
    · rw [View.readAt_eq_ld, harg6.read_unread]; exact rowsOf_A a b
    · exact (View.readAt_full _ _ _).trans (harg1.read_unread _)
    · rw [View.readAt_eq_ld, harg6.read_unread]; exact rowsOf_B a b

/-! ## The data of the statistics region, over any contents its arrays hold at entry -/

variable (V : (c : Dev nD) → (b : Ref sig .tc) → Buf (Elt F) ((c : Thread nD τ).loc b))

/-- Window `w`'s block at point `t`. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- The block of rows the statistics body reads at its `n`-th point. -/
def blkAt (c : Dev nD) (n : ℕ) : Vec F S8192x8 .f32 :=
  iblk0 V c 0 ⟨n % 25, lt_of_lt_of_eq (Nat.mod_lt _ (by decide)) N_0.symm⟩

theorem blkAt_val (c : Dev nD) (t : Fin cfg0.N) : blkAt V c t.val = iblk0 V c 0 t := by
  have hN : t.val < 25 := lt_of_lt_of_eq t.isLt (show cfg0.N = 25 from N_0)
  have key : ∀ k (hk : k < cfg0.N), k = t.val → (iblk0 V c 0 ⟨k, hk⟩ : Vec F S8192x8 .f32) = iblk0 V c 0 t := by
    rintro k hk rfl; rfl
  exact key _ _ (Nat.mod_eq_of_lt hN)

/-- The sums and the sums of squares after `n` points. -/
def acc (c : Dev nD) : ℕ → Vec F S1x8 .f32 × Vec F S1x8 .f32
  | 0 => (zrow0, zrow1)
  | n + 1 => (k0_pay3 (blkAt V c n) (acc c n).1, k0_pay4 (blkAt V c n) (acc c n).2)

/-- The scratch memref of the statistics body. -/
abbrev scM0 : Memref sig .tc .vmem S2x8 .f32 := Memref.whole cc0_scratch0

/-- Before position `n` the scratch holds the sums after `n` points (anything at all before the first). -/
def Phi0 (c : Dev nD) (n : ℕ) : sProp 𝕄 :=
  iprop((∃ s : Vec F S2x8 .f32, ⌜n ≠ 0 → s = rowsOf (acc V c n).1 (acc V c n).2⌝ ∗ owns (c : Thread nD τ) scM0 fullShare s)
    ∗ Pipeline.scopedRestBut (Ix := Unit) (Name := ℕ) (U := UR sig nD τ) (Lvl := ℕ) (Val := Elt F) spec0 c [cc0_scratch0])

/-- The scale row the statistics region writes. -/
def scaleOut (c : Dev nD) : Vec F S1x16 .f32 := k0_pay8 (acc V c 25).1 (acc V c 25).2 (V c main_v8)
/-- The shift row the statistics region writes. -/
def shiftOut (c : Dev nD) : Vec F S1x16 .f32 := k0_pay9 (acc V c 25).1 (acc V c 25).2 (V c main_v8) (V c main_v10)

/-- The proof data of the statistics region on core `c`. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => scaleOut V c
    | ⟨4, _⟩ => shiftOut V c
  Φ t := Phi0 V c t.val
  q _ := fullShare
  owed _ := 0

theorem A0_eq (c : Dev nD) (w : Fin cfg0.W) : (dat0 V c).A w = V c (Pipeline.arrRef spec0 w) := by
  dsimp only [dat0]
theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) : (dat0 V c).after 3 t = scaleOut V c := by dsimp only [dat0]
theorem after0_4 (c : Dev nD) (t : Fin cfg0.N) : (dat0 V c).after 4 t = shiftOut V c := by dsimp only [dat0]

theorem before0_0 (c : Dev nD) (t : Fin cfg0.N) (d) : (dat0 V c).before 0 t d = iblk0 V c 0 t :=
  ((dat0 V c).before_in_eq_fetched 0 rfl (fun _ => rfl) (fun _ _ _ => rfl) (fun t => by rw [after0_0]; unfold Dat.blockOf iblk0; rw [A0_eq]; try rfl) t d).trans
    (by unfold Dat.fetched Dat.blockOf iblk0; rw [A0_eq]; try rfl)
theorem before0_1 (c : Dev nD) (t : Fin cfg0.N) (d) : (dat0 V c).before 1 t d = iblk0 V c 1 t :=
  ((dat0 V c).before_in_eq_fetched 1 rfl (fun _ => rfl) (fun _ _ _ => rfl) (fun t => by rw [after0_1]; unfold Dat.blockOf iblk0; rw [A0_eq]; try rfl) t d).trans
    (by unfold Dat.fetched Dat.blockOf iblk0; rw [A0_eq]; try rfl)
theorem before0_2 (c : Dev nD) (t : Fin cfg0.N) (d) : (dat0 V c).before 2 t d = iblk0 V c 2 t :=
  ((dat0 V c).before_in_eq_fetched 2 rfl (fun _ => rfl) (fun _ _ _ => rfl) (fun t => by rw [after0_2]; unfold Dat.blockOf iblk0; rw [A0_eq]; try rfl) t d).trans
    (by unfold Dat.fetched Dat.blockOf iblk0; rw [A0_eq]; try rfl)

/-- A one-block window's block is its whole array. -/
theorem iblk0_1 (c : Dev nD) (t : Fin cfg0.N) : iblk0 V c 1 t = V c main_v8 := by
  funext y
  show V c main_v8 (((cfg0.win 1).blk t).view.emb y) = V c main_v8 y
  refine congrArg (V c main_v8) (funext fun a => Fin.ext ?_)
  match a with
  | ⟨0, _⟩ => show 0 * 1 + 1 * (y 0).val = (y 0).val; omega
  | ⟨1, _⟩ => show 0 * 8 + 1 * (y 1).val = (y 1).val; omega
theorem iblk0_2 (c : Dev nD) (t : Fin cfg0.N) : iblk0 V c 2 t = V c main_v10 := by
  funext y
  show V c main_v10 (((cfg0.win 2).blk t).view.emb y) = V c main_v10 y
  refine congrArg (V c main_v10) (funext fun a => Fin.ext ?_)
  match a with
  | ⟨0, _⟩ => show 0 * 1 + 1 * (y 0).val = (y 0).val; omega
  | ⟨1, _⟩ => show 0 * 8 + 1 * (y 1).val = (y 1).val; omega

/-- The block read at point `t` is rows `8192 t …` of the array. -/
theorem iblk0_0 (c : Dev nD) (t : Fin cfg0.N) (y : S8192x8.Idx) (h : 8192 * t.val + (y 0).val < 204800) :
    iblk0 V c 0 t y = V c main_v6 (ix2 ⟨8192 * t.val + (y 0).val, h⟩ (y 1)) := by
  have hi : ∀ t : Fin grid0.N, win0_0.index t (0 : Fin 2) = t.val ∧ win0_0.index t (1 : Fin 2) = 0 := by decide +kernel
  show V c main_v6 (((cfg0.win 0).blk t).view.emb y) = _
  refine congrArg (V c main_v6) (funext fun a => Fin.ext ?_)
  match a with
  | ⟨0, _⟩ => show win0_0.index t (0 : Fin 2) * 8192 + 1 * (y 0).val = 8192 * t.val + (y 0).val; rw [(hi t).1]; omega
  | ⟨1, _⟩ => show win0_0.index t (1 : Fin 2) * 8 + 1 * (y 1).val = (y 1).val; rw [(hi t).2]; omega

/-! ## The conditions' closed forms and where the result windows are live -/

theorem hfirst0 (t : Fin cfg0.N) : first0 (grid0.coords t) ↔ t.val = 0 := by
  have ht : t.val < 25 := Nat.lt_of_lt_of_eq t.isLt N_0
  have e0 : (grid0.coords t 0).val = t.val / 1 % 25 := Pipeline.Grid.coords_val t 0 (by decide) rfl
  simp only [first0, e0]
  word_cmp
theorem hlast0 (t : Fin cfg0.N) : last0 (grid0.coords t) ↔ t.val = 24 := by
  have ht : t.val < 25 := Nat.lt_of_lt_of_eq t.isLt N_0
  have e0 : (grid0.coords t 0).val = t.val / 1 % 25 := Pipeline.Grid.coords_val t 0 (by decide) rfl
  simp only [last0, k0_cond2, e0]
  word_cmp

theorem idle0_3 : ∀ t : Fin cfg0.N, t.val ≠ 24 → cfg0.idle 3 (grid0.coords t) = true := (by decide +kernel : ∀ t : Fin grid0.N, _)
theorem idle0_4 : ∀ t : Fin cfg0.N, t.val ≠ 24 → cfg0.idle 4 (grid0.coords t) = true := (by decide +kernel : ∀ t : Fin grid0.N, _)
theorem noFlush0_3 : ∀ t : Fin cfg0.N, t.val ≠ 24 → (cfg0.win 3).flush t = false := (by decide +kernel : ∀ t : Fin grid0.N, _)
theorem noFlush0_4 : ∀ t : Fin cfg0.N, t.val ≠ 24 → (cfg0.win 4).flush t = false := (by decide +kernel : ∀ t : Fin grid0.N, _)
theorem live0_3 : ∀ t : Fin cfg0.N, t.val = 24 → cfg0.idle 3 (grid0.coords t) = false := (by decide +kernel : ∀ t : Fin grid0.N, _)
theorem live0_4 : ∀ t : Fin cfg0.N, t.val = 24 → cfg0.idle 4 (grid0.coords t) = false := (by decide +kernel : ∀ t : Fin grid0.N, _)

abbrev ms0_0 (t : Fin cfg0.N) : Memref sig .tc .vmem S8192x8 .f32 := win0_0.stage (cfg0.slots t 0)
abbrev ms0_1 (t : Fin cfg0.N) : Memref sig .tc .vmem S1x8 .f32 := win0_1.stage (cfg0.slots t 1)
abbrev ms0_2 (t : Fin cfg0.N) : Memref sig .tc .vmem S1x8 .f32 := win0_2.stage (cfg0.slots t 2)
abbrev ms0_3 (t : Fin cfg0.N) : Memref sig .tc .vmem S1x16 .f32 := win0_3.stage (cfg0.slots t 3)
abbrev ms0_4 (t : Fin cfg0.N) : Memref sig .tc .vmem S1x16 .f32 := win0_4.stage (cfg0.slots t 4)

/-- What the body is called with at point `t`. -/
def bodyPre0 (c : Dev nD) (t : Fin cfg0.N) : sProp 𝕄 :=
  iprop((dat0 V c).Φ t.castSucc ∗ (dat0 V c).owesAt () t.castSucc
    ∗ (∃ d, owns (c : Thread nD τ) (ms0_0 t) fullShare ((dat0 V c).before 0 t d))
    ∗ (∃ d, owns (c : Thread nD τ) (ms0_1 t) fullShare ((dat0 V c).before 1 t d))
    ∗ (∃ d, owns (c : Thread nD τ) (ms0_2 t) fullShare ((dat0 V c).before 2 t d))
    ∗ (∃ d, owns (c : Thread nD τ) (ms0_3 t) fullShare ((dat0 V c).before 3 t d))
    ∗ (∃ d, owns (c : Thread nD τ) (ms0_4 t) fullShare ((dat0 V c).before 4 t d)))

/-- What the body returns at point `t`. -/
def bodyPost0 (c : Dev nD) (t : Fin cfg0.N) : sProp 𝕄 :=
  iprop((dat0 V c).Φ t.succ ∗ (dat0 V c).owesAt () t.succ
    ∗ (dat0 V c).leavesExact 0 t
    ∗ (dat0 V c).leavesExact 1 t
    ∗ (dat0 V c).leavesExact 2 t
    ∗ (dat0 V c).leavesExact 3 t
    ∗ (dat0 V c).leavesExact 4 t)

set_option maxHeartbeats 4000000 in
/-- The statistics body at any point takes the invariant before the point to the invariant after it. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2]
  rw [show (dat0 V c).owesAt () t.succ = (dat0 V c).owesAt () t.castSucc from rfl]
  rw [show (dat0 V c).Φ t.succ = Phi0 V c (t.val + 1) from rfl, show (dat0 V c).Φ t.castSucc = Phi0 V c t.val from rfl]
  have hN : t.val < 25 := lt_of_lt_of_eq t.isLt (show cfg0.N = 25 from N_0)
  rw [show (dat0 V c).leavesExact 0 t = owns (c : Thread nD τ) (ms0_0 t) fullShare ((dat0 V c).after 0 t) from by
    unfold Dat.leavesExact; rw [show cfg0.idle 0 (grid0.coords t) = false from rfl], after0_0]
  rw [show (dat0 V c).leavesExact 1 t = owns (c : Thread nD τ) (ms0_1 t) fullShare ((dat0 V c).after 1 t) from by
    unfold Dat.leavesExact; rw [show cfg0.idle 1 (grid0.coords t) = false from rfl], after0_1]
  rw [show (dat0 V c).leavesExact 2 t = owns (c : Thread nD τ) (ms0_2 t) fullShare ((dat0 V c).after 2 t) from by
    unfold Dat.leavesExact; rw [show cfg0.idle 2 (grid0.coords t) = false from rfl], after0_2]
  unfold Phi0
  by_cases h1 : t.val = 24
  · have h0 : t.val ≠ 0 := by omega
    rw [show (dat0 V c).leavesExact 3 t = owns (c : Thread nD τ) (ms0_3 t) fullShare ((dat0 V c).after 3 t) from by
      unfold Dat.leavesExact; rw [live0_3 t h1], after0_3]
    rw [show (dat0 V c).leavesExact 4 t = owns (c : Thread nD τ) (ms0_4 t) fullShare ((dat0 V c).after 4 t) from by
      unfold Dat.leavesExact; rw [live0_4 t h1], after0_4]
    unfold scaleOut shiftOut
    rw [show (25 : ℕ) = t.val + 1 by omega]
    rw [← iblk0_1 V c t, ← iblk0_2 V c t]
    simp only [acc, blkAt_val]
    iintro ⟨⟨⟨%s, %hs, HS⟩, Hg⟩, Ho, ⟨%d0, H0⟩, ⟨%d1, H1⟩, ⟨%d2, H2⟩, ⟨%d3, H3⟩, ⟨%d4, H4⟩⟩
    obtain rfl := hs h0
    iapply (run0C c (grid0.coords t) _ _ _ _ _ _ _ _ _ _ _ _ (fun h => h0 ((hfirst0 t).mp h)) ((hlast0 t).mpr h1) (iblk0 V c 0 t) (iblk0 V c 1 t) (iblk0 V c 2 t) _ _ (acc V c t.val).1 (acc V c t.val).2 Set.univ _)
    isplitl [H0]; · iexact H0
    isplitl [H1]; · iexact H1
    isplitl [H2]; · iexact H2
    isplitl [H3]; · iexact H3
    isplitl [H4]; · iexact H4
    isplitl [HS]; · iexact HS
    iintro ⟨H0, H1, H2, H3, H4, HS⟩
    isplitl [HS Hg]
    · isplitl [HS]
      · iexists _; isplitr
        swap; · iexact HS
        ipureintro; exact fun _ => rfl
      iexact Hg
    isplitl [Ho]; · iexact Ho
    isplitl [H0]; · iexact H0
    isplitl [H1]; · iexact H1
    isplitl [H2]; · iexact H2
    isplitl [H3]; · iexact H3
    iexact H4
  · rw [Dat.leavesExact_idle (dat0 V c) 3 t (idle0_3 t h1) (noFlush0_3 t h1)]
    rw [Dat.leavesExact_idle (dat0 V c) 4 t (idle0_4 t h1) (noFlush0_4 t h1)]
    by_cases h0 : t.val = 0
    · simp only [acc, blkAt_val]
      rw [h0]
      simp only [acc]
      iintro ⟨⟨⟨%s, -, HS⟩, Hg⟩, Ho, ⟨%d0, H0⟩, ⟨%d1, H1⟩, ⟨%d2, H2⟩, ⟨%d3, H3⟩, ⟨%d4, H4⟩⟩
      iapply (run0A c (grid0.coords t) _ _ _ _ _ _ _ _ _ _ _ _ ((hfirst0 t).mpr h0) (fun h => h1 ((hlast0 t).mp h)) (iblk0 V c 0 t) _ Set.univ _)
      isplitl [H0]; · iexact H0
      isplitl [HS]; · iexact HS
      iintro ⟨H0, HS⟩
      isplitl [HS Hg]
      · isplitl [HS]
        · iexists _; isplitr
          swap; · iexact HS
          ipureintro; exact fun _ => rfl
        iexact Hg
      isplitl [Ho]; · iexact Ho
      isplitl [H0]; · iexact H0
      isplitl [H1]; · iexact H1
      isplitl [H2]; · iexact H2
      isplitl [H3]; · iexists _; iexact H3
      iexists _; iexact H4
    · simp only [acc, blkAt_val]
      iintro ⟨⟨⟨%s, %hs, HS⟩, Hg⟩, Ho, ⟨%d0, H0⟩, ⟨%d1, H1⟩, ⟨%d2, H2⟩, ⟨%d3, H3⟩, ⟨%d4, H4⟩⟩
      obtain rfl := hs h0
      iapply (run0B c (grid0.coords t) _ _ _ _ _ _ _ _ _ _ _ _ (fun h => h0 ((hfirst0 t).mp h)) (fun h => h1 ((hlast0 t).mp h)) (iblk0 V c 0 t) (acc V c t.val).1 (acc V c t.val).2 Set.univ _)
      isplitl [H0]; · iexact H0
      isplitl [HS]; · iexact HS
      iintro ⟨H0, HS⟩
      isplitl [HS Hg]
      · isplitl [HS]
        · iexists _; isplitr
          swap; · iexact HS
          ipureintro; exact fun _ => rfl
        iexact Hg
      isplitl [Ho]; · iexact Ho
      isplitl [H0]; · iexact H0
      isplitl [H1]; · iexact H1
      isplitl [H2]; · iexact H2
      isplitl [H3]; · iexists _; iexact H3
      iexists _; iexact H4

theorem defs₀_row0 (t : Fin cfg0.N) :
    defs₀ (F := F) .tc cfg0.body (cfg0.bodyArgs t (cfg0.slots t)) = bodyAt0 t := by
  unfold defs₀; rw [Defs.onTc_tc]

/-- The obligation of the statistics body at every point. -/
theorem body_obligation0 (c : Dev nD) : BodyObligation (dat0 V c) (defs₀ (F := F)) Variants.none () Set.univ := fun t => by
  rw [bigSep_W0, bigSep_W0, defs₀_row0]
  exact triple_restated (sound_body0 V c t) rfl .rfl fun _ => .rfl

/-- The scoped rest is the invariant before the first point. -/
theorem hin0 (c : Dev nD) :
    (Pipeline.scopedRest (Ix := Unit) (Name := ℕ) (U := UR sig nD τ) (Lvl := ℕ) (Val := Elt F) spec0 c : sProp 𝕄) ⊢ Phi0 V c 0 := by
  rw [scopedRest0_split]; unfold Phi0; simp only [scM0, owns_whole]
  iintro ⟨⟨%f, H⟩, Hr⟩
  isplitl [H]
  · iexists f; isplitr
    · ipureintro; exact fun h => absurd rfl h
    iexact H
  iexact Hr

/-- After any point the invariant gives the scoped rest back. -/
theorem hout0 (c : Dev nD) (n : ℕ) :
    Phi0 V c n ⊢ (Pipeline.scopedRest (Ix := Unit) (Name := ℕ) (U := UR sig nD τ) (Lvl := ℕ) (Val := Elt F) spec0 c : sProp 𝕄) := by
  rw [scopedRest0_split]; unfold Phi0; simp only [scM0, owns_whole]
  iintro ⟨⟨%s, -, H⟩, Hr⟩
  isplitl [H]
  · iexists s; iexact H
  iexact Hr

theorem mem_blk0_3 (t : Fin cfg0.N) (i : S1x16.Idx) :
    i ∈ ((cfg0.win 3).blk t).view.set ↔ ∀ a : Fin 2, win0_3.index t a * S1x16.size a ≤ (i a).val ∧ (i a).val < win0_3.index t a * S1x16.size a + S1x16.size a := by
  show i ∈ ((View.whole main_v11_0).slice (win0_3.rect t)).set ↔ _
  rw [View.set_slice_whole, Rect.mem_set_unit]
  exact Iff.rfl

/-- The first result's array after the region. -/
theorem final0_3 (c : Dev nD) : (dat0 V c).arrAt 3 cfg0.N = scaleOut V c :=
  (dat0 V c).arrAt_eq_of_cover 3 _ (fun t hf => by
    show (cfg0.win 3).cut (grid0.coords t) ((dat0 V c).after 3 t) = _
    rw [after0_3]
    funext y
    show scaleOut V c ((cfg0.win 3).xinj (grid0.coords t) y) = scaleOut V c (((cfg0.win 3).blk t).view.emb y)
    refine congrArg (scaleOut V c) (funext fun a => Fin.ext ?_)
    match a with
    | ⟨0, _⟩ => show (y 0).val = 0 * 1 + 1 * (y 0).val; omega
    | ⟨1, _⟩ => show (y 1).val = 0 * 16 + 1 * (y 1).val; omega)
  (fun i => by
    refine ⟨⟨24, lt_of_lt_of_eq (by decide) N_0.symm⟩, (flush0_3 _).mpr rfl, (mem_blk0_3 _ i).mpr ?_⟩
    intro a
    match a with
    | ⟨0, _⟩ => have h : (i 0).val < 1 := (i 0).isLt; exact ⟨by show 0 * 1 ≤ (i 0).val; omega, by show (i 0).val < 0 * 1 + 1; omega⟩
    | ⟨1, _⟩ => have h : (i 1).val < 16 := (i 1).isLt; exact ⟨by show 0 * 16 ≤ (i 1).val; omega, by show (i 1).val < 0 * 16 + 16; omega⟩)

theorem mem_blk0_4 (t : Fin cfg0.N) (i : S1x16.Idx) :
    i ∈ ((cfg0.win 4).blk t).view.set ↔ ∀ a : Fin 2, win0_4.index t a * S1x16.size a ≤ (i a).val ∧ (i a).val < win0_4.index t a * S1x16.size a + S1x16.size a := by
  show i ∈ ((View.whole main_v11_1).slice (win0_4.rect t)).set ↔ _
  rw [View.set_slice_whole, Rect.mem_set_unit]
  exact Iff.rfl

/-- The second result's array after the region. -/
theorem final0_4 (c : Dev nD) : (dat0 V c).arrAt 4 cfg0.N = shiftOut V c :=
  (dat0 V c).arrAt_eq_of_cover 4 _ (fun t hf => by
    show (cfg0.win 4).cut (grid0.coords t) ((dat0 V c).after 4 t) = _
    rw [after0_4]
    funext y
    show shiftOut V c ((cfg0.win 4).xinj (grid0.coords t) y) = shiftOut V c (((cfg0.win 4).blk t).view.emb y)
    refine congrArg (shiftOut V c) (funext fun a => Fin.ext ?_)
    match a with
    | ⟨0, _⟩ => show (y 0).val = 0 * 1 + 1 * (y 0).val; omega
    | ⟨1, _⟩ => show (y 1).val = 0 * 16 + 1 * (y 1).val; omega)
  (fun i => by
    refine ⟨⟨24, lt_of_lt_of_eq (by decide) N_0.symm⟩, (flush0_4 _).mpr rfl, (mem_blk0_4 _ i).mpr ?_⟩
    intro a
    match a with
    | ⟨0, _⟩ => have h : (i 0).val < 1 := (i 0).isLt; exact ⟨by show 0 * 1 ≤ (i 0).val; omega, by show (i 0).val < 0 * 1 + 1; omega⟩
    | ⟨1, _⟩ => have h : (i 1).val < 16 := (i 1).isLt; exact ⟨by show 0 * 16 ≤ (i 1).val; omega, by show (i 1).val < 0 * 16 + 16; omega⟩)

end Cert.KernelIdeal.Own

end
-- ==== Proof.KI.Run.lean ====
module

public import proofs.«01_k».proof.Proof.KI.LstmData
public import proofs.«01_k».proof.Proof.KI.Stats
public import proofs.«01_k».proof.Proof.Gen.KernelIdeal.Regions
public import Idealize.ShloMosaic.Lib.Pipeline.Regions
public import Idealize.ShloMosaic.Lib.Pipeline.RegionsLoop
public import Idealize.ShloMosaic.Lib.Pipeline.Frame
public import proofs.«01_k».proof.Proof.Gen.KernelIdeal.Skeleton
public import proofs.«01_k».proof.Proof.Gen.KernelIdeal.Points
public import Idealize.ShloMosaic.Lib.Pipeline.FrameBody
public import Idealize.ShloMosaic.Lib.Ring
public import Idealize.ShloMosaic.Lib.Pipeline.Value
public import Idealize.ShloMosaic.Lib.Tactic
public import Idealize.ShloMosaic.Lib.WordCmp
public import Idealize.ShloMosaic.Lib.WritesUnit
public import Idealize.ShloMosaic.Lib.VecWindow
public import Idealize.ShloMosaic.Lib.ValueIdx

@[expose] public section

set_option maxRecDepth 16384

noncomputable section

namespace Cert.KernelIdeal.Own

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.ValueIdx
open Idealize.ShloMosaic.Pipeline (Seg RegionSeg Dat Cfg Window BodyObligation cellOf)

variable {F : FTy → Type} [FloatOps F]

local notation "𝕄" => MT nD τ sig Unit (Elt F) ℕ (UR sig nD τ) ℕ

/-! ## The two regions' records and the run -/

/-- The contents of core `c`'s buffers, by the name of the buffer. -/
abbrev VV : Type := (c : Dev nD) → (b : Ref sig .tc) → Buf (Elt F) ((c : Thread nD τ).loc b)

/-- The proof data of the two regions, at the contents each is entered with. -/
def pdats (Va Vb : VV (F := F)) : (p : Fin 2) → (c : Dev nD) → Dat τ (Elt F) Unit ℕ (UR sig nD τ) ℕ (cfgs p) c := fun
  | 0 => fun c => dat0 Va c
  | 1 => fun c => dat1 Vb c

/-- No core owes another anything. -/
abbrev L0 : GSem nD τ sig → Finset Unit := fun _ => ∅
abbrev lv0 : GSem nD τ sig → Unit → ℕ := fun _ _ => 0

/-- What rides along: the core owes nothing. -/
abbrev E0 (c : Dev nD) : sProp 𝕄 := iprop(∃ W, owes (c : Thread nD τ) (0 : CellTallies nD τ sig Unit) W)

set_option backward.isDefEq.respectTransparency.types false in
set_option maxHeartbeats 4000000 in
/-- Region 0 as a segment: entered with the unscoped buffers at `Va`, left with them at `Vp`, which is `Va` off the
    results. -/
def reg0 (Va Vb Vp : VV (F := F)) (ho3 : ∀ c, Vp c main_v11_0 = scaleOut Va c) (ho4 : ∀ c, Vp c main_v11_1 = shiftOut Va c)
    (hne : ∀ c (b : Ref sig .tc), b ≠ main_v11_0 → b ≠ main_v11_1 → Vp c b = Va c b) :
    RegionSeg (pcfgs (F := F)) adm (pdats Va Vb) () defs₀ Variants.none L0 lv0 0 where
  win := launch0.win.to₀
  block_pos := launch0.block_pos
  stage_whole := launch0.stage_whole
  K := PEmpty
  osem k := k.elim
  ho := Pipeline.OwnSemFacts.none _
  hbody c := (body_obligation0 Va c).loose
  hwaits := Pipeline.hwaits_of_owed_zero _ _ _ _ L0 lv0 0 fun _ _ => rfl
  pre c := iprop(unscopedBufs c (Va c) ∗ E0 c)
  post c := iprop(unscopedBufs c (Vp c) ∗ E0 c)
  X _ := BI.emp
  Y _ := BI.emp
  Z c := iprop(Pipeline.unscopedRest (Ix := Unit) (Name := ℕ) (U := UR sig nD τ) (Lvl := ℕ) spec0 c (Va c))
  hentry c := by
    rw [Pipeline.ownSems0_none]
    have hsplit := Pipeline.arrays_of_unscopedBufs (p := 0) (pcfgs (F := F)) adm (pdats Va Vb) launch0.win launch0.arr_whole c
      ((pdats Va Vb 0 c).share_full fun _ => rfl) (Va c) fun _ => rfl
    iintro ⟨⟨Hub, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitr; · iempintro
    iexact Hrest
  hin c := by
    rw [show (pdats Va Vb 0 c).Φ 0 = Phi0 Va c 0 from rfl]
    iintro ⟨-, -, Hr⟩; iapply (hin0 Va c); iexact Hr
  hout c := by
    rw [Pipeline.ownSems0_none, show (pdats Va Vb 0 c).Φ (Fin.last _) = Phi0 Va c (Fin.last cfg0.N).val from rfl]
    iintro Hr
    isplitr; · iempintro
    isplitr; · iempintro
    iapply (hout0 Va c _); iexact Hr
  hexit c := by
    have hjoin := Pipeline.unscopedBufs_of_arrays (p := 0) (pcfgs (F := F)) adm (Ix := Unit) (Name := ℕ) (U := UR sig nD τ) (Lvl := ℕ) launch0.win launch0.arr_whole c
      (pdats Va Vb) ((pdats Va Vb 0 c).share_full fun _ => rfl) (Va c) (Vp c) ((pdats Va Vb 0 c).arrAt · cfg0.N)
      (fun w => by
        fin_cases w
        · exact ((dat0 Va c).arrAt_in 0 rfl _).trans (hne c main_v6 (by decide) (by decide)).symm
        · exact ((dat0 Va c).arrAt_in 1 rfl _).trans (hne c main_v8 (by decide) (by decide)).symm
        · exact ((dat0 Va c).arrAt_in 2 rfl _).trans (hne c main_v10 (by decide) (by decide)).symm
        · exact (final0_3 Va c).trans (ho3 c).symm
        · exact (final0_4 Va c).trans (ho4 c).symm)
      (fun b hb => hne c b (fun h => hb (h ▸ Finset.mem_image.mpr ⟨3, Finset.mem_univ _, rfl⟩)) (fun h => hb (h ▸ Finset.mem_image.mpr ⟨4, Finset.mem_univ _, rfl⟩)))
    iintro ⟨Ha, HO, -, Hrest⟩
    imodintro
    isplitl [Ha Hrest]
    · iapply hjoin; isplitl [Ha] <;> iassumption
    unfold Pipeline.Dat.owesAt Pipeline.owesWithin
    icases HO with ⟨%W, -, HO⟩; iexists W; iexact HO

set_option backward.isDefEq.respectTransparency.types false in
set_option maxHeartbeats 4000000 in
/-- Region 1 as a segment: entered with the unscoped buffers at `Vb`, left with them at `Vp`, which is `Vb` off the
    results. -/
def reg1 (Va Vb Vp : VV (F := F)) (ho21 : ∀ c, Vp c main_v68 = outV Vb c)
    (hne : ∀ c (b : Ref sig .tc), b ≠ main_v68 → Vp c b = Vb c b) :
    RegionSeg (pcfgs (F := F)) adm (pdats Va Vb) () defs₀ Variants.none L0 lv0 1 where
  win := launch1.win.to₀
  block_pos := launch1.block_pos
  stage_whole := launch1.stage_whole
  K := PEmpty
  osem k := k.elim
  ho := Pipeline.OwnSemFacts.none _
  hbody c := (body_obligation1 Vb c).loose
  hwaits := Pipeline.hwaits_of_owed_zero _ _ _ _ L0 lv0 1 fun _ _ => rfl
  pre c := iprop(unscopedBufs c (Vb c) ∗ E0 c)
  post c := iprop(unscopedBufs c (Vp c) ∗ E0 c)
  X _ := BI.emp
  Y _ := BI.emp
  Z c := iprop(Pipeline.unscopedRest (Ix := Unit) (Name := ℕ) (U := UR sig nD τ) (Lvl := ℕ) spec1 c (Vb c))
  hentry c := by
    rw [Pipeline.ownSems0_none]
    have hsplit := Pipeline.arrays_of_unscopedBufs (p := 1) (pcfgs (F := F)) adm (pdats Va Vb) launch1.win launch1.arr_whole c
      ((pdats Va Vb 1 c).share_full fun _ => rfl) (Vb c) fun _ => rfl
    iintro ⟨⟨Hub, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitr; · iempintro
    iexact Hrest
  hin c := by
    rw [show (pdats Va Vb 1 c).Φ 0 = Phi1 Vb c 0 from rfl]
    iintro ⟨-, -, Hr⟩; iapply (hin1 Vb c); iexact Hr
  hout c := by
    rw [Pipeline.ownSems0_none, show (pdats Va Vb 1 c).Φ (Fin.last _) = Phi1 Vb c (Fin.last cfg1.N).val from rfl]
    iintro Hr
    isplitr; · iempintro
    isplitr; · iempintro
    iapply (hout1 Vb c _); iexact Hr
  hexit c := by
    have hjoin := Pipeline.unscopedBufs_of_arrays (p := 1) (pcfgs (F := F)) adm (Ix := Unit) (Name := ℕ) (U := UR sig nD τ) (Lvl := ℕ) launch1.win launch1.arr_whole c
      (pdats Va Vb) ((pdats Va Vb 1 c).share_full fun _ => rfl) (Vb c) (Vp c) ((pdats Va Vb 1 c).arrAt · cfg1.N)
      (fun w => by
        fin_cases w
        · exact ((dat1 Vb c).arrAt_in 0 rfl _).trans (hne c main_v4 (by decide)).symm
        · exact ((dat1 Vb c).arrAt_in 1 rfl _).trans (hne c main_v11_0 (by decide)).symm
        · exact ((dat1 Vb c).arrAt_in 2 rfl _).trans (hne c main_v11_1 (by decide)).symm
        · exact ((dat1 Vb c).arrAt_in 3 rfl _).trans (hne c main_arg1 (by decide)).symm
        · exact ((dat1 Vb c).arrAt_in 4 rfl _).trans (hne c main_arg2 (by decide)).symm
        · exact ((dat1 Vb c).arrAt_in 5 rfl _).trans (hne c main_arg3 (by decide)).symm
        · exact ((dat1 Vb c).arrAt_in 6 rfl _).trans (hne c main_arg4 (by decide)).symm
        · exact ((dat1 Vb c).arrAt_in 7 rfl _).trans (hne c main_arg5 (by decide)).symm
        · exact ((dat1 Vb c).arrAt_in 8 rfl _).trans (hne c main_arg6 (by decide)).symm
        · exact ((dat1 Vb c).arrAt_in 9 rfl _).trans (hne c main_arg7 (by decide)).symm
        · exact ((dat1 Vb c).arrAt_in 10 rfl _).trans (hne c main_v57 (by decide)).symm
        · exact ((dat1 Vb c).arrAt_in 11 rfl _).trans (hne c main_v58 (by decide)).symm
        · exact ((dat1 Vb c).arrAt_in 12 rfl _).trans (hne c main_v60 (by decide)).symm
        · exact ((dat1 Vb c).arrAt_in 13 rfl _).trans (hne c main_v61 (by decide)).symm
        · exact ((dat1 Vb c).arrAt_in 14 rfl _).trans (hne c main_v62 (by decide)).symm
        · exact ((dat1 Vb c).arrAt_in 15 rfl _).trans (hne c main_v63 (by decide)).symm
        · exact ((dat1 Vb c).arrAt_in 16 rfl _).trans (hne c main_v64 (by decide)).symm
        · exact ((dat1 Vb c).arrAt_in 17 rfl _).trans (hne c main_v65 (by decide)).symm
        · exact ((dat1 Vb c).arrAt_in 18 rfl _).trans (hne c main_v66 (by decide)).symm
        · exact ((dat1 Vb c).arrAt_in 19 rfl _).trans (hne c main_arg22 (by decide)).symm
        · exact ((dat1 Vb c).arrAt_in 20 rfl _).trans (hne c main_v67 (by decide)).symm
        · exact (final1_21 Vb c).trans (ho21 c).symm)
      (fun b hb => hne c b (fun h => hb (h ▸ Finset.mem_image.mpr ⟨21, Finset.mem_univ _, rfl⟩)))
    iintro ⟨Ha, HO, -, Hrest⟩
    imodintro
    isplitl [Ha Hrest]
    · iapply hjoin; isplitl [Ha] <;> iassumption
    unfold Pipeline.Dat.owesAt Pipeline.owesWithin
    icases HO with ⟨%W, -, HO⟩; iexists W; iexact HO

/-! ## The run -/

/-- The rounds algebra's embedding into the machine's. -/
def EP0 : Emb (UR sig nD τ) 𝕄 :=
  (Emb.refl _).trans (uEmb (nD := nD) (sig := sig) (Ix := Unit) (Val := Elt F) (Name := ℕ) (U := UR sig nD τ) (Lvl := ℕ)).toEmb

instance EP0_landsIn : (EP0 (F := F)).LandsIn (upEmb : UEmb _ 𝕄) := by unfold EP0; infer_instance

/-- The library's launch element. -/
def u0 : UR sig nD τ := initOf (Pipeline.cells cfgs cellOf_inj) (Pipeline.launchToks cfgs cellOf_inj)

variable (m : (ℓ : Loc nD τ sig) → Buf (Elt F) ℓ) (ρ : Dev nD → PrngReg)

/-- What the statistics region leaves; nothing else is read of it. -/
def outs0 : Outs (F := F) := fun _ b c =>
  if h : b = main_v11_0 then h ▸ (scaleOut (fun c b => V3 m c b) c : Buf (Elt F) ((c : Thread nD τ).loc main_v11_0))
  else if h : b = main_v11_1 then h ▸ (shiftOut (fun c b => V3 m c b) c : Buf (Elt F) ((c : Thread nD τ).loc main_v11_1))
  else m ((c : Thread nD τ).loc b)

/-- What the two regions leave. -/
def outsF : Outs (F := F) := fun n b c =>
  if h : b = main_v68 then h ▸ (outV (fun c b => V5 m (outs0 m) c b) c : Buf (Elt F) ((c : Thread nD τ).loc main_v68))
  else outs0 m n b c

theorem outsF_v11_0 (c : Dev nD) : outsF m 4 main_v11_0 c = scaleOut (fun c b => V3 m c b) c := by
  unfold outsF outs0; rw [dif_neg (by decide), dif_pos rfl]
theorem outsF_v11_1 (c : Dev nD) : outsF m 4 main_v11_1 c = shiftOut (fun c b => V3 m c b) c := by
  unfold outsF outs0; rw [dif_neg (by decide), dif_neg (by decide), dif_pos rfl]
theorem V5_outsF (c : Dev nD) : V5 m (outsF m) c = V5 m (outs0 m) c := by
  have h0 : outsF m 4 main_v11_0 c = outs0 m 4 main_v11_0 c := by unfold outsF; rw [dif_neg (by decide)]
  have h1 : outsF m 4 main_v11_1 c = outs0 m 4 main_v11_1 c := by unfold outsF; rw [dif_neg (by decide)]
  show StableHlo.after hostOps1 (V4 m (outsF m) c) = StableHlo.after hostOps1 (V4 m (outs0 m) c)
  unfold V4; rw [h0, h1]
theorem outsF_v68 (c : Dev nD) : outsF m 6 main_v68 c = outV (fun c b => V5 m (outsF m) c b) c := by
  have h : (fun (c : Dev nD) (b : Ref sig .tc) => V5 m (outs0 m) c b) = fun (c : Dev nD) (b : Ref sig .tc) => V5 m (outsF m) c b := by
    funext c b; rw [V5_outsF]
  unfold outsF; rw [dif_pos rfl]
  exact congrFun (congrArg outV h) c

/-- The contents the statistics region is entered with. -/
abbrev VA : VV (F := F) := fun c b => V3 m c b
/-- The contents the recurrence region is entered with. -/
abbrev VB : VV (F := F) := fun c b => V5 m (outsF m) c b
/-- The contents each region leaves. -/
abbrev VA' : VV (F := F) := fun c b => V4 m (outsF m) c b
abbrev VB' : VV (F := F) := fun c b => V6 m (outsF m) c b

/-- The contents the recurrence region is entered with, read off the statistics region's results. -/
theorem V4_v11_0 (c : Dev nD) : V4 m (outsF m) c main_v11_0 = scaleOut (fun c b => V3 m c b) c := by
  simp only [V4]
  rw [Function.update_of_ne (StableHlo.devRef_ne_of_ne (by decide) : (Proc.devRef .tc main_v11_0 : DevRef τ sig) ≠ Proc.devRef .tc main_v11_1), Function.update_self, outsF_v11_0]
theorem V4_v11_1 (c : Dev nD) : V4 m (outsF m) c main_v11_1 = shiftOut (fun c b => V3 m c b) c := by
  simp only [V4]
  rw [Function.update_self, outsF_v11_1]
theorem V6_v68 (c : Dev nD) : V6 m (outsF m) c main_v68 = outV (fun c b => V5 m (outsF m) c b) c := by
  simp only [V6]
  rw [Function.update_self, outsF_v68]

/-- The statistics region's record at this launch. -/
def R0 := reg0 (F := F) (VA m) (VB m) (VA' m)
  (fun c => V4_v11_0 m c) (fun c => V4_v11_1 m c)
  (fun c b h0 h1 => V4_of m (outsF m) c b (by simp only [List.mem_cons, List.not_mem_nil, or_false, not_or]; exact ⟨h0, h1⟩))
/-- The recurrence region's record at this launch. -/
def R1 := reg1 (F := F) (VA m) (VB m) (VB' m)
  (fun c => V6_v68 m c)
  (fun c b h0 => V6_of m (outsF m) c b (by simp only [List.mem_cons, List.not_mem_nil, or_false]; exact h0))

set_option backward.isDefEq.respectTransparency.types false in
set_option maxHeartbeats 4000000 in
/-- Every execution from memory `m` ends, with every unscoped buffer at the last valuation and every counter at zero,
    given the two regions' records. -/
theorem run_cond (outs : Outs (F := F)) (pdats : (p : Fin 2) → (c : Dev nD) → Dat τ (Elt F) Unit ℕ (UR sig nD τ) ℕ (cfgs p) c)
    (R0 : RegionSeg (pcfgs (F := F)) adm pdats () defs₀ Variants.none L0 lv0 0)
    (hpre0 : ∀ c : Dev nD, iprop(StableHlo.held (c : Thread nD τ) (Pipeline.ucRefs τ sig) (V3 m c) ∗ E0 c) ⊢ R0.pre c)
    (hpost0 : ∀ c : Dev nD, R0.post c ⊢ iprop(StableHlo.held (c : Thread nD τ) (Pipeline.ucRefs τ sig) (V4 m outs c) ∗ E0 c))
    (R1 : RegionSeg (pcfgs (F := F)) adm pdats () defs₀ Variants.none L0 lv0 1)
    (hpre1 : ∀ c : Dev nD, iprop(StableHlo.held (c : Thread nD τ) (Pipeline.ucRefs τ sig) (V5 m outs c) ∗ E0 c) ⊢ R1.pre c)
    (hpost1 : ∀ c : Dev nD, R1.post c ⊢ iprop(StableHlo.held (c : Thread nD τ) (Pipeline.ucRefs τ sig) (V6 m outs c) ∗ E0 c)) : θ_run defs (onTc (τ := τ) (main (F := F))) ⟨m, fun _ => 0, ρ⟩ (fun r => (∀ c : Dev nD, ∀ b ∈ Pipeline.ucRefs τ sig,
      r.2.mem (c, b) = V7 m outs c b) ∧ r.2.sem = fun _ => 0) := by
  refine Pipeline.θ_run_regions_kit_dev_sems (pcfgs (F := F)) adm pdats () cellOf_inj EP0 defs₀ Variants.none L0 lv0 m ρ main
    (segs m outs Variants.none L0 lv0 (fun _ => E0) () _ R0 R1)
    (fun c Q => by
      rewrite [main_chain c, Seg.run_eq_chain,
        show (segs m outs Variants.none L0 lv0 (fun _ => E0) () _ R0 R1 c).map Seg.prog = [
          StableHlo.seq hostOps0,
          StableHlo.seq hostOps0_1,
          StableHlo.seq hostOps0_2,
          Prog.lift (.customCall (Pipeline.entry 0) ()),
          StableHlo.seq hostOps1,
          Prog.lift (.customCall (Pipeline.entry 1) ()),
          StableHlo.seq hostOps2 ] from rfl]
      dsimp (config := { failIfUnchanged := false }) only
      exact .rfl)
    (fun c => by simp only [segs, Seg.pipes_host, Seg.pipes_region, Seg.pipes_nil]; decide) (fun _ => 0) (fun _ _ => rfl) (fun _ => iprop(emp)) u0 ?_
    (T₀ := fun c => iprop(StableHlo.held (c : Thread nD τ) (Pipeline.ucRefs τ sig) (V0 m c) ∗ E0 c))
    (Tₙ := fun c => StableHlo.held (c : Thread nD τ) (Pipeline.ucRefs τ sig) (V7 m outs c))
    (hch := fun c => ⟨.rfl, .rfl, .rfl, hpre0 c, hpost0 c, hpre1 c, hpost1 c, .rfl⟩)
    (hinit := ?_) (QY := fun c s => ∀ b ∈ Pipeline.ucRefs τ sig, s.mem (c, b) = V7 m outs c b)
    (hfin := fun c s' => ?_) (hQ := fun _ h hz => ⟨h, funext fun g => hz g (.inr (regions_no_unscoped g.2))⟩)
  · iintro Hu; imodintro
    isplitl [Hu]
    · iapply (show (ownU u0 : sProp 𝕄) ⊢ BI.own (EP0 (F := F) (initOf (Pipeline.cells cfgs cellOf_inj) (Pipeline.launchToks cfgs cellOf_inj))) from .rfl); iexact Hu
    iapply (show (BI.emp : sProp 𝕄) ⊢ bigSep Finset.univ (fun _ : Dev nD => (BI.emp : sProp 𝕄)) from by rw [BI.bigSep_emp_const])
    iempintro
  · have hm1 (c : Dev nD) : (iprop(unscopedBufs c (fun b => m ((c.tc : Thread nD τ).loc b)) ∗ unscopedSems0 c
          ∗ owes (c.tc : Thread nD τ) ((fun _ => 0 : Dev nD → CellTallies nD τ sig Unit) c) ∅ ∗ Pipeline.launchCred (fun _ => 0 : Dev nD → CellTallies nD τ sig Unit) c ∗ prngReg c (ρ c) ∗ BI.emp) : sProp 𝕄) ⊢ iprop(StableHlo.held (c : Thread nD τ) (Pipeline.ucRefs τ sig) (V0 m c) ∗ E0 c) := by
      rw [← Pipeline.unscopedBufs_held (Ix := Unit) (Name := ℕ) (U := UR sig nD τ) (Lvl := ℕ) c (V0 m c)]
      iintro ⟨Hu, -, Ho, -⟩
      isplitl [Hu]; · iexact Hu
      iexists _; iexact Ho
    have hm : (bigSep Finset.univ fun c : Dev nD => iprop(unscopedBufs c (fun b => m ((c.tc : Thread nD τ).loc b)) ∗ unscopedSems0 c
          ∗ owes (c.tc : Thread nD τ) ((fun _ => 0 : Dev nD → CellTallies nD τ sig Unit) c) ∅ ∗ Pipeline.launchCred (fun _ => 0 : Dev nD → CellTallies nD τ sig Unit) c ∗ prngReg c (ρ c) ∗ BI.emp))
        ⊢ (bigSep Finset.univ fun c : Dev nD => iprop(StableHlo.held (c : Thread nD τ) (Pipeline.ucRefs τ sig) (V0 m c) ∗ E0 c) : sProp 𝕄) := bigSep_mono fun c _ => hm1 c
    iintro ⟨H, -⟩
    imodintro
    iapply hm; iexact H
  · unfold StableHlo.held
    iintro ⟨Hh, HSI⟩
    ihave Hr := (pointsTo_read_all (Pipeline.ucRefs τ sig) (fun b => ((c : Thread nD τ).1, b)) (V7 m outs c) s') $$ [Hh HSI]
    · isplitl [Hh] <;> iassumption
    icases Hr with ⟨%h, HSI⟩
    imodintro
    isplitr
    · ipureintro
      exact h
    · iexact HSI

/-- Every execution from memory `m` ends, with every unscoped buffer at the last valuation and every counter at zero. -/
theorem run_main : θ_run defs (onTc (τ := τ) (main (F := F))) ⟨m, fun _ => 0, ρ⟩ (fun r => (∀ c : Dev nD, ∀ b ∈ Pipeline.ucRefs τ sig,
      r.2.mem (c, b) = V7 m (outsF m) c b) ∧ r.2.sem = fun _ => 0) := by
  refine run_cond m ρ (outsF m) _ (R0 m) (fun c => ?_) (fun c => ?_) (R1 m) (fun c => ?_) (fun c => ?_)
  · rw [← Pipeline.unscopedBufs_held (Ix := Unit) (Name := ℕ) (U := UR sig nD τ) (Lvl := ℕ) c (V3 m c)]; exact .rfl
  · rw [← Pipeline.unscopedBufs_held (Ix := Unit) (Name := ℕ) (U := UR sig nD τ) (Lvl := ℕ) c (V4 m (outsF m) c)]; exact .rfl
  · rw [← Pipeline.unscopedBufs_held (Ix := Unit) (Name := ℕ) (U := UR sig nD τ) (Lvl := ℕ) c (V5 m (outsF m) c)]; exact .rfl
  · rw [← Pipeline.unscopedBufs_held (Ix := Unit) (Name := ℕ) (U := UR sig nD τ) (Lvl := ℕ) c (V6 m (outsF m) c)]; exact .rfl

/-- What a buffer of `@main` holds at the end is the last valuation's. -/
theorem mem_ucRefs (b : Ref sig .tc) (h : (Proc.devRef .tc b : DevRef τ sig) ∈ Pipeline.ucRefs τ sig) {s : MemSt nD τ sig (Elt F)} (c : Dev nD)
    (hs : ∀ b ∈ Pipeline.ucRefs τ sig, s.mem (c, b) = V7 m (outsF m) c b) : s.mem ((c.tc : Thread nD τ).loc b) = V7 m (outsF m) c b :=
  hs _ h

/-- Every execution ends with each argument as launched and every counter at zero. -/
theorem frame_main : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17)
      ∧ r.2.mem ((c.tc : Thread nD τ).loc main_arg18) = m ((c.tc : Thread nD τ).loc main_arg18)
      ∧ r.2.mem ((c.tc : Thread nD τ).loc main_arg19) = m ((c.tc : Thread nD τ).loc main_arg19)
      ∧ r.2.mem ((c.tc : Thread nD τ).loc main_arg20) = m ((c.tc : Thread nD τ).loc main_arg20)
      ∧ r.2.mem ((c.tc : Thread nD τ).loc main_arg21) = m ((c.tc : Thread nD τ).loc main_arg21)
      ∧ r.2.mem ((c.tc : Thread nD τ).loc main_arg22) = m ((c.tc : Thread nD τ).loc main_arg22)
      ∧ r.2.mem ((c.tc : Thread nD τ).loc main_arg23) = m ((c.tc : Thread nD τ).loc main_arg23))
      ∧ r.2.sem = fun _ => 0) :=
  (run_main m ρ).mono fun r h => ⟨fun c => ⟨(h.1 c (Proc.devRef .tc main_arg0) (Finset.mem_filter.mpr ⟨StableHlo.devRef_mem_tcRefs main_arg0, by decide⟩)).trans (V7_main_arg0 m (outsF m) c), (h.1 c (Proc.devRef .tc main_arg1) (Finset.mem_filter.mpr ⟨StableHlo.devRef_mem_tcRefs main_arg1, by decide⟩)).trans (V7_main_arg1 m (outsF m) c), (h.1 c (Proc.devRef .tc main_arg2) (Finset.mem_filter.mpr ⟨StableHlo.devRef_mem_tcRefs main_arg2, by decide⟩)).trans (V7_main_arg2 m (outsF m) c), (h.1 c (Proc.devRef .tc main_arg3) (Finset.mem_filter.mpr ⟨StableHlo.devRef_mem_tcRefs main_arg3, by decide⟩)).trans (V7_main_arg3 m (outsF m) c), (h.1 c (Proc.devRef .tc main_arg4) (Finset.mem_filter.mpr ⟨StableHlo.devRef_mem_tcRefs main_arg4, by decide⟩)).trans (V7_main_arg4 m (outsF m) c), (h.1 c (Proc.devRef .tc main_arg5) (Finset.mem_filter.mpr ⟨StableHlo.devRef_mem_tcRefs main_arg5, by decide⟩)).trans (V7_main_arg5 m (outsF m) c), (h.1 c (Proc.devRef .tc main_arg6) (Finset.mem_filter.mpr ⟨StableHlo.devRef_mem_tcRefs main_arg6, by decide⟩)).trans (V7_main_arg6 m (outsF m) c), (h.1 c (Proc.devRef .tc main_arg7) (Finset.mem_filter.mpr ⟨StableHlo.devRef_mem_tcRefs main_arg7, by decide⟩)).trans (V7_main_arg7 m (outsF m) c), (h.1 c (Proc.devRef .tc main_arg8) (Finset.mem_filter.mpr ⟨StableHlo.devRef_mem_tcRefs main_arg8, by decide⟩)).trans (V7_main_arg8 m (outsF m) c), (h.1 c (Proc.devRef .tc main_arg9) (Finset.mem_filter.mpr ⟨StableHlo.devRef_mem_tcRefs main_arg9, by decide⟩)).trans (V7_main_arg9 m (outsF m) c), (h.1 c (Proc.devRef .tc main_arg10) (Finset.mem_filter.mpr ⟨StableHlo.devRef_mem_tcRefs main_arg10, by decide⟩)).trans (V7_main_arg10 m (outsF m) c), (h.1 c (Proc.devRef .tc main_arg11) (Finset.mem_filter.mpr ⟨StableHlo.devRef_mem_tcRefs main_arg11, by decide⟩)).trans (V7_main_arg11 m (outsF m) c), (h.1 c (Proc.devRef .tc main_arg12) (Finset.mem_filter.mpr ⟨StableHlo.devRef_mem_tcRefs main_arg12, by decide⟩)).trans (V7_main_arg12 m (outsF m) c), (h.1 c (Proc.devRef .tc main_arg13) (Finset.mem_filter.mpr ⟨StableHlo.devRef_mem_tcRefs main_arg13, by decide⟩)).trans (V7_main_arg13 m (outsF m) c), (h.1 c (Proc.devRef .tc main_arg14) (Finset.mem_filter.mpr ⟨StableHlo.devRef_mem_tcRefs main_arg14, by decide⟩)).trans (V7_main_arg14 m (outsF m) c), (h.1 c (Proc.devRef .tc main_arg15) (Finset.mem_filter.mpr ⟨StableHlo.devRef_mem_tcRefs main_arg15, by decide⟩)).trans (V7_main_arg15 m (outsF m) c), (h.1 c (Proc.devRef .tc main_arg16) (Finset.mem_filter.mpr ⟨StableHlo.devRef_mem_tcRefs main_arg16, by decide⟩)).trans (V7_main_arg16 m (outsF m) c), (h.1 c (Proc.devRef .tc main_arg17) (Finset.mem_filter.mpr ⟨StableHlo.devRef_mem_tcRefs main_arg17, by decide⟩)).trans (V7_main_arg17 m (outsF m) c), (h.1 c (Proc.devRef .tc main_arg18) (Finset.mem_filter.mpr ⟨StableHlo.devRef_mem_tcRefs main_arg18, by decide⟩)).trans (V7_main_arg18 m (outsF m) c), (h.1 c (Proc.devRef .tc main_arg19) (Finset.mem_filter.mpr ⟨StableHlo.devRef_mem_tcRefs main_arg19, by decide⟩)).trans (V7_main_arg19 m (outsF m) c), (h.1 c (Proc.devRef .tc main_arg20) (Finset.mem_filter.mpr ⟨StableHlo.devRef_mem_tcRefs main_arg20, by decide⟩)).trans (V7_main_arg20 m (outsF m) c), (h.1 c (Proc.devRef .tc main_arg21) (Finset.mem_filter.mpr ⟨StableHlo.devRef_mem_tcRefs main_arg21, by decide⟩)).trans (V7_main_arg21 m (outsF m) c), (h.1 c (Proc.devRef .tc main_arg22) (Finset.mem_filter.mpr ⟨StableHlo.devRef_mem_tcRefs main_arg22, by decide⟩)).trans (V7_main_arg22 m (outsF m) c), (h.1 c (Proc.devRef .tc main_arg23) (Finset.mem_filter.mpr ⟨StableHlo.devRef_mem_tcRefs main_arg23, by decide⟩)).trans (V7_main_arg23 m (outsF m) c)⟩, h.2⟩

/-- Every execution ends with the result at the last valuation and each argument as launched. -/
theorem value_main : θ_run defs (onTc (τ := τ) (main (F := F))) ⟨m, fun _ => 0, ρ⟩ (fun r => ∀ c : Dev nD,
      r.2.mem ((c.tc : Thread nD τ).loc main_v69) = V7 m (outsF m) c main_v69
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17)
      ∧ r.2.mem ((c.tc : Thread nD τ).loc main_arg18) = m ((c.tc : Thread nD τ).loc main_arg18)
      ∧ r.2.mem ((c.tc : Thread nD τ).loc main_arg19) = m ((c.tc : Thread nD τ).loc main_arg19)
      ∧ r.2.mem ((c.tc : Thread nD τ).loc main_arg20) = m ((c.tc : Thread nD τ).loc main_arg20)
      ∧ r.2.mem ((c.tc : Thread nD τ).loc main_arg21) = m ((c.tc : Thread nD τ).loc main_arg21)
      ∧ r.2.mem ((c.tc : Thread nD τ).loc main_arg22) = m ((c.tc : Thread nD τ).loc main_arg22)
      ∧ r.2.mem ((c.tc : Thread nD τ).loc main_arg23) = m ((c.tc : Thread nD τ).loc main_arg23)) :=
  (run_main m ρ).mono fun r h c => ⟨h.1 c (Proc.devRef .tc main_v69) (Finset.mem_filter.mpr ⟨StableHlo.devRef_mem_tcRefs main_v69, by decide⟩),
    (h.1 c (Proc.devRef .tc main_arg0) (Finset.mem_filter.mpr ⟨StableHlo.devRef_mem_tcRefs main_arg0, by decide⟩)).trans (V7_main_arg0 m (outsF m) c), (h.1 c (Proc.devRef .tc main_arg1) (Finset.mem_filter.mpr ⟨StableHlo.devRef_mem_tcRefs main_arg1, by decide⟩)).trans (V7_main_arg1 m (outsF m) c), (h.1 c (Proc.devRef .tc main_arg2) (Finset.mem_filter.mpr ⟨StableHlo.devRef_mem_tcRefs main_arg2, by decide⟩)).trans (V7_main_arg2 m (outsF m) c), (h.1 c (Proc.devRef .tc main_arg3) (Finset.mem_filter.mpr ⟨StableHlo.devRef_mem_tcRefs main_arg3, by decide⟩)).trans (V7_main_arg3 m (outsF m) c), (h.1 c (Proc.devRef .tc main_arg4) (Finset.mem_filter.mpr ⟨StableHlo.devRef_mem_tcRefs main_arg4, by decide⟩)).trans (V7_main_arg4 m (outsF m) c), (h.1 c (Proc.devRef .tc main_arg5) (Finset.mem_filter.mpr ⟨StableHlo.devRef_mem_tcRefs main_arg5, by decide⟩)).trans (V7_main_arg5 m (outsF m) c), (h.1 c (Proc.devRef .tc main_arg6) (Finset.mem_filter.mpr ⟨StableHlo.devRef_mem_tcRefs main_arg6, by decide⟩)).trans (V7_main_arg6 m (outsF m) c), (h.1 c (Proc.devRef .tc main_arg7) (Finset.mem_filter.mpr ⟨StableHlo.devRef_mem_tcRefs main_arg7, by decide⟩)).trans (V7_main_arg7 m (outsF m) c), (h.1 c (Proc.devRef .tc main_arg8) (Finset.mem_filter.mpr ⟨StableHlo.devRef_mem_tcRefs main_arg8, by decide⟩)).trans (V7_main_arg8 m (outsF m) c), (h.1 c (Proc.devRef .tc main_arg9) (Finset.mem_filter.mpr ⟨StableHlo.devRef_mem_tcRefs main_arg9, by decide⟩)).trans (V7_main_arg9 m (outsF m) c), (h.1 c (Proc.devRef .tc main_arg10) (Finset.mem_filter.mpr ⟨StableHlo.devRef_mem_tcRefs main_arg10, by decide⟩)).trans (V7_main_arg10 m (outsF m) c), (h.1 c (Proc.devRef .tc main_arg11) (Finset.mem_filter.mpr ⟨StableHlo.devRef_mem_tcRefs main_arg11, by decide⟩)).trans (V7_main_arg11 m (outsF m) c), (h.1 c (Proc.devRef .tc main_arg12) (Finset.mem_filter.mpr ⟨StableHlo.devRef_mem_tcRefs main_arg12, by decide⟩)).trans (V7_main_arg12 m (outsF m) c), (h.1 c (Proc.devRef .tc main_arg13) (Finset.mem_filter.mpr ⟨StableHlo.devRef_mem_tcRefs main_arg13, by decide⟩)).trans (V7_main_arg13 m (outsF m) c), (h.1 c (Proc.devRef .tc main_arg14) (Finset.mem_filter.mpr ⟨StableHlo.devRef_mem_tcRefs main_arg14, by decide⟩)).trans (V7_main_arg14 m (outsF m) c), (h.1 c (Proc.devRef .tc main_arg15) (Finset.mem_filter.mpr ⟨StableHlo.devRef_mem_tcRefs main_arg15, by decide⟩)).trans (V7_main_arg15 m (outsF m) c), (h.1 c (Proc.devRef .tc main_arg16) (Finset.mem_filter.mpr ⟨StableHlo.devRef_mem_tcRefs main_arg16, by decide⟩)).trans (V7_main_arg16 m (outsF m) c), (h.1 c (Proc.devRef .tc main_arg17) (Finset.mem_filter.mpr ⟨StableHlo.devRef_mem_tcRefs main_arg17, by decide⟩)).trans (V7_main_arg17 m (outsF m) c), (h.1 c (Proc.devRef .tc main_arg18) (Finset.mem_filter.mpr ⟨StableHlo.devRef_mem_tcRefs main_arg18, by decide⟩)).trans (V7_main_arg18 m (outsF m) c), (h.1 c (Proc.devRef .tc main_arg19) (Finset.mem_filter.mpr ⟨StableHlo.devRef_mem_tcRefs main_arg19, by decide⟩)).trans (V7_main_arg19 m (outsF m) c), (h.1 c (Proc.devRef .tc main_arg20) (Finset.mem_filter.mpr ⟨StableHlo.devRef_mem_tcRefs main_arg20, by decide⟩)).trans (V7_main_arg20 m (outsF m) c), (h.1 c (Proc.devRef .tc main_arg21) (Finset.mem_filter.mpr ⟨StableHlo.devRef_mem_tcRefs main_arg21, by decide⟩)).trans (V7_main_arg21 m (outsF m) c), (h.1 c (Proc.devRef .tc main_arg22) (Finset.mem_filter.mpr ⟨StableHlo.devRef_mem_tcRefs main_arg22, by decide⟩)).trans (V7_main_arg22 m (outsF m) c), (h.1 c (Proc.devRef .tc main_arg23) (Finset.mem_filter.mpr ⟨StableHlo.devRef_mem_tcRefs main_arg23, by decide⟩)).trans (V7_main_arg23 m (outsF m) c)⟩

end Cert.KernelIdeal.Own

end
-- ==== Proof.Frames.lean ====
/-
  The frames: each program ends without a fault, its arguments unchanged and every counter at zero. The kernel and the
  idealized kernel have the same text, so the run of the one, over any floats, is the run of the other.
-/
module

public import proofs.«01_k».proof.Defs
public import proofs.«01_k».proof.Proof.KI.Run
public import proofs.«01_k».proof.Proof.Gen.Kernel
public import proofs.«01_k».proof.Proof.Gen.ReferenceIdeal.Run
public import Idealize.ShloMosaic.Lib.Quiescent

@[expose] public section

set_option maxRecDepth 65536

noncomputable section

namespace Cert.Proof

open Idealize.ShloMosaic Idealize.ShloMosaic.TcCoe Idealize.SL.Sem

set_option maxHeartbeats 2000000 in
/-- The kernels' bodies are the same. -/
theorem bodies_eq : @Cert.Kernel.defs₀ Bits _ _ = @Cert.KernelIdeal.defs₀ Bits _ _ := by
  unfold Cert.Kernel.defs₀ Cert.KernelIdeal.defs₀
  refine congrArg Defs.onTc ?_
  funext l x
  match l, x with
  | 0, (t, s) => rfl
  | 1, (t, s) => rfl

set_option maxHeartbeats 2000000 in
/-- So are the programs' tables of bodies. -/
theorem defs_eq : @Cert.Kernel.defs Bits _ _ = @Cert.KernelIdeal.defs Bits _ _ :=
  congrArg (Pipeline.defs (Cert.KernelIdeal.pcfgs (F := Bits))) bodies_eq

set_option maxHeartbeats 4000000 in
/-- So is @main. -/
theorem main_eq : @Cert.Kernel.main Bits _ _ = @Cert.KernelIdeal.main Bits _ _ := rfl

set_option maxHeartbeats 4000000 in
theorem frame_k : Cert.quiescent_Kernel := by
  intro m ρ _
  rw [defs_eq, main_eq]
  exact Cert.KernelIdeal.Own.frame_main (F := Bits) m ρ

theorem frame_ki : Cert.quiescent_KernelIdeal := fun m ρ _ => Cert.KernelIdeal.Own.frame_main (F := Ideal) m ρ

theorem frame_ri : Cert.quiescent_ReferenceIdeal := fun m ρ _ =>
  (θ_run Cert.ReferenceIdeal.defs _ _).mono (fun r h => ⟨fun c => (h c).2, sem_eq_zero_of_no_sems (by decide) r.2⟩)
    (Cert.ReferenceIdeal.Value.run (F := Ideal) m ρ)

end Cert.Proof

end
-- ==== Proof.Val.KHost.lean ====
/-
  What the kernel's host operations hand to its two regions: each array read at an index from the arguments.
-/
module

public import proofs.«01_k».proof.Proof.Gen.KernelIdeal.Launch
public import Idealize.ShloMosaic.Lib.Pointwise
public import Idealize.ShloMosaic.Lib.StableHlo.RunRead

@[expose] public section

set_option synthInstance.maxSize 4096

noncomputable section

namespace Cert.Val

open Idealize.ShloMosaic Idealize.ShloMosaic.TcCoe Idealize.ShloMosaic.Tactic Idealize.ShloMosaic.StableHlo
open Cert.KernelIdeal Cert.KernelIdeal.Gen

variable (V : Valuation τ sig (Elt Ideal))

/-- The padded input weights: the rows of the transposed weights, with zero rows between the groups, and the six tag
    weightings of the tag rows. -/
def wp (W : FVec Ideal S2048x129 .f32) (tw : FVec Ideal S6x16 .f32) : FVec Ideal S240x2048 .f32 :=
  have T : FVec Ideal S129x2048 .f32 := transpose S129x2048 [1, 0] W transposes_S2048x129_S129x2048_1_0
  have G : FVec Ideal S16x2048 .f32 := extractStridedSlice S16x2048 ![73, 0] T slices_S129x2048_S16x2048_73_0
  have m : FVec Ideal S1x16 .f32 → FVec Ideal S16x2048 .f32 := fun r =>
    mulf G (broadcastInDim S16x2048 ![0, 1] bcast_S16x1_S16x2048_0_1 (broadcastInDim S16x1 ![0] bcast_S16_S16x1_0 (shapeCast S16 r shapeCasts_S1x16_S16)))
  concatenate S240x2048 0 [⟨S64x2048, extractStridedSlice S64x2048 ![0, 0] T slices_S129x2048_S64x2048_0_0⟩,
    ⟨S5x2048, extractStridedSlice S5x2048 ![64, 0] T slices_S129x2048_S5x2048_64_0⟩,
    ⟨S11x2048, broadcastInDim S11x2048 ![] bcast_S_S11x2048 (constant S_ .f32 0x00000000#32)⟩,
    ⟨S4x2048, extractStridedSlice S4x2048 ![69, 0] T slices_S129x2048_S4x2048_69_0⟩,
    ⟨S12x2048, broadcastInDim S12x2048 ![] bcast_S_S12x2048 (constant S_ .f32 0x00000000#32)⟩,
    ⟨S16x2048, m (extractStridedSlice S1x16 ![0, 0] tw slices_S6x16_S1x16_0_0)⟩,
    ⟨S16x2048, m (extractStridedSlice S1x16 ![1, 0] tw slices_S6x16_S1x16_1_0)⟩,
    ⟨S16x2048, m (extractStridedSlice S1x16 ![2, 0] tw slices_S6x16_S1x16_2_0)⟩,
    ⟨S16x2048, m (extractStridedSlice S1x16 ![3, 0] tw slices_S6x16_S1x16_3_0)⟩,
    ⟨S16x2048, m (extractStridedSlice S1x16 ![4, 0] tw slices_S6x16_S1x16_4_0)⟩,
    ⟨S16x2048, m (extractStridedSlice S1x16 ![5, 0] tw slices_S6x16_S1x16_5_0)⟩,
    ⟨S32x2048, extractStridedSlice S32x2048 ![89, 0] T slices_S129x2048_S32x2048_89_0⟩,
    ⟨S8x2048, extractStridedSlice S8x2048 ![121, 0] T slices_S129x2048_S8x2048_121_0⟩,
    ⟨S8x2048, broadcastInDim S8x2048 ![] bcast_S_S8x2048 (constant S_ .f32 0x00000000#32)⟩] concatenates_S64x2048_S5x2048_S11x2048_S4x2048_S12x2048_S16x2048_S16x2048_S16x2048_S16x2048_S16x2048_S16x2048_S32x2048_S8x2048_S8x2048_S240x2048_d0

theorem v57_eq : after hostOps1 V main_v57 = wp (V main_arg12) (V main_arg8) := by
  after_results; rfl

/-- The continuous features, one row of eight per token, in the order of the batch. -/
theorem v6_apply (b : Fin 1024) (t : Fin 200) (k : Fin 8) :
    after hostOps0_2 V main_v6 (ix2 ⟨200 * b.val + t.val, by omega⟩ k) = V main_arg0 (ix3 b t ⟨12 + k.val, by omega⟩) := by
  after_results
  pointwise

theorem v8_apply (k : Fin 8) : after hostOps0_2 V main_v8 (ix2 0 k) = mulf (F := Ideal) (s := S8) (φ := .f32) (V main_arg10) (V main_arg9) (ix1 k) := by
  after_results
  pointwise

theorem v10_apply (k : Fin 8) : after hostOps0_2 V main_v10 (ix2 0 k) = mulf (F := Ideal) (s := S8) (φ := .f32) (V main_arg11) (V main_arg9) (ix1 k) := by
  after_results
  pointwise

theorem v3_eq : after hostOps0_1 V main_v3 = pad (s := S204800x8) (α := Ideal .f32) S204800x16 ![0, 0] ![0, 8] ![0, 0] (V main_v2) (sitofp (F := Ideal) (s := S_) .f32 (V main_c)) pads_S204800x8_S204800x16_000_080 h_S_ := by
  after_results; rfl

theorem v2_apply (n : Fin 204800) (k : Fin 8) : after hostOps0 V main_v2 (ix2 n k)
    = V main_arg0 (ix3 ⟨n.val % 1024, by omega⟩ ⟨n.val / 1024, by omega⟩ ⟨12 + k.val, by omega⟩) := by
  after_results
  pointwise

theorem c_eq : after hostOps0 V main_c = constantI S_ 32 0#32 := by
  after_results

theorem v4_eq : after hostOps0_2 V main_v4 = shapeCast (s := S204800x16) S200x1024x16 (V main_v3) shapeCasts_S204800x16_S200x1024x16 := by
  after_results; rfl

/-- The continuous features by time step, padded with eight zeros. -/
theorem v4_apply (t : Fin 200) (b : Fin 1024) (k : Fin 16) :
    after hostOps0_2 (after hostOps0_1 (after hostOps0 V)) main_v4 (ix3 t b k)
      = if h : k.val < 8 then V main_arg0 (ix3 b t ⟨12 + k.val, by omega⟩) else (0 : EReal) := by
  rw [v4_eq, v3_eq, c_eq]
  pointwise
  have hn : t.val * 1024 + b.val < 204800 := by omega
  by_cases hk : k.val < 8
  · rw [dif_pos ⟨hn, hk⟩, dif_pos hk, v2_apply]
    have e0 : (⟨(t.val * 1024 + b.val) % 1024, by omega⟩ : Fin 1024) = b := Fin.ext (by show _ % 1024 = _; omega)
    have e1 : (⟨(t.val * 1024 + b.val) / 1024, by omega⟩ : Fin 200) = t := Fin.ext (by show _ / 1024 = _; omega)
    exact congrArg (V main_arg0) (by rw [e0, e1])
  · rw [dif_neg (fun h => hk h.2), dif_neg hk]
    show ((((0#32 : BitVec 32).toInt : ℤ) : ℝ) : EReal) = 0
    simp

theorem v58_apply (k : Fin 512) (c : Fin 2048) : after hostOps1 V main_v58 (ix2 k c) = V main_arg13 (ix2 c k) := by
  after_results
  pointwise

theorem v60_apply (c : Fin 2048) : after hostOps1 V main_v60 (ix2 0 c) = addf (F := Ideal) (s := S2048) (φ := .f32) (V main_arg14) (V main_arg15) (ix1 c) := by
  after_results
  pointwise

theorem v61_apply (c : Fin 512) : after hostOps1 V main_v61 (ix2 0 c) = V main_arg16 (ix1 c) := by
  after_results
  pointwise
theorem v62_apply (c : Fin 512) : after hostOps1 V main_v62 (ix2 0 c) = V main_arg17 (ix1 c) := by
  after_results
  pointwise
theorem v63_apply (k : Fin 512) (c : Fin 256) : after hostOps1 V main_v63 (ix2 k c) = V main_arg18 (ix2 c k) := by
  after_results
  pointwise
theorem v64_apply (c : Fin 256) : after hostOps1 V main_v64 (ix2 0 c) = V main_arg19 (ix1 c) := by
  after_results
  pointwise
theorem v65_apply (c : Fin 256) : after hostOps1 V main_v65 (ix2 0 c) = V main_arg20 (ix1 c) := by
  after_results
  pointwise
theorem v66_apply (c : Fin 256) : after hostOps1 V main_v66 (ix2 0 c) = V main_arg21 (ix1 c) := by
  after_results
  pointwise
theorem v67_apply : after hostOps1 V main_v67 (ix2 0 0) = V main_arg23 (ix1 0) := by
  after_results
  pointwise
theorem v69_apply (i : Fin 1024) : after hostOps2 V main_v69 (ix1 i) = V main_v68 (ix2 i 0) := by
  after_results
  pointwise

set_option maxHeartbeats 4000000 in
/-- The padded weights at (k, c), from the weights and the tag weightings. -/
theorem wp_read (W : FVec Ideal S2048x129 .f32) (tw : FVec Ideal S6x16 .f32) (c : Fin 2048) :
    (∀ (k : Fin 64) h, wp W tw (ix2 ⟨k.val, h⟩ c) = W (ix2 c ⟨k.val, by omega⟩)) ∧
    (∀ (k : Fin 5) h, wp W tw (ix2 ⟨64 + k.val, h⟩ c) = W (ix2 c ⟨64 + k.val, by omega⟩)) ∧
    (∀ (k : Fin 4) h, wp W tw (ix2 ⟨80 + k.val, h⟩ c) = W (ix2 c ⟨69 + k.val, by omega⟩)) ∧
    (∀ (j : Fin 6) (k : Fin 16) h, wp W tw (ix2 ⟨96 + (j.val * 16 + k.val), h⟩ c)
      = mulf (F := Ideal) (s := S2048x129) (φ := .f32) W (fun _ => tw (ix2 j k)) (ix2 c ⟨73 + k.val, by omega⟩)) ∧
    (∀ (k : Fin 32) h, wp W tw (ix2 ⟨192 + k.val, h⟩ c) = W (ix2 c ⟨89 + k.val, by omega⟩)) ∧
    (∀ (k : Fin 8) h, wp W tw (ix2 ⟨224 + k.val, h⟩ c) = W (ix2 c ⟨121 + k.val, by omega⟩)) ∧
    (∀ (k : Fin 8) h, wp W tw (ix2 ⟨232 + k.val, h⟩ c) = (0 : EReal)) := by
  refine ⟨?_, ?_, ?_, ?_, ?_, ?_, ?_⟩
  · intro k h; pointwise [wp]
  · intro k h; pointwise [wp]
  · intro k h; pointwise [wp]
    repeat (first | rw [dif_neg (by omega)] | rw [dif_pos (by omega)])
    exact congrArg W (congrArg (ix2 c) (Fin.ext (by dsimp only; omega)))
  · intro j k h
    obtain ⟨j, hj⟩ := j
    interval_cases j <;> pointwise [wp]
    all_goals
      repeat (first | rw [dif_neg (by omega)] | rw [dif_pos (by omega)])
      exact congrArg₂ (fun a b : EReal => a * b) (congrArg W (congrArg (ix2 c) (Fin.ext (by dsimp only; omega)))) (congrArg tw (congrArg (ix2 _) (Fin.ext (by dsimp only; omega))))
  · intro k h; pointwise [wp]
    repeat (first | rw [dif_neg (by omega)] | rw [dif_pos (by omega)])
    exact congrArg W (congrArg (ix2 c) (Fin.ext (by dsimp only; omega)))
  · intro k h; pointwise [wp]
    repeat (first | rw [dif_neg (by omega)] | rw [dif_pos (by omega)])
    exact congrArg W (congrArg (ix2 c) (Fin.ext (by dsimp only; omega)))
  · intro k h; pointwise [wp]
    repeat (first | rw [dif_neg (by omega)] | rw [dif_pos (by omega)])

end Cert.Val

end
-- ==== Proof.Val.Consts.lean ====
/-
  The four float constants of the two programs as extended reals, and the laws of the extended reals that the value
  proof needs: a product with a reciprocal root is a quotient by the root, and sums of finite values.
-/
module

public import Idealize.ShloMosaic.Lib.Pointwise

@[expose] public section

noncomputable section

namespace Cert.Val

open Idealize.ShloMosaic

/-- The batch size as both programs write it. -/
theorem c1024 : Ideal.ofBits .f32 0x44800000#32 = ((1024 : ℝ) : EReal) := by
  simp [Ideal.ofBits, Ideal.ieee, -EReal.coe_mul]; norm_num

/-- The number of rows the first normalization averages over. -/
theorem c204800 : Ideal.ofBits .f32 0x48480000#32 = ((204800 : ℝ) : EReal) := by
  simp [Ideal.ofBits, Ideal.ieee, -EReal.coe_mul]; norm_num

/-- The guard added to each variance. -/
theorem cEps : ∃ e : ℝ, 0 < e ∧ Ideal.ofBits .f32 0x3727C5AC#32 = (e : EReal) := by
  refine ⟨_, ?_, by simp only [Ideal.ofBits, Ideal.ieee]; simp; rfl⟩
  norm_num

/-- A square is not negative, whatever the number. -/
theorem sq_nonneg' (x : EReal) : 0 ≤ x * x := by
  rcases le_total 0 x with h | h
  · exact mul_nonneg h h
  · rw [← neg_mul_neg]; exact mul_nonneg (EReal.neg_nonneg.mpr h) (EReal.neg_nonneg.mpr h)

/-- A quotient of a number that is not negative by a positive real is not negative. -/
theorem div_real_nonneg {x : EReal} {r : ℝ} (hr : 0 < r) (h : 0 ≤ x) : 0 ≤ Ideal.div x (r : EReal) := by
  rw [Ideal.div_coe hr.ne']
  exact mul_nonneg h (by exact_mod_cast (one_div_pos.mpr hr).le)

/-- A product with the reciprocal root of a positive number is the quotient by its root. -/
theorem mul_rsqrt (x : EReal) {y : EReal} (hy : 0 < y) : x * Ideal.rsqrt y = Ideal.div x (Ideal.sqrt y) := by
  induction y with
  | bot => exact absurd hy (by simp)
  | top => simp [Ideal.div]
  | coe r =>
    have hr : 0 < r := by exact_mod_cast hy
    have hs : Real.sqrt r ≠ 0 := (Real.sqrt_pos.mpr hr).ne'
    rw [Ideal.rsqrt_coe, Ideal.sqrt_coe, if_neg hr.le.not_gt, if_neg hr.ne', if_neg hr.le.not_gt, Ideal.div_coe hs, one_div]

end Cert.Val

end
-- ==== Proof.Val.Alg.lean ====
/-
  The algebra of one gate: the kernel's padded product, split into its groups, is the reference's product.
-/
module

public import proofs.«01_k».proof.Proof.Val.Consts
public import Idealize.ShloMosaic.Lib.Pointwise

@[expose] public section

noncomputable section

namespace Cert.Val

open Idealize.ShloMosaic

/-- Position `a + k` of a longer axis. -/
def atI (a n N : ℕ) (h : a + n ≤ N) (k : Fin n) : Fin N := ⟨a + k.val, by omega⟩
/-- Position `96 + 16 j + k` of the padded axis. -/
def at6 (j : Fin 6) (k : Fin 16) : Fin 240 := ⟨96 + (j.val * 16 + k.val), by omega⟩

/-- A sum over 240 positions, by groups. -/
theorem sum240 (f : Fin 240 → EReal) : ∑ k, f k
    = (∑ k : Fin 64, f (atI 0 64 240 (Nat.le_of_ble_eq_true rfl) k)) + (∑ k : Fin 5, f (atI 64 5 240 (Nat.le_of_ble_eq_true rfl) k)) + (∑ k : Fin 11, f (atI 69 11 240 (Nat.le_of_ble_eq_true rfl) k))
      + (∑ k : Fin 4, f (atI 80 4 240 (Nat.le_of_ble_eq_true rfl) k)) + (∑ k : Fin 12, f (atI 84 12 240 (Nat.le_of_ble_eq_true rfl) k))
      + (∑ j : Fin 6, ∑ k : Fin 16, f (at6 j k))
      + (∑ k : Fin 32, f (atI 192 32 240 (Nat.le_of_ble_eq_true rfl) k)) + (∑ k : Fin 16, f (atI 224 16 240 (Nat.le_of_ble_eq_true rfl) k)) := by
  rw [Fin.sum_univ_two_halves 224 16 rfl f, Fin.sum_univ_two_halves 192 32 rfl (fun k : Fin 224 => f ⟨k.val, by omega⟩),
    Fin.sum_univ_two_halves 96 96 rfl (fun k : Fin 192 => f ⟨k.val, by omega⟩),
    Fin.sum_univ_two_halves 84 12 rfl (fun k : Fin 96 => f ⟨k.val, by omega⟩),
    Fin.sum_univ_two_halves 80 4 rfl (fun k : Fin 84 => f ⟨k.val, by omega⟩),
    Fin.sum_univ_two_halves 69 11 rfl (fun k : Fin 80 => f ⟨k.val, by omega⟩),
    Fin.sum_univ_two_halves 64 5 rfl (fun k : Fin 69 => f ⟨k.val, by omega⟩),
    Fin.sum_univ_tiles 6 16 rfl (fun k : Fin 96 => f ⟨96 + k.val, by omega⟩)]
  have e : ∀ k : Fin 64, atI 0 64 240 (Nat.le_of_ble_eq_true rfl) k = ⟨k.val, by omega⟩ := fun k => Fin.ext (Nat.zero_add _)
  simp only [e]; rfl

/-- A sum over 129 positions, by groups. -/
theorem sum129 (f : Fin 129 → EReal) : ∑ k, f k
    = (∑ k : Fin 64, f (atI 0 64 129 (Nat.le_of_ble_eq_true rfl) k)) + (∑ k : Fin 5, f (atI 64 5 129 (Nat.le_of_ble_eq_true rfl) k))
      + (∑ k : Fin 4, f (atI 69 4 129 (Nat.le_of_ble_eq_true rfl) k)) + (∑ k : Fin 16, f (atI 73 16 129 (Nat.le_of_ble_eq_true rfl) k))
      + (∑ k : Fin 32, f (atI 89 32 129 (Nat.le_of_ble_eq_true rfl) k)) + (∑ k : Fin 8, f (atI 121 8 129 (Nat.le_of_ble_eq_true rfl) k)) := by
  rw [Fin.sum_univ_two_halves 121 8 rfl f, Fin.sum_univ_two_halves 89 32 rfl (fun k : Fin 121 => f ⟨k.val, by omega⟩),
    Fin.sum_univ_two_halves 73 16 rfl (fun k : Fin 89 => f ⟨k.val, by omega⟩),
    Fin.sum_univ_two_halves 69 4 rfl (fun k : Fin 73 => f ⟨k.val, by omega⟩),
    Fin.sum_univ_two_halves 64 5 rfl (fun k : Fin 69 => f ⟨k.val, by omega⟩)]
  have e : ∀ k : Fin 64, atI 0 64 129 (Nat.le_of_ble_eq_true rfl) k = ⟨k.val, by omega⟩ := fun k => Fin.ext (Nat.zero_add _)
  simp only [e]; rfl

/-- A sum over 16 positions, by halves. -/
theorem sum16 (f : Fin 16 → EReal) : ∑ k, f k = (∑ k : Fin 8, f (atI 0 8 16 (Nat.le_of_ble_eq_true rfl) k)) + (∑ k : Fin 8, f (atI 8 8 16 (Nat.le_of_ble_eq_true rfl) k)) := by
  rw [Fin.sum_univ_two_halves 8 8 rfl f]
  have e : ∀ k : Fin 8, atI 0 8 16 (Nat.le_of_ble_eq_true rfl) k = ⟨k.val, by omega⟩ := fun k => Fin.ext (Nat.zero_add _)
  simp only [e]; rfl

theorem at_lo (k : Fin 8) : atI 224 16 240 (Nat.le_of_ble_eq_true rfl) (atI 0 8 16 (Nat.le_of_ble_eq_true rfl) k) = atI 224 8 240 (Nat.le_of_ble_eq_true rfl) k :=
  Fin.ext (by show 224 + (0 + k.val) = 224 + k.val; omega)
theorem at_hi (k : Fin 8) : atI 224 16 240 (Nat.le_of_ble_eq_true rfl) (atI 8 8 16 (Nat.le_of_ble_eq_true rfl) k) = atI 232 8 240 (Nat.le_of_ble_eq_true rfl) k :=
  Fin.ext (by show 224 + (8 + k.val) = 232 + k.val; omega)

/-- A sum of products of reals is the real sum. -/
theorem coe_sum' {n : ℕ} (g : Fin n → ℝ) : (∑ k, ((g k : ℝ) : EReal)) = ((∑ k, g k : ℝ) : EReal) := by
  induction (Finset.univ : Finset (Fin n)) using Finset.induction_on with
  | empty => simp
  | insert a s ha ih => rw [Finset.sum_insert ha, Finset.sum_insert ha, ih, EReal.coe_add]

/-- The tag group: six weighted copies of the tag row through the same weights are the weighted sum of the row through them. -/
theorem tag_alg (e : Fin 16 → EReal) (w : Fin 16 → EReal) (tw : Fin 6 → Fin 16 → EReal) (e' w' : Fin 16 → ℝ) (tw' : Fin 6 → Fin 16 → ℝ)
    (he : ∀ k, e k = e' k) (hw : ∀ k, w k = w' k) (ht : ∀ j k, tw j k = tw' j k) :
    (∑ j : Fin 6, ∑ k : Fin 16, e k * (w k * tw j k)) = ∑ k : Fin 16, (∑ j : Fin 6, e k * tw j k) * w k := by
  simp only [he, hw, ht, ← EReal.coe_mul, coe_sum']
  congr 1
  rw [Finset.sum_comm]
  refine Finset.sum_congr rfl fun k _ => ?_
  rw [Finset.sum_mul]
  exact Finset.sum_congr rfl fun j _ => by ring

/-- One gate, from the padded row to the reference's input: the padded product plus the continuous group is the reference's product. -/
theorem gate_alg (row pw : Fin 240 → EReal) (X w : Fin 129 → EReal) (a : Fin 16 → EReal) (e : Fin 16 → EReal) (tw : Fin 6 → Fin 16 → EReal)
    (e' w' : Fin 16 → ℝ) (tw' : Fin 6 → Fin 16 → ℝ) (he : ∀ k, e k = e' k) (hw : ∀ k : Fin 16, w (atI 73 16 129 (Nat.le_of_ble_eq_true rfl) k) = w' k) (ht : ∀ j k, tw j k = tw' j k)
    (r64 : ∀ (k : Fin 64), row (atI 0 64 240 (Nat.le_of_ble_eq_true rfl) k) = X (atI 0 64 129 (Nat.le_of_ble_eq_true rfl) k))
    (r5 : ∀ (k : Fin 5), row (atI 64 5 240 (Nat.le_of_ble_eq_true rfl) k) = X (atI 64 5 129 (Nat.le_of_ble_eq_true rfl) k))
    (r11 : ∀ (k : Fin 11), row (atI 69 11 240 (Nat.le_of_ble_eq_true rfl) k) = 0)
    (r4 : ∀ (k : Fin 4), row (atI 80 4 240 (Nat.le_of_ble_eq_true rfl) k) = X (atI 69 4 129 (Nat.le_of_ble_eq_true rfl) k))
    (r12 : ∀ (k : Fin 12), row (atI 84 12 240 (Nat.le_of_ble_eq_true rfl) k) = 0)
    (rt : ∀ (j : Fin 6) (k : Fin 16), row (at6 j k) = e k)
    (r32 : ∀ (k : Fin 32), row (atI 192 32 240 (Nat.le_of_ble_eq_true rfl) k) = X (atI 89 32 129 (Nat.le_of_ble_eq_true rfl) k))
    (r16 : ∀ (k : Fin 16), row (atI 224 16 240 (Nat.le_of_ble_eq_true rfl) k) = 0)
    (xt : ∀ (k : Fin 16), X (atI 73 16 129 (Nat.le_of_ble_eq_true rfl) k) = ∑ j : Fin 6, e k * tw j k)
    (p64 : ∀ (k : Fin 64), pw (atI 0 64 240 (Nat.le_of_ble_eq_true rfl) k) = w (atI 0 64 129 (Nat.le_of_ble_eq_true rfl) k))
    (p5 : ∀ (k : Fin 5), pw (atI 64 5 240 (Nat.le_of_ble_eq_true rfl) k) = w (atI 64 5 129 (Nat.le_of_ble_eq_true rfl) k))
    (p4 : ∀ (k : Fin 4), pw (atI 80 4 240 (Nat.le_of_ble_eq_true rfl) k) = w (atI 69 4 129 (Nat.le_of_ble_eq_true rfl) k))
    (pt : ∀ (j : Fin 6) (k : Fin 16), pw (at6 j k) = w (atI 73 16 129 (Nat.le_of_ble_eq_true rfl) k) * tw j k)
    (p32 : ∀ (k : Fin 32), pw (atI 192 32 240 (Nat.le_of_ble_eq_true rfl) k) = w (atI 89 32 129 (Nat.le_of_ble_eq_true rfl) k))
    (p8 : ∀ (k : Fin 8), pw (atI 224 8 240 (Nat.le_of_ble_eq_true rfl) k) = w (atI 121 8 129 (Nat.le_of_ble_eq_true rfl) k))
    (pz : ∀ (k : Fin 8), pw (atI 232 8 240 (Nat.le_of_ble_eq_true rfl) k) = 0)
    (xc : ∀ (k : Fin 8), a (atI 0 8 16 (Nat.le_of_ble_eq_true rfl) k) = X (atI 121 8 129 (Nat.le_of_ble_eq_true rfl) k)) :
    (∑ k : Fin 16, a k * pw (atI 224 16 240 (Nat.le_of_ble_eq_true rfl) k)) + (∑ k, row k * pw k) = ∑ k, X k * w k := by
  rw [sum240 (fun k => row k * pw k), sum129 (fun k => X k * w k), sum16 (fun k => a k * pw (atI 224 16 240 (Nat.le_of_ble_eq_true rfl) k))]
  have g64 : (∑ k : Fin 64, row (atI 0 64 240 (Nat.le_of_ble_eq_true rfl) k) * pw (atI 0 64 240 (Nat.le_of_ble_eq_true rfl) k)) = ∑ k : Fin 64, X (atI 0 64 129 (Nat.le_of_ble_eq_true rfl) k) * w (atI 0 64 129 (Nat.le_of_ble_eq_true rfl) k) :=
    Finset.sum_congr rfl fun k _ => by rw [r64 k, p64 k]
  have g5 : (∑ k : Fin 5, row (atI 64 5 240 (Nat.le_of_ble_eq_true rfl) k) * pw (atI 64 5 240 (Nat.le_of_ble_eq_true rfl) k)) = ∑ k : Fin 5, X (atI 64 5 129 (Nat.le_of_ble_eq_true rfl) k) * w (atI 64 5 129 (Nat.le_of_ble_eq_true rfl) k) :=
    Finset.sum_congr rfl fun k _ => by rw [r5 k, p5 k]
  have g11 : (∑ k : Fin 11, row (atI 69 11 240 (Nat.le_of_ble_eq_true rfl) k) * pw (atI 69 11 240 (Nat.le_of_ble_eq_true rfl) k)) = 0 :=
    Finset.sum_eq_zero fun k _ => by rw [r11 k, zero_mul]
  have g4 : (∑ k : Fin 4, row (atI 80 4 240 (Nat.le_of_ble_eq_true rfl) k) * pw (atI 80 4 240 (Nat.le_of_ble_eq_true rfl) k)) = ∑ k : Fin 4, X (atI 69 4 129 (Nat.le_of_ble_eq_true rfl) k) * w (atI 69 4 129 (Nat.le_of_ble_eq_true rfl) k) :=
    Finset.sum_congr rfl fun k _ => by rw [r4 k, p4 k]
  have g12 : (∑ k : Fin 12, row (atI 84 12 240 (Nat.le_of_ble_eq_true rfl) k) * pw (atI 84 12 240 (Nat.le_of_ble_eq_true rfl) k)) = 0 :=
    Finset.sum_eq_zero fun k _ => by rw [r12 k, zero_mul]
  have gt : (∑ j : Fin 6, ∑ k : Fin 16, row (at6 j k) * pw (at6 j k))
      = ∑ k : Fin 16, X (atI 73 16 129 (Nat.le_of_ble_eq_true rfl) k) * w (atI 73 16 129 (Nat.le_of_ble_eq_true rfl) k) := by
    refine Eq.trans ?_ ((tag_alg e (fun k => w (atI 73 16 129 (Nat.le_of_ble_eq_true rfl) k)) tw e' w' tw' he hw ht).trans ?_)
    · exact Finset.sum_congr rfl fun j _ => Finset.sum_congr rfl fun k _ => by rw [rt j k, pt j k]
    · exact Finset.sum_congr rfl fun k _ => by rw [xt k]
  have g32 : (∑ k : Fin 32, row (atI 192 32 240 (Nat.le_of_ble_eq_true rfl) k) * pw (atI 192 32 240 (Nat.le_of_ble_eq_true rfl) k)) = ∑ k : Fin 32, X (atI 89 32 129 (Nat.le_of_ble_eq_true rfl) k) * w (atI 89 32 129 (Nat.le_of_ble_eq_true rfl) k) :=
    Finset.sum_congr rfl fun k _ => by rw [r32 k, p32 k]
  have g16 : (∑ k : Fin 16, row (atI 224 16 240 (Nat.le_of_ble_eq_true rfl) k) * pw (atI 224 16 240 (Nat.le_of_ble_eq_true rfl) k)) = 0 :=
    Finset.sum_eq_zero fun k _ => by rw [r16 k, zero_mul]
  have g8 : (∑ k : Fin 8, a (atI 0 8 16 (Nat.le_of_ble_eq_true rfl) k) * pw (atI 224 16 240 (Nat.le_of_ble_eq_true rfl) (atI 0 8 16 (Nat.le_of_ble_eq_true rfl) k))) = ∑ k : Fin 8, X (atI 121 8 129 (Nat.le_of_ble_eq_true rfl) k) * w (atI 121 8 129 (Nat.le_of_ble_eq_true rfl) k) :=
    Finset.sum_congr rfl fun k _ => by rw [at_lo, xc k, p8 k]
  have gz : (∑ k : Fin 8, a (atI 8 8 16 (Nat.le_of_ble_eq_true rfl) k) * pw (atI 224 16 240 (Nat.le_of_ble_eq_true rfl) (atI 8 8 16 (Nat.le_of_ble_eq_true rfl) k))) = 0 :=
    Finset.sum_eq_zero fun k _ => by rw [at_hi, pz k, mul_zero]
  rw [g64, g5, g11, g4, g12, gt, g32, g16, g8, gz]
  simp only [add_zero]
  exact add_comm _ _

end Cert.Val

end
-- ==== Proof.Val.KRow.lean ====
/-
  The constant part of the gates, as the kernel's first step computes it: the padded row of the tables' first rows
  through the padded weights, plus the bias.
-/
module

public import proofs.«01_k».proof.Proof.Val.Alg
public import proofs.«01_k».proof.Proof.KI.Lstm
public import Idealize.ShloMosaic.Lib.Pointwise

@[expose] public section

set_option synthInstance.maxSize 4096

noncomputable section

namespace Cert.Val

open Idealize.ShloMosaic Idealize.ShloMosaic.TcCoe Idealize.ShloMosaic.Tactic
open Cert.KernelIdeal Cert.KernelIdeal.Gen

/-- The padded row: the pieces side by side, with zeros between the groups. -/
def rowCat (y3 y4 : FVec Ideal S1x32 .f32) (y5 : FVec Ideal S1x5 .f32) (y6 : FVec Ideal S1x4 .f32) (y7 y8 y9 : FVec Ideal S1x16 .f32) : FVec Ideal S1x240 .f32 :=
  concatenate S1x240 1 [⟨S1x32, y3⟩, ⟨S1x32, y4⟩, ⟨S1x5, y5⟩, ⟨S1x11, broadcast S1x11 (Scalar.ofBits .f32 0x00000000#32)⟩, ⟨S1x4, y6⟩,
    ⟨S1x12, broadcast S1x12 (Scalar.ofBits .f32 0x00000000#32)⟩, ⟨S1x16, y7⟩, ⟨S1x16, y7⟩, ⟨S1x16, y7⟩, ⟨S1x16, y7⟩, ⟨S1x16, y7⟩, ⟨S1x16, y7⟩, ⟨S1x16, y8⟩, ⟨S1x16, y9⟩,
    ⟨S1x16, broadcast S1x16 (Scalar.ofBits .f32 0x00000000#32)⟩] concatenates_S1x32_S1x32_S1x5_S1x11_S1x4_S1x12_S1x16_S1x16_S1x16_S1x16_S1x16_S1x16_S1x16_S1x16_S1x16_S1x240_d1

/-- The constant part of the gates at a column. -/
theorem pay7_apply (y3 y4 : FVec Ideal S1x32 .f32) (y5 : FVec Ideal S1x5 .f32) (y6 : FVec Ideal S1x4 .f32) (y7 y8 y9 : FVec Ideal S1x16 .f32)
    (W : FVec Ideal S240x2048 .f32) (b : FVec Ideal S1x2048 .f32) (c : Fin 2048) :
    k1_pay7 (F := Ideal) y3 y4 y5 y6 y7 y8 y9 W b (ix2 0 c) = (∑ k : Fin 240, rowCat y3 y4 y5 y6 y7 y8 y9 (ix2 0 k) * W (ix2 k c)) + b (ix2 0 c) := by
  have e : k1_pay7 (F := Ideal) y3 y4 y5 y6 y7 y8 y9 W b = shapeCast S1x2048 (addf (matmul dot_S1x240_S240x2048_S1x2048_1_0_0_1_n_n none (rowCat y3 y4 y5 y6 y7 y8 y9) (shapeCast S240x2048 W shapeCasts_S240x2048_S240x2048) (constant S1x2048 .f32 0x00000000#32)) (shapeCast S1x2048 b shapeCasts_S1x2048_S1x2048)) shapeCasts_S1x2048_S1x2048 := rfl
  rw [e]
  generalize rowCat y3 y4 y5 y6 y7 y8 y9 = R
  pointwise

set_option maxHeartbeats 4000000 in
/-- The padded row, group by group. -/
theorem rowCat_read (y3 y4 : FVec Ideal S1x32 .f32) (y5 : FVec Ideal S1x5 .f32) (y6 : FVec Ideal S1x4 .f32) (y7 y8 y9 : FVec Ideal S1x16 .f32) :
    (∀ (k : Fin 64) h, rowCat y3 y4 y5 y6 y7 y8 y9 (ix2 0 ⟨k.val, h⟩) = if h : k.val < 32 then y3 (ix2 0 ⟨k.val, h⟩) else y4 (ix2 0 ⟨k.val - 32, by omega⟩)) ∧
    (∀ (k : Fin 5) h, rowCat y3 y4 y5 y6 y7 y8 y9 (ix2 0 ⟨64 + k.val, h⟩) = y5 (ix2 0 k)) ∧
    (∀ (k : Fin 11) h, rowCat y3 y4 y5 y6 y7 y8 y9 (ix2 0 ⟨69 + k.val, h⟩) = (0 : EReal)) ∧
    (∀ (k : Fin 4) h, rowCat y3 y4 y5 y6 y7 y8 y9 (ix2 0 ⟨80 + k.val, h⟩) = y6 (ix2 0 k)) ∧
    (∀ (k : Fin 12) h, rowCat y3 y4 y5 y6 y7 y8 y9 (ix2 0 ⟨84 + k.val, h⟩) = (0 : EReal)) ∧
    (∀ (j : Fin 6) (k : Fin 16) h, rowCat y3 y4 y5 y6 y7 y8 y9 (ix2 0 ⟨96 + (j.val * 16 + k.val), h⟩) = y7 (ix2 0 k)) ∧
    (∀ (k : Fin 32) h, rowCat y3 y4 y5 y6 y7 y8 y9 (ix2 0 ⟨192 + k.val, h⟩) = if h : k.val < 16 then y8 (ix2 0 ⟨k.val, h⟩) else y9 (ix2 0 ⟨k.val - 16, by omega⟩)) ∧
    (∀ (k : Fin 16) h, rowCat y3 y4 y5 y6 y7 y8 y9 (ix2 0 ⟨224 + k.val, h⟩) = (0 : EReal)) := by
  refine ⟨?_, ?_, ?_, ?_, ?_, ?_, ?_, ?_⟩
  · intro k h; pointwise [rowCat]
    by_cases hk : k.val < 32
    · rw [dif_pos hk, dif_pos hk]
    · rw [dif_neg hk, dif_neg hk]
      repeat (first | rw [dif_neg (by omega)] | rw [dif_pos (by omega)])
  · intro k h; pointwise [rowCat]
    repeat (first | rw [dif_neg (by omega)] | rw [dif_pos (by omega)])
    exact congrArg y5 (congrArg (ix2 0) (Fin.ext (by dsimp only; omega)))
  · intro k h; pointwise [rowCat]
    repeat (first | rw [dif_neg (by omega)] | rw [dif_pos (by omega)])
  · intro k h; pointwise [rowCat]
    repeat (first | rw [dif_neg (by omega)] | rw [dif_pos (by omega)])
    exact congrArg y6 (congrArg (ix2 0) (Fin.ext (by dsimp only; omega)))
  · intro k h; pointwise [rowCat]
    repeat (first | rw [dif_neg (by omega)] | rw [dif_pos (by omega)])
  · intro j k h
    obtain ⟨j, hj⟩ := j
    interval_cases j <;> pointwise [rowCat]
    all_goals
      repeat (first | rw [dif_neg (by omega)] | rw [dif_pos (by omega)])
      exact congrArg y7 (congrArg (ix2 0) (Fin.ext (by dsimp only; omega)))
  · intro k h; pointwise [rowCat]
    by_cases hk : k.val < 16
    · rw [dif_pos hk]
      repeat (first | rw [dif_neg (by omega)] | rw [dif_pos (by omega)])
      exact congrArg y8 (congrArg (ix2 0) (Fin.ext (by dsimp only; omega)))
    · rw [dif_neg hk]
      repeat (first | rw [dif_neg (by omega)] | rw [dif_pos (by omega)])
      exact congrArg y9 (congrArg (ix2 0) (Fin.ext (by dsimp only; omega)))
  · intro k h; pointwise [rowCat]
    repeat (first | rw [dif_neg (by omega)] | rw [dif_pos (by omega)])

theorem ld_r32 (y : Vec Ideal S8x32 .f32) (k : Fin 32) : (View.ld (Val := Elt Ideal) y Own.r32 : Vec Ideal _ .f32) (ix2 0 k) = y (ix2 0 k) := by
  pointwise
theorem ld_r5 (y : Vec Ideal S8x5 .f32) (k : Fin 5) : (View.ld (Val := Elt Ideal) y Own.r5 : Vec Ideal _ .f32) (ix2 0 k) = y (ix2 0 k) := by
  pointwise
theorem ld_r4 (y : Vec Ideal S8x4 .f32) (k : Fin 4) : (View.ld (Val := Elt Ideal) y Own.r4 : Vec Ideal _ .f32) (ix2 0 k) = y (ix2 0 k) := by
  pointwise
theorem ld_r16 (y : Vec Ideal S8x16 .f32) (k : Fin 16) : (View.ld (Val := Elt Ideal) y Own.r16 : Vec Ideal _ .f32) (ix2 0 k) = y (ix2 0 k) := by
  pointwise
theorem ld_rW (y : Vec Ideal S240x2048 .f32) (k : Fin 16) (c : Fin 2048) : (View.ld (Val := Elt Ideal) y Own.rW : Vec Ideal _ .f32) (ix2 k c) = y (ix2 (atI 224 16 240 (Nat.le_of_ble_eq_true rfl) k) c) := by
  pointwise
  rfl

end Cert.Val

end
-- ==== Proof.Val.RefIn.lean ====
/-
  The reference's input to the recurrence: the looked-up rows, the weighted tags and the normalized continuous
  features, side by side.
-/
module

public import proofs.«01_k».proof.Proof.Gen.ReferenceIdeal.Run
public import proofs.«01_k».proof.Proof.Val.Consts
public import Idealize.ShloMosaic.Lib.Pointwise
public import Idealize.ShloMosaic.Lib.StableHlo.RunRead

@[expose] public section

set_option synthInstance.maxSize 4096
set_option maxRecDepth 16384

noncomputable section

namespace Cert.Val

open Idealize.ShloMosaic Idealize.ShloMosaic.TcCoe Idealize.ShloMosaic.Tactic Idealize.ShloMosaic.StableHlo
open Cert.ReferenceIdeal Cert.ReferenceIdeal.Gen Cert.ReferenceIdeal.Value

/-- One column of the indices, a negative one counted from the end of a table of `n` rows. -/
def refIdx (xi : IVec S1024x200x20 32) (o : Fin 3 → Nat) (h : S1024x200x20.Slices o S1024x200x1) (n : BitVec 32) : IVec S1024x200x1 32 :=
  have v2 : IVec S1024x200 32 := shapeCast S1024x200 (extractStridedSlice S1024x200x1 o xi h) shapeCasts_S1024x200x1_S1024x200
  broadcastInDim S1024x200x1 ![0, 1] bcast_S1024x200_S1024x200x1_0_1
    (select (cmpi .slt v2 (broadcastInDim S1024x200 ![] bcast_S_S1024x200 (constantI S_ 32 0#32)))
      (addi v2 (broadcastInDim S1024x200 ![] bcast_S_S1024x200 (constantI S_ 32 n))) v2)

/-- The six tag columns of the indices. -/
def refTagIdx (xi : IVec S1024x200x20 32) : IVec S1024x200x6x1 32 :=
  have v : IVec S1024x200x6 32 := extractStridedSlice S1024x200x6 ![0, 0, 4] xi slices_S1024x200x20_S1024x200x6_0_0_4
  broadcastInDim S1024x200x6x1 ![0, 1, 2] bcast_S1024x200x6_S1024x200x6x1_0_1_2
    (select (cmpi .slt v (broadcastInDim S1024x200x6 ![] bcast_S_S1024x200x6 (constantI S_ 32 0#32)))
      (addi v (broadcastInDim S1024x200x6 ![] bcast_S_S1024x200x6 (constantI S_ 32 190#32))) v)

/-- The weighted sum of the six tags' rows. -/
def refTag (G : FVec Ideal S1024x200x6x16 .f32) (tw : FVec Ideal S6x16 .f32) : FVec Ideal S1024x200x16 .f32 :=
  Host.reduceAdd (mulf G (broadcastInDim S1024x200x6x16 ![0, 1, 2, 3] bcast_S1x1x6x16_S1024x200x6x16_0_1_2_3 (broadcastInDim S1x1x6x16 ![2, 3] bcast_S6x16_S1x1x6x16_2_3 tw)))
    (constant S_ .f32 0x00000000#32) reducesTo_S1024x200x6x16_S1024x200x16_d2 h_S_

/-- The mean over the tokens. -/
def refMean (y : FVec Ideal S1024x200x8 .f32) : FVec Ideal S8 .f32 :=
  Host.divf (Host.reduceAdd y (constant S_ .f32 0x00000000#32) reducesTo_S1024x200x8_S8_d0_1 h_S_) (broadcastInDim S8 ![] bcast_S_S8 (constant S_ .f32 0x48480000#32))

/-- A vector of eight along every token. -/
def refRow (v : FVec Ideal S8 .f32) : FVec Ideal S1024x200x8 .f32 :=
  broadcastInDim S1024x200x8 ![0, 1, 2] bcast_S1x1x8_S1024x200x8_0_1_2 (broadcastInDim S1x1x8 ![2] bcast_S8_S1x1x8_2 v)

/-- The continuous features. -/
def refCont (x : FVec Ideal S1024x200x20 .f32) : FVec Ideal S1024x200x8 .f32 :=
  extractStridedSlice S1024x200x8 ![0, 0, 12] x slices_S1024x200x20_S1024x200x8_0_0_12

/-- The normalized, scaled and weighted continuous features. -/
def refBn0 (y : FVec Ideal S1024x200x8 .f32) (g b w : FVec Ideal S8 .f32) : FVec Ideal S1024x200x8 .f32 :=
  have d : FVec Ideal S1024x200x8 .f32 := subf y (refRow (refMean y))
  mulf (addf (mulf (Host.divf d (refRow (Host.sqrt (addf (refMean (mulf d d)) (broadcastInDim S8 ![] bcast_S_S8 (constant S_ .f32 0x3727C5AC#32)))))) (refRow g)) (refRow b)) (refRow w)

/-- The pieces side by side, by time step. -/
def refCat (p0 p1 : FVec Ideal S1024x200x32 .f32) (p2 : FVec Ideal S1024x200x5 .f32) (p3 : FVec Ideal S1024x200x4 .f32) (p4 p5 p6 : FVec Ideal S1024x200x16 .f32) (p7 : FVec Ideal S1024x200x8 .f32) : FVec Ideal S200x1024x129 .f32 :=
  transpose S200x1024x129 [1, 0, 2] (concatenate S1024x200x129 2 [⟨S1024x200x121, concatenate S1024x200x121 2 [⟨S1024x200x32, p0⟩, ⟨S1024x200x32, p1⟩, ⟨S1024x200x5, p2⟩, ⟨S1024x200x4, p3⟩, ⟨S1024x200x16, p4⟩, ⟨S1024x200x16, p5⟩, ⟨S1024x200x16, p6⟩] concatenates_S1024x200x32_S1024x200x32_S1024x200x5_S1024x200x4_S1024x200x16_S1024x200x16_S1024x200x16_S1024x200x121_d2⟩, ⟨S1024x200x8, p7⟩] concatenates_S1024x200x121_S1024x200x8_S1024x200x129_d2) transposes_S1024x200x129_S200x1024x129_1_0_2

variable (V : Valuation τ sig (Elt Ideal))

set_option maxHeartbeats 40000000 in
theorem x_eq : after hostOps0 V main_v100_0 = refCat
    (Host.gather gather_S13526x32_S1024x200x1_S1024x200x32_2_0_n_n_0_2_132 (V main_arg1) (refIdx (fptosi (F := Ideal) (s := S1024x200x20) (φ := .f32) 32 (V main_arg0)) ![0, 0, 0] slices_S1024x200x20_S1024x200x1_0_0_0 13526#32))
    (Host.gather gather_S13526x32_S1024x200x1_S1024x200x32_2_0_n_n_0_2_132 (V main_arg2) (refIdx (fptosi (F := Ideal) (s := S1024x200x20) (φ := .f32) 32 (V main_arg0)) ![0, 0, 1] slices_S1024x200x20_S1024x200x1_0_0_1 13526#32))
    (Host.gather gather_S54104x5_S1024x200x1_S1024x200x5_2_0_n_n_0_2_15 (V main_arg3) (refIdx (fptosi (F := Ideal) (s := S1024x200x20) (φ := .f32) 32 (V main_arg0)) ![0, 0, 2] slices_S1024x200x20_S1024x200x1_0_0_2 54104#32))
    (Host.gather gather_S9x4_S1024x200x1_S1024x200x4_2_0_n_n_0_2_14 (V main_arg4) (refIdx (fptosi (F := Ideal) (s := S1024x200x20) (φ := .f32) 32 (V main_arg0)) ![0, 0, 3] slices_S1024x200x20_S1024x200x1_0_0_3 9#32))
    (refTag (Host.gather gather_S190x16_S1024x200x6x1_S1024x200x6x16_3_0_n_n_0_3_116 (V main_arg5) (refTagIdx (fptosi (F := Ideal) (s := S1024x200x20) (φ := .f32) 32 (V main_arg0)))) (V main_arg8))
    (Host.gather gather_S301x16_S1024x200x1_S1024x200x16_2_0_n_n_0_2_116 (V main_arg6) (refIdx (fptosi (F := Ideal) (s := S1024x200x20) (φ := .f32) 32 (V main_arg0)) ![0, 0, 10] slices_S1024x200x20_S1024x200x1_0_0_10 301#32))
    (Host.gather gather_S301x16_S1024x200x1_S1024x200x16_2_0_n_n_0_2_116 (V main_arg7) (refIdx (fptosi (F := Ideal) (s := S1024x200x20) (φ := .f32) 32 (V main_arg0)) ![0, 0, 11] slices_S1024x200x20_S1024x200x1_0_0_11 301#32))
    (refBn0 (refCont (V main_arg0)) (V main_arg10) (V main_arg11) (V main_arg9)) := by
  after_results
  rfl

theorem h_eq : after hostOps0 V main_v100_6 = (broadcastInDim S1024x512 ![] bcast_S_S1024x512 (constant S_ .f32 0x00000000#32) : FVec Ideal S1024x512 .f32) := by
  after_results
  rfl
theorem c_eq' : after hostOps0 V main_v100_7 = (broadcastInDim S1024x512 ![] bcast_S_S1024x512 (constant S_ .f32 0x00000000#32) : FVec Ideal S1024x512 .f32) := by
  after_results
  rfl

/-! ### The lookups, every index zero -/

theorem refIdx_zero (o : Fin 3 → Nat) (h : S1024x200x20.Slices o S1024x200x1) (n : BitVec 32) : refIdx (fun _ => 0#32) o h n = fun _ => 0#32 := by
  funext i
  rfl
theorem refTagIdx_zero : refTagIdx (fun _ => 0#32) = fun _ => 0#32 := by
  funext i
  rfl

theorem g32_zero (x : FVec Ideal S13526x32 .f32) (b : Fin 1024) (t : Fin 200) (k : Fin 32) :
    Host.gather gather_S13526x32_S1024x200x1_S1024x200x32_2_0_n_n_0_2_132 x (fun _ => 0#32) (ix3 b t k) = x (ix2 0 k) := by
  refine congrArg x (funext fun a => Fin.ext ?_)
  match a with
  | ⟨0, _⟩ => rfl
  | ⟨1, _⟩ => exact Nat.zero_add _
theorem g5_zero (x : FVec Ideal S54104x5 .f32) (b : Fin 1024) (t : Fin 200) (k : Fin 5) :
    Host.gather gather_S54104x5_S1024x200x1_S1024x200x5_2_0_n_n_0_2_15 x (fun _ => 0#32) (ix3 b t k) = x (ix2 0 k) := by
  refine congrArg x (funext fun a => Fin.ext ?_)
  match a with
  | ⟨0, _⟩ => rfl
  | ⟨1, _⟩ => exact Nat.zero_add _
theorem g4_zero (x : FVec Ideal S9x4 .f32) (b : Fin 1024) (t : Fin 200) (k : Fin 4) :
    Host.gather gather_S9x4_S1024x200x1_S1024x200x4_2_0_n_n_0_2_14 x (fun _ => 0#32) (ix3 b t k) = x (ix2 0 k) := by
  refine congrArg x (funext fun a => Fin.ext ?_)
  match a with
  | ⟨0, _⟩ => rfl
  | ⟨1, _⟩ => exact Nat.zero_add _
theorem g16_zero (x : FVec Ideal S301x16 .f32) (b : Fin 1024) (t : Fin 200) (k : Fin 16) :
    Host.gather gather_S301x16_S1024x200x1_S1024x200x16_2_0_n_n_0_2_116 x (fun _ => 0#32) (ix3 b t k) = x (ix2 0 k) := by
  refine congrArg x (funext fun a => Fin.ext ?_)
  match a with
  | ⟨0, _⟩ => rfl
  | ⟨1, _⟩ => exact Nat.zero_add _
theorem tag_zero (x : FVec Ideal S190x16 .f32) :
    Host.gather gather_S190x16_S1024x200x6x1_S1024x200x6x16_3_0_n_n_0_3_116 x (fun _ => 0#32) = fun j => x (ix2 0 (j 3)) := by
  funext j
  refine congrArg x (funext fun a => Fin.ext ?_)
  match a with
  | ⟨0, _⟩ => rfl
  | ⟨1, _⟩ => exact Nat.zero_add _

theorem refTag_apply (x : FVec Ideal S190x16 .f32) (tw : FVec Ideal S6x16 .f32) (b : Fin 1024) (t : Fin 200) (k : Fin 16) :
    refTag (fun j => x (ix2 0 (j 3))) tw (ix3 b t k) = ∑ j : Fin 6, x (ix2 0 k) * tw (ix2 j k) := by
  pointwise [refTag]

/-! ### The sums over both token axes -/

theorem drop01 (h : S1024x200x8.ReducesTo [0, 1] S8) (k : Fin 8) (i : S1024x200x8.Idx) :
    h.drop i = ix1 k ↔ ∃ p : Fin 1024 × Fin 200, ix3 p.1 p.2 k = i := by
  have e : ∀ i : S1024x200x8.Idx, (h.drop i 0).val = (i 2).val := fun i => rfl
  constructor
  · intro hd
    refine ⟨(i 0, i 1), funext fun a => ?_⟩
    have h2 : k = i 2 := Fin.ext ((congrArg Fin.val (congrFun hd 0)).symm.trans (e i))
    match a with
    | ⟨0, _⟩ => rfl
    | ⟨1, _⟩ => rfl
    | ⟨2, _⟩ => exact h2
  · rintro ⟨p, rfl⟩
    funext b
    match b with
    | ⟨0, _⟩ => rfl

theorem sum01 (y : S1024x200x8.Idx → EReal) (init : EReal) (k : Fin 8) :
    Ideal.hostReduceAdd reducesTo_S1024x200x8_S8_d0_1 y init (ix1 k) = init + ∑ b : Fin 1024, ∑ t : Fin 200, y (ix3 b t k) := by
  unfold Ideal.hostReduceAdd
  congr 1
  rw [Finset.sum_filter_eq_sum_of_fiber _ (fun p : Fin 1024 × Fin 200 => ix3 p.1 p.2 k) (fun p q e => Prod.ext (congrFun e 0) (congrFun e 1)) (drop01 _ k) y, Fintype.sum_prod_type]

theorem refMean_apply (y : FVec Ideal S1024x200x8 .f32) (k : Fin 8) :
    refMean y (ix1 k) = Ideal.div (∑ b : Fin 1024, ∑ t : Fin 200, y (ix3 b t k)) (Ideal.ofBits .f32 0x48480000#32) := by
  pointwise [refMean]
  rw [sum01, zero_add]

theorem refBn0_apply (y : FVec Ideal S1024x200x8 .f32) (g b w : FVec Ideal S8 .f32) (i : Fin 1024) (t : Fin 200) (k : Fin 8) (m : EReal)
    (hm : m = Ideal.div (∑ b : Fin 1024, ∑ t : Fin 200, y (ix3 b t k)) (Ideal.ofBits .f32 0x48480000#32)) :
    refBn0 y g b w (ix3 i t k) = mulf (F := Ideal) (s := S8) (φ := .f32) (addf (mulf (fun _ => Ideal.div (subf (F := Ideal) (s := S1024x200x8) (φ := .f32) y (fun _ => m) (ix3 i t k))
      (Ideal.sqrt (Ideal.div (∑ b : Fin 1024, ∑ t : Fin 200, mulf (F := Ideal) (s := S1024x200x8) (φ := .f32) (subf y (fun _ => m)) (subf y (fun _ => m)) (ix3 b t k)) (Ideal.ofBits .f32 0x48480000#32)
        + Ideal.ofBits .f32 0x3727C5AC#32))) g) b) w (ix1 k) := by
  have hm' : m = refMean y (ix1 k) := hm.trans (refMean_apply y k).symm
  have e : ∀ v : FVec Ideal S8 .f32, ∀ i t, refRow v (ix3 i t k) = v (ix1 k) := fun v i t => by pointwise [refRow]
  have ev : refMean (mulf (subf y (refRow (refMean y))) (subf y (refRow (refMean y)))) (ix1 k)
      = Ideal.div (∑ b : Fin 1024, ∑ t : Fin 200, mulf (F := Ideal) (s := S1024x200x8) (φ := .f32) (subf y (fun _ => m)) (subf y (fun _ => m)) (ix3 b t k)) (Ideal.ofBits .f32 0x48480000#32) := by
    rw [refMean_apply]
    congr 1
    refine Finset.sum_congr rfl fun b _ => Finset.sum_congr rfl fun t _ => ?_
    show (y (ix3 b t k) - refRow (refMean y) (ix3 b t k) : EReal) * (y (ix3 b t k) - refRow (refMean y) (ix3 b t k) : EReal) = _
    rw [e, ← hm']
    rfl
  show ((Ideal.div (y (ix3 i t k) - refRow (refMean y) (ix3 i t k)) (refRow (Host.sqrt (addf (refMean (mulf (subf y (refRow (refMean y))) (subf y (refRow (refMean y))))) _)) (ix3 i t k))
    * refRow g (ix3 i t k) + refRow b (ix3 i t k)) * refRow w (ix3 i t k) : EReal) = _
  rw [e, e, e, e, e, ← hm']
  show ((Ideal.div (y (ix3 i t k) - m) (Ideal.sqrt (refMean (mulf (subf y (refRow (refMean y))) (subf y (refRow (refMean y)))) (ix1 k) + _))
    * g (ix1 k) + b (ix1 k)) * w (ix1 k) : EReal) = _
  rw [ev]
  rfl

/-- The reference's input at an index, piece by piece. -/
theorem refCat_read (p0 p1 : FVec Ideal S1024x200x32 .f32) (p2 : FVec Ideal S1024x200x5 .f32) (p3 : FVec Ideal S1024x200x4 .f32) (p4 p5 p6 : FVec Ideal S1024x200x16 .f32) (p7 : FVec Ideal S1024x200x8 .f32)
    (t : Fin 200) (b : Fin 1024) :
    (∀ (k : Fin 64) h, refCat p0 p1 p2 p3 p4 p5 p6 p7 (ix3 t b ⟨k.val, h⟩) = if h : k.val < 32 then p0 (ix3 b t ⟨k.val, h⟩) else p1 (ix3 b t ⟨k.val - 32, by omega⟩)) ∧
    (∀ (k : Fin 5) h, refCat p0 p1 p2 p3 p4 p5 p6 p7 (ix3 t b ⟨64 + k.val, h⟩) = p2 (ix3 b t k)) ∧
    (∀ (k : Fin 4) h, refCat p0 p1 p2 p3 p4 p5 p6 p7 (ix3 t b ⟨69 + k.val, h⟩) = p3 (ix3 b t k)) ∧
    (∀ (k : Fin 16) h, refCat p0 p1 p2 p3 p4 p5 p6 p7 (ix3 t b ⟨73 + k.val, h⟩) = p4 (ix3 b t k)) ∧
    (∀ (k : Fin 32) h, refCat p0 p1 p2 p3 p4 p5 p6 p7 (ix3 t b ⟨89 + k.val, h⟩) = if h : k.val < 16 then p5 (ix3 b t ⟨k.val, h⟩) else p6 (ix3 b t ⟨k.val - 16, by omega⟩)) ∧
    (∀ (k : Fin 8) h, refCat p0 p1 p2 p3 p4 p5 p6 p7 (ix3 t b ⟨121 + k.val, h⟩) = p7 (ix3 b t k)) := by
  refine ⟨?_, ?_, ?_, ?_, ?_, ?_⟩
  · intro k h; pointwise [refCat]
    by_cases hk : k.val < 32
    · repeat (first | rw [dif_pos hk] | rw [dif_neg (by omega)] | rw [dif_pos (by omega)])
    · repeat (first | rw [dif_neg hk] | rw [dif_neg (by omega)] | rw [dif_pos (by omega)])
  · intro k h; pointwise [refCat]
    repeat (first | rw [dif_neg (by omega)] | rw [dif_pos (by omega)])
    exact congrArg p2 (congrArg (ix3 b t) (Fin.ext (by dsimp only; omega)))
  · intro k h; pointwise [refCat]
    repeat (first | rw [dif_neg (by omega)] | rw [dif_pos (by omega)])
    exact congrArg p3 (congrArg (ix3 b t) (Fin.ext (by dsimp only; omega)))
  · intro k h; pointwise [refCat]
    repeat (first | rw [dif_neg (by omega)] | rw [dif_pos (by omega)])
    exact congrArg p4 (congrArg (ix3 b t) (Fin.ext (by dsimp only; omega)))
  · intro k h; pointwise [refCat]
    by_cases hk : k.val < 16
    · rw [dif_pos hk]
      repeat (first | rw [dif_neg (by omega)] | rw [dif_pos (by omega)])
      exact congrArg p5 (congrArg (ix3 b t) (Fin.ext (by dsimp only; omega)))
    · rw [dif_neg hk]
      repeat (first | rw [dif_neg (by omega)] | rw [dif_pos (by omega)])
      exact congrArg p6 (congrArg (ix3 b t) (Fin.ext (by dsimp only; omega)))
  · intro k h; pointwise [refCat]

end Cert.Val

end
-- ==== Proof.Val.Cell.lean ====
/-
  One step of the recurrence. The gates of both programs are read at an index, and the same gates give the same
  cell and hidden states.
-/
module

public import proofs.«01_k».proof.Proof.KI.Lstm
public import proofs.«01_k».proof.Proof.Gen.ReferenceIdeal.Run
public import Idealize.ShloMosaic.Lib.Pointwise
public import Idealize.ShloMosaic.Lib.IdealHost

@[expose] public section

set_option synthInstance.maxSize 4096

noncomputable section

namespace Cert.Val

open Idealize.ShloMosaic Idealize.ShloMosaic.TcCoe Idealize.ShloMosaic.Tactic

section Kernel
open Cert.KernelIdeal Cert.KernelIdeal.Gen

/-- The kernel's gates at an index. -/
theorem kGates_apply (x0 : FVec Ideal S1x1024x16 .f32) (x1 x2 : FVec Ideal S1x16 .f32) (w : FVec Ideal S16x2048 .f32) (h : FVec Ideal S1024x512 .f32) (u : FVec Ideal S512x2048 .f32)
    (r : FVec Ideal S1x2048 .f32) (b : Fin 1024) (c : Fin 2048) :
    k1_pay10 (F := Ideal) x0 x1 x2 w h u r (ix2 b c)
      = ((∑ k : Fin 16, (x0 (ix3 0 b k) * x1 (ix2 0 k) + x2 (ix2 0 k)) * w (ix2 k c)) + ∑ k : Fin 512, h (ix2 b k) * u (ix2 k c)) + r (ix2 0 c) := by
  pointwise [k1_pay10]

/-- The new cell state, from the gates and the old one. -/
def cellC (G : FVec Ideal S1024x2048 .f32) (cc : FVec Ideal S1024x512 .f32) : FVec Ideal S1024x512 .f32 :=
  addf (mulf (logistic (extractStridedSlice S1024x512 ![0, 512] G slices_S1024x2048_o0_512_S1024x512)) cc)
    (mulf (logistic (extractStridedSlice S1024x512 ![0, 0] G slices_S1024x2048_o0_0_S1024x512)) (tanh (extractStridedSlice S1024x512 ![0, 1024] G slices_S1024x2048_o0_1024_S1024x512)))
/-- The new hidden state, from the gates and the old cell state. -/
def cellH (G : FVec Ideal S1024x2048 .f32) (cc : FVec Ideal S1024x512 .f32) : FVec Ideal S1024x512 .f32 :=
  mulf (logistic (extractStridedSlice S1024x512 ![0, 1536] G slices_S1024x2048_o0_1536_S1024x512)) (tanh (cellC G cc))

theorem cast_same (x : FVec Ideal S1024x512 .f32) (h : S1024x512.ShapeCasts S1024x512) : shapeCast S1024x512 x h = x := by
  funext j
  obtain ⟨a, b, rfl⟩ : ∃ a b, j = ix2 a b := ⟨j 0, j 1, by funext i; fin_cases i <;> rfl⟩
  pointwise

theorem cStep_eq (x0 : FVec Ideal S1x1024x16 .f32) (x1 x2 : FVec Ideal S1x16 .f32) (w : FVec Ideal S240x2048 .f32) (h : FVec Ideal S1024x512 .f32) (u : FVec Ideal S512x2048 .f32)
    (r : FVec Ideal S1x2048 .f32) (cc : FVec Ideal S1024x512 .f32) :
    Own.cStep (F := Ideal) x0 x1 x2 w h u r cc = cellC (k1_pay10 x0 x1 x2 (View.ld (Val := Elt Ideal) w Own.rW) h u r) cc :=
  (show Own.cStep (F := Ideal) x0 x1 x2 w h u r cc = shapeCast S1024x512 (k1_pay12 x0 x1 x2 (View.ld (Val := Elt Ideal) w Own.rW) h u r cc) shapeCasts_S1024x512_S1024x512 from rfl).trans
    ((cast_same _ _).trans rfl)
theorem hRaw_eq (x0 : FVec Ideal S1x1024x16 .f32) (x1 x2 : FVec Ideal S1x16 .f32) (w : FVec Ideal S240x2048 .f32) (h : FVec Ideal S1024x512 .f32) (u : FVec Ideal S512x2048 .f32)
    (r : FVec Ideal S1x2048 .f32) (cc : FVec Ideal S1024x512 .f32) :
    Own.hRaw (F := Ideal) x0 x1 x2 w h u r cc = cellH (k1_pay10 x0 x1 x2 (View.ld (Val := Elt Ideal) w Own.rW) h u r) cc := rfl
theorem hStep_eq (x0 : FVec Ideal S1x1024x16 .f32) (x1 x2 : FVec Ideal S1x16 .f32) (w : FVec Ideal S240x2048 .f32) (h : FVec Ideal S1024x512 .f32) (u : FVec Ideal S512x2048 .f32)
    (r : FVec Ideal S1x2048 .f32) (cc : FVec Ideal S1024x512 .f32) :
    Own.hStep (F := Ideal) x0 x1 x2 w h u r cc = cellH (k1_pay10 x0 x1 x2 (View.ld (Val := Elt Ideal) w Own.rW) h u r) cc :=
  (show Own.hStep (F := Ideal) x0 x1 x2 w h u r cc = shapeCast S1024x512 (Own.hRaw x0 x1 x2 w h u r cc) shapeCasts_S1024x512_S1024x512 from rfl).trans
    ((cast_same _ _).trans (hRaw_eq x0 x1 x2 w h u r cc))

end Kernel

section Reference
open Cert.ReferenceIdeal Cert.ReferenceIdeal.Gen Cert.ReferenceIdeal.Value

/-- One time step's rows of the input. -/
def refXt (X : FVec Ideal S200x1024x129 .f32) (i : IVec S_ 32) : FVec Ideal S1024x129 .f32 :=
  shapeCast S1024x129 (Host.dynamicSlice S1x1024x129 X (fun k => (((![i, constantI S_ 32 0#32, constantI S_ 32 0#32] : Fin 3 → (⟨S_, .i32⟩ : BufTy).Contents (Elt Ideal))) k (Shape.Idx.first h_S_)).toInt) sliceFits_S200x1024x129_S1x1024x129) shapeCasts_S1x1024x129_S1024x129

/-- The reference's gates. -/
def refGates (X : FVec Ideal S1024x129 .f32) (W : FVec Ideal S2048x129 .f32) (h : FVec Ideal S1024x512 .f32) (U : FVec Ideal S2048x512 .f32) (p q : FVec Ideal S2048 .f32) : FVec Ideal S1024x2048 .f32 :=
  addf (addf (addf (Host.dotGeneral dot_S1024x129_S129x2048_S1024x2048_1_0_0_1_n_n none X (transpose S129x2048 [1, 0] W transposes_S2048x129_S129x2048_1_0))
    (Host.dotGeneral dot_S1024x512_S512x2048_S1024x2048_1_0_0_1_n_n none h (transpose S512x2048 [1, 0] U transposes_S2048x512_S512x2048_1_0)))
    (broadcastInDim S1024x2048 ![0, 1] bcast_S1x2048_S1024x2048_0_1 (broadcastInDim S1x2048 ![1] bcast_S2048_S1x2048_1 p)))
    (broadcastInDim S1024x2048 ![0, 1] bcast_S1x2048_S1024x2048_0_1 (broadcastInDim S1x2048 ![1] bcast_S2048_S1x2048_1 q))

theorem v174_eq (V0 : Valuation τ sig (Elt Ideal)) : res_main_while0b_v174 V0
    = refGates (refXt (V0 (Proc.devRef .tc main_v100_0)) (V0 (Proc.devRef .tc main_v100_5))) (V0 (Proc.devRef .tc main_v100_1)) (V0 (Proc.devRef .tc main_v100_6))
      (V0 (Proc.devRef .tc main_v100_2)) (V0 (Proc.devRef .tc main_v100_3)) (V0 (Proc.devRef .tc main_v100_4)) := rfl

theorem refGates_apply (X : FVec Ideal S1024x129 .f32) (W : FVec Ideal S2048x129 .f32) (h : FVec Ideal S1024x512 .f32) (U : FVec Ideal S2048x512 .f32) (p q : FVec Ideal S2048 .f32)
    (b : Fin 1024) (c : Fin 2048) :
    refGates X W h U p q (ix2 b c) = (((∑ k : Fin 129, X (ix2 b k) * W (ix2 c k)) + ∑ k : Fin 512, h (ix2 b k) * U (ix2 c k)) + p (ix1 c)) + q (ix1 c) := by
  pointwise [refGates]

theorem ix3_congr {a b c : ℕ} {i i' : Fin a} {j j' : Fin b} {k k' : Fin c} (h1 : i = i') (h2 : j = j') (h3 : k = k') : ix3 i j k = ix3 i' j' k' := by
  subst h1; subst h2; subst h3; rfl

theorem slice_read (X : FVec Ideal S200x1024x129 .f32) (g : Fin 3 → Int) (n : Fin 200) (h0 : g 0 = (n.val : Int)) (h1 : g 1 = ((0 : ℕ) : Int)) (h2 : g 2 = ((0 : ℕ) : Int)) (b : Fin 1024) (k : Fin 129) :
    shapeCast S1024x129 (Host.dynamicSlice S1x1024x129 X g sliceFits_S200x1024x129_S1x1024x129) shapeCasts_S1x1024x129_S1024x129 (ix2 b k) = X (ix3 n b k) := by
  have hn : n.val + 1 ≤ 200 := n.isLt
  pointwise
  refine congrArg X (ix3_congr (Fin.ext ?_) (Fin.ext ?_) (Fin.ext ?_))
  · exact Host.clampedStart_of_le (s := S200x1024x129) (t := S1x1024x129) rfl g 0 n.val h0 hn
  · exact (congrArg (· + b.val) (Host.clampedStart_of_le (s := S200x1024x129) (t := S1x1024x129) rfl g 1 0 h1 (Nat.le_of_ble_eq_true rfl))).trans (Nat.zero_add _)
  · exact (congrArg (· + k.val) (Host.clampedStart_of_le (s := S200x1024x129) (t := S1x1024x129) rfl g 2 0 h2 (Nat.le_of_ble_eq_true rfl))).trans (Nat.zero_add _)

theorem word_int (n : Fin 200) : (BitVec.ofNat 32 n.val).toInt = (n.val : Int) := by
  revert n; decide +kernel

theorem refXt_apply (X : FVec Ideal S200x1024x129 .f32) (n : Fin 200) (b : Fin 1024) (k : Fin 129) :
    refXt X (fun _ => BitVec.ofNat 32 n.val) (ix2 b k) = X (ix3 n b k) :=
  slice_read X _ n (word_int n) rfl rfl b k

theorem one_row : (broadcastInDim S1024x512 ![] bcast_S_S1024x512 (constant S_ .f32 0x3F800000#32) : FVec Ideal S1024x512 .f32) = fun _ => (1 : EReal) :=
  funext fun _ => Ideal.ofBits_one_f32

theorem step7_eq (V0 : Valuation τ sig (Elt Ideal)) : step_main_v100_7 V0 = cellC (res_main_while0b_v174 V0) (V0 (Proc.devRef .tc main_v100_7)) := by
  unfold step_main_v100_7 res_main_while0b_v200
  rw [one_row]
  rfl
theorem step6_eq (V0 : Valuation τ sig (Elt Ideal)) : step_main_v100_6 V0 = cellH (res_main_while0b_v174 V0) (V0 (Proc.devRef .tc main_v100_7)) := by
  unfold step_main_v100_6 res_main_while0b_v200
  rw [one_row]
  rfl

end Reference

end Cert.Val

end
-- ==== Proof.Val.Gate.lean ====
/-
  The gates of the two programs. The kernel adds a constant row, computed once from the tables' first rows and padded
  weights, to the product of the normalized features; the reference multiplies the whole input by the weights.
-/
module

public import proofs.«01_k».proof.Proof.Val.KHost
public import proofs.«01_k».proof.Proof.Val.KRow
public import proofs.«01_k».proof.Proof.Val.RefIn
public import proofs.«01_k».proof.Proof.Val.Cell

@[expose] public section

set_option synthInstance.maxSize 4096

noncomputable section

namespace Cert.Val

open Idealize.ShloMosaic Idealize.ShloMosaic.TcCoe Idealize.ShloMosaic.StableHlo

section Input
open Cert.ReferenceIdeal Cert.ReferenceIdeal.Gen Cert.ReferenceIdeal.Value

/-- The reference's input when every index is zero. -/
def refX (a1 a2 : FVec Ideal S13526x32 .f32) (a3 : FVec Ideal S54104x5 .f32) (a4 : FVec Ideal S9x4 .f32) (a5 : FVec Ideal S190x16 .f32) (a6 a7 : FVec Ideal S301x16 .f32) (a8 : FVec Ideal S6x16 .f32)
    (p : FVec Ideal S1024x200x8 .f32) : FVec Ideal S200x1024x129 .f32 :=
  refCat (Host.gather gather_S13526x32_S1024x200x1_S1024x200x32_2_0_n_n_0_2_132 a1 (fun _ => 0#32))
    (Host.gather gather_S13526x32_S1024x200x1_S1024x200x32_2_0_n_n_0_2_132 a2 (fun _ => 0#32))
    (Host.gather gather_S54104x5_S1024x200x1_S1024x200x5_2_0_n_n_0_2_15 a3 (fun _ => 0#32))
    (Host.gather gather_S9x4_S1024x200x1_S1024x200x4_2_0_n_n_0_2_14 a4 (fun _ => 0#32))
    (refTag (fun j => a5 (ix2 0 (j 3))) a8)
    (Host.gather gather_S301x16_S1024x200x1_S1024x200x16_2_0_n_n_0_2_116 a6 (fun _ => 0#32))
    (Host.gather gather_S301x16_S1024x200x1_S1024x200x16_2_0_n_n_0_2_116 a7 (fun _ => 0#32)) p

theorem x_zero (V : Valuation τ sig (Elt Ideal)) (h : fptosi (F := Ideal) (s := S1024x200x20) (φ := .f32) 32 (V main_arg0) = fun _ => 0#32) :
    after hostOps0 V main_v100_0 = refX (V main_arg1) (V main_arg2) (V main_arg3) (V main_arg4) (V main_arg5) (V main_arg6) (V main_arg7) (V main_arg8)
      (refBn0 (refCont (V main_arg0)) (V main_arg10) (V main_arg11) (V main_arg9)) := by
  rw [x_eq, h]
  simp only [refIdx_zero, refTagIdx_zero, tag_zero]
  rfl

end Input

open Cert.KernelIdeal Cert.KernelIdeal.Gen

theorem at_zero {n N : ℕ} (h : 0 + n ≤ N) (k : Fin n) (h' : k.val < N) : atI 0 n N h k = ⟨k.val, h'⟩ := Fin.ext (Nat.zero_add _)

/-- The kernel's constant row and feature product are the reference's input product. -/
theorem gate_core (a1 a2 : FVec Ideal S13526x32 .f32) (a3 : FVec Ideal S54104x5 .f32) (a4 : FVec Ideal S9x4 .f32) (a5 : FVec Ideal S190x16 .f32) (a6 a7 : FVec Ideal S301x16 .f32) (a8 : FVec Ideal S6x16 .f32)
    (a12 : FVec Ideal S2048x129 .f32) (p : FVec Ideal ReferenceIdeal.S1024x200x8 .f32)
    (f5 : ∀ i, ∃ r : ℝ, (a5 i : EReal) = (r : EReal)) (f8 : ∀ i, ∃ r : ℝ, (a8 i : EReal) = (r : EReal)) (f12 : ∀ i, ∃ r : ℝ, (a12 i : EReal) = (r : EReal))
    (y3 y4 : FVec Ideal S1x32 .f32) (y5 : FVec Ideal S1x5 .f32) (y6 : FVec Ideal S1x4 .f32) (y7 y8 y9 : FVec Ideal S1x16 .f32)
    (h3 : ∀ k : Fin 32, y3 (ix2 0 k) = a1 (ix2 0 k)) (h4 : ∀ k : Fin 32, y4 (ix2 0 k) = a2 (ix2 0 k)) (h5 : ∀ k : Fin 5, y5 (ix2 0 k) = a3 (ix2 0 k)) (h6 : ∀ k : Fin 4, y6 (ix2 0 k) = a4 (ix2 0 k))
    (h7 : ∀ k : Fin 16, y7 (ix2 0 k) = a5 (ix2 0 k)) (h8 : ∀ k : Fin 16, y8 (ix2 0 k) = a6 (ix2 0 k)) (h9 : ∀ k : Fin 16, y9 (ix2 0 k) = a7 (ix2 0 k))
    (b : Fin 1024) (t : Fin 200) (c : Fin 2048) (aa : Fin 16 → EReal) (ha : ∀ k : Fin 8, aa (atI 0 8 16 (Nat.le_of_ble_eq_true rfl) k) = p (ix3 b t k)) :
    (∑ k : Fin 16, aa k * wp a12 a8 (ix2 (atI 224 16 240 (Nat.le_of_ble_eq_true rfl) k) c)) + (∑ k : Fin 240, rowCat y3 y4 y5 y6 y7 y8 y9 (ix2 0 k) * wp a12 a8 (ix2 k c))
      = ∑ k : Fin 129, refX a1 a2 a3 a4 a5 a6 a7 a8 p (ix3 t b k) * a12 (ix2 c k) := by
  choose e' he using f5
  choose tw' ht using f8
  choose w' hw using f12
  obtain ⟨r64, r5, r11, r4, r12, rt, r32, r16⟩ := rowCat_read y3 y4 y5 y6 y7 y8 y9
  obtain ⟨p64, p5, p4, pt, p32, p8, pz⟩ := wp_read a12 a8 c
  obtain ⟨x64, x5, x4, x16, x32, x8⟩ := refCat_read (Host.gather ReferenceIdeal.gather_S13526x32_S1024x200x1_S1024x200x32_2_0_n_n_0_2_132 a1 (fun _ => 0#32))
    (Host.gather ReferenceIdeal.gather_S13526x32_S1024x200x1_S1024x200x32_2_0_n_n_0_2_132 a2 (fun _ => 0#32))
    (Host.gather ReferenceIdeal.gather_S54104x5_S1024x200x1_S1024x200x5_2_0_n_n_0_2_15 a3 (fun _ => 0#32))
    (Host.gather ReferenceIdeal.gather_S9x4_S1024x200x1_S1024x200x4_2_0_n_n_0_2_14 a4 (fun _ => 0#32))
    (refTag (fun j => a5 (ix2 0 (j 3))) a8)
    (Host.gather ReferenceIdeal.gather_S301x16_S1024x200x1_S1024x200x16_2_0_n_n_0_2_116 a6 (fun _ => 0#32))
    (Host.gather ReferenceIdeal.gather_S301x16_S1024x200x1_S1024x200x16_2_0_n_n_0_2_116 a7 (fun _ => 0#32)) p t b
  refine gate_alg (fun k => rowCat y3 y4 y5 y6 y7 y8 y9 (ix2 0 k)) (fun k => wp a12 a8 (ix2 k c)) (fun k => refX a1 a2 a3 a4 a5 a6 a7 a8 p (ix3 t b k)) (fun k => a12 (ix2 c k)) aa
    (fun k => a5 (ix2 0 k)) (fun j k => a8 (ix2 j k)) (fun k => e' (ix2 0 k)) (fun k => w' (ix2 c (atI 73 16 129 (Nat.le_of_ble_eq_true rfl) k))) (fun j k => tw' (ix2 j k))
    (fun k => he _) (fun k => hw _) (fun j k => ht _) ?_ ?_ (fun k => r11 k _) ?_ (fun k => r12 k _) ?_ ?_ (fun k => r16 k _) ?_ ?_ (fun k => p5 k _) (fun k => p4 k _) (fun j k => pt j k _)
    (fun k => p32 k _) (fun k => p8 k _) (fun k => pz k _) ?_
  · intro k
    have hk := k.isLt
    rw [at_zero _ k (by omega), at_zero _ k (by omega)]
    refine (r64 k _).trans (Eq.trans ?_ (x64 k _).symm)
    by_cases hc : k.val < 32
    · rw [dif_pos hc, dif_pos hc]; exact (h3 _).trans (g32_zero a1 b t _).symm
    · rw [dif_neg hc, dif_neg hc]; exact (h4 _).trans (g32_zero a2 b t _).symm
  · intro k
    exact (r5 k _).trans ((h5 k).trans ((g5_zero a3 b t k).symm.trans (x5 k _).symm))
  · intro k
    exact (r4 k _).trans ((h6 k).trans ((g4_zero a4 b t k).symm.trans (x4 k _).symm))
  · intro j k
    exact (rt j k _).trans (h7 k)
  · intro k
    have hk := k.isLt
    refine (r32 k _).trans (Eq.trans ?_ (x32 k _).symm)
    by_cases hc : k.val < 16
    · rw [dif_pos hc, dif_pos hc]; exact (h8 _).trans (g16_zero a6 b t _).symm
    · rw [dif_neg hc, dif_neg hc]; exact (h9 _).trans (g16_zero a7 b t _).symm
  · intro k
    exact (x16 k _).trans (refTag_apply a5 a8 b t k)
  · intro k
    have hk := k.isLt
    rw [at_zero _ k (by omega), at_zero _ k (by omega)]
    exact p64 k _
  · intro k
    exact (ha k).trans (x8 k _).symm

end Cert.Val

end
-- ==== Proof.Val.Steps.lean ====
/-
  The recurrence of the two programs: the same states after every step.
-/
module

public import proofs.«01_k».proof.Proof.Val.Gate
public import proofs.«01_k».proof.Proof.KI.LstmData

@[expose] public section

set_option synthInstance.maxSize 4096

noncomputable section

namespace Cert.Val

open Idealize.ShloMosaic Idealize.ShloMosaic.TcCoe Idealize.ShloMosaic.StableHlo
open Cert.KernelIdeal Cert.KernelIdeal.Gen Cert.KernelIdeal.Own

/-- The arrays the recurrence depends on: the features, the tables, the weights and the normalized features. -/
structure Ins where
  a0 : FVec Ideal S1024x200x20 .f32
  a1 : FVec Ideal S13526x32 .f32
  a2 : FVec Ideal S13526x32 .f32
  a3 : FVec Ideal S54104x5 .f32
  a4 : FVec Ideal S9x4 .f32
  a5 : FVec Ideal S190x16 .f32
  a6 : FVec Ideal S301x16 .f32
  a7 : FVec Ideal S301x16 .f32
  a8 : FVec Ideal S6x16 .f32
  a12 : FVec Ideal S2048x129 .f32
  a13 : FVec Ideal S2048x512 .f32
  a14 : FVec Ideal S2048 .f32
  a15 : FVec Ideal S2048 .f32
  p : FVec Ideal ReferenceIdeal.S1024x200x8 .f32

/-- The reference's input. -/
def Ins.X (I : Ins) : FVec Ideal ReferenceIdeal.S200x1024x129 .f32 := refX I.a1 I.a2 I.a3 I.a4 I.a5 I.a6 I.a7 I.a8 I.p

/-- The buffers the kernel's second region reads, in terms of the arrays. -/
structure KData (V : (c : Dev nD) → (b : Ref sig .tc) → Buf (Elt Ideal) ((c : Thread nD τ).loc b)) (c : Dev nD) (I : Ins) : Prop where
  f5 : ∀ i, ∃ r : ℝ, (I.a5 i : EReal) = (r : EReal)
  f8 : ∀ i, ∃ r : ℝ, (I.a8 i : EReal) = (r : EReal)
  f12 : ∀ i, ∃ r : ℝ, (I.a12 i : EReal) = (r : EReal)
  h1 : V c main_arg1 = I.a1
  h2 : V c main_arg2 = I.a2
  h3 : V c main_arg3 = I.a3
  h4 : V c main_arg4 = I.a4
  h5 : V c main_arg5 = I.a5
  h6 : V c main_arg6 = I.a6
  h7 : V c main_arg7 = I.a7
  h57 : V c main_v57 = wp I.a12 I.a8
  h58 : ∀ k cc, (V c main_v58 : FVec Ideal S512x2048 .f32) (ix2 k cc) = I.a13 (ix2 cc k)
  h60 : ∀ cc, (V c main_v60 : FVec Ideal S1x2048 .f32) (ix2 0 cc) = addf (F := Ideal) (s := S2048) (φ := .f32) I.a14 I.a15 (ix1 cc)
  hp : ∀ (i : Fin 1024) (t : Fin 200) (k : Fin 8), (fun a s x : EReal => x * a + s) ((V c main_v11_0 : FVec Ideal S1x16 .f32) (ix2 0 (atI 0 8 16 (Nat.le_of_ble_eq_true rfl) k)))
    ((V c main_v11_1 : FVec Ideal S1x16 .f32) (ix2 0 (atI 0 8 16 (Nat.le_of_ble_eq_true rfl) k)))
    ((V c main_v4 : FVec Ideal S200x1024x16 .f32) (ix3 t i (atI 0 8 16 (Nat.le_of_ble_eq_true rfl) k))) = I.p (ix3 i t k)

variable {V : (c : Dev nD) → (b : Ref sig .tc) → Buf (Elt Ideal) ((c : Thread nD τ).loc b)} {c : Dev nD} {I : Ins}

theorem x_read (n : Fin 200) (b : Fin 1024) (k : Fin 16) : (xAt V c n.val : FVec Ideal S1x1024x16 .f32) (ix3 0 b k) = (V c main_v4 : FVec Ideal S200x1024x16 .f32) (ix3 n b k) := by
  have hN : n.val < cfg1.N := lt_of_lt_of_eq n.isLt (show cfg1.N = 200 from N_1).symm
  exact (congrFun (xAt_val V c ⟨n.val, hN⟩) (ix3 0 b k)).trans (iblk1_0 V c ⟨n.val, hN⟩ (ix3 0 b k) n.isLt)

theorem row_read (H : KData V c I) (cc : Fin 2048) : ∃ y3 y4 : FVec Ideal S1x32 .f32, ∃ y5 : FVec Ideal S1x5 .f32, ∃ y6 : FVec Ideal S1x4 .f32, ∃ y7 y8 y9 : FVec Ideal S1x16 .f32,
    (∀ k, y3 (ix2 0 k) = I.a1 (ix2 0 k)) ∧ (∀ k, y4 (ix2 0 k) = I.a2 (ix2 0 k)) ∧ (∀ k, y5 (ix2 0 k) = I.a3 (ix2 0 k)) ∧ (∀ k, y6 (ix2 0 k) = I.a4 (ix2 0 k))
    ∧ (∀ k, y7 (ix2 0 k) = I.a5 (ix2 0 k)) ∧ (∀ k, y8 (ix2 0 k) = I.a6 (ix2 0 k)) ∧ (∀ k, y9 (ix2 0 k) = I.a7 (ix2 0 k))
    ∧ (rowV V c : FVec Ideal S1x2048 .f32) (ix2 0 cc) = (∑ k : Fin 240, rowCat y3 y4 y5 y6 y7 y8 y9 (ix2 0 k) * wp I.a12 I.a8 (ix2 k cc))
      + addf (F := Ideal) (s := S2048) (φ := .f32) I.a14 I.a15 (ix1 cc) := by
  refine ⟨View.ld (Val := Elt Ideal) (X1_3 V c t0_1) r32, View.ld (Val := Elt Ideal) (X1_4 V c t0_1) r32, View.ld (Val := Elt Ideal) (iblk1 V c 5 t0_1) r5, View.ld (Val := Elt Ideal) (X1_6 V c t0_1) r4,
    View.ld (Val := Elt Ideal) (X1_7 V c t0_1) r16, View.ld (Val := Elt Ideal) (X1_8 V c t0_1) r16, View.ld (Val := Elt Ideal) (X1_9 V c t0_1) r16, ?_, ?_, ?_, ?_, ?_, ?_, ?_, (pay7_apply _ _ _ _ _ _ _ (V c main_v57) (V c main_v60) cc).trans ?_⟩
  case refine_8 => rw [H.h57, H.h60]; rfl
  · exact fun k => (ld_r32 _ k).trans ((tab1_3 V c t0_1 (ix2 0 k) (Nat.le_of_ble_eq_true rfl)).trans (congrFun H.h1 _))
  · exact fun k => (ld_r32 _ k).trans ((tab1_4 V c t0_1 (ix2 0 k) (Nat.le_of_ble_eq_true rfl)).trans (congrFun H.h2 _))
  · exact fun k => (ld_r5 _ k).trans ((tab1_5 V c t0_1 (ix2 0 k) (Nat.le_of_ble_eq_true rfl)).trans (congrFun H.h3 _))
  · exact fun k => (ld_r4 _ k).trans ((tab1_6 V c t0_1 (ix2 0 k) (Nat.le_of_ble_eq_true rfl)).trans (congrFun H.h4 _))
  · exact fun k => (ld_r16 _ k).trans ((tab1_7 V c t0_1 (ix2 0 k) (Nat.le_of_ble_eq_true rfl)).trans (congrFun H.h5 _))
  · exact fun k => (ld_r16 _ k).trans ((tab1_8 V c t0_1 (ix2 0 k) (Nat.le_of_ble_eq_true rfl)).trans (congrFun H.h6 _))
  · exact fun k => (ld_r16 _ k).trans ((tab1_9 V c t0_1 (ix2 0 k) (Nat.le_of_ble_eq_true rfl)).trans (congrFun H.h7 _))

/-- The sums of a gate in the two orders. -/
theorem gate_sum (A H R B B' X : EReal) (h : A + R = X) : (A + H) + (R + (B + B')) = X + H + B + B' := by
  rw [← h]; ac_rfl

theorem gates_eq (H : KData V c I) (n : Fin 200) (h : FVec Ideal S1024x512 .f32) :
    k1_pay10 (F := Ideal) (xAt V c n.val) (V c main_v11_0) (V c main_v11_1) (View.ld (Val := Elt Ideal) (V c main_v57) rW) h (V c main_v58) (rowV V c)
      = refGates (refXt I.X (fun _ => BitVec.ofNat 32 n.val)) I.a12 h I.a13 I.a14 I.a15 := by
  funext j
  obtain ⟨b, cc, rfl⟩ : ∃ b cc, j = ix2 b cc := ⟨j 0, j 1, by funext i; fin_cases i <;> rfl⟩
  obtain ⟨y3, y4, y5, y6, y7, y8, y9, e3, e4, e5, e6, e7, e8, e9, er⟩ := row_read H cc
  refine (kGates_apply (xAt V c n.val) (V c main_v11_0) (V c main_v11_1) (View.ld (Val := Elt Ideal) (V c main_v57) rW) h (V c main_v58) (rowV V c) b cc).trans ?_
  refine Eq.trans ?_ (refGates_apply (refXt I.X (fun _ => BitVec.ofNat 32 n.val)) I.a12 h I.a13 I.a14 I.a15 b cc).symm
  rw [er]
  have eh : (∑ k : Fin 512, h (ix2 b k) * (V c main_v58 : FVec Ideal S512x2048 .f32) (ix2 k cc)) = ∑ k : Fin 512, h (ix2 b k) * I.a13 (ix2 cc k) :=
    Finset.sum_congr rfl fun k _ => by rw [H.h58]
  have ex : (∑ k : Fin 129, refXt I.X (fun _ => BitVec.ofNat 32 n.val) (ix2 b k) * I.a12 (ix2 cc k)) = ∑ k : Fin 129, I.X (ix3 n b k) * I.a12 (ix2 cc k) :=
    Finset.sum_congr rfl fun k _ => by rw [refXt_apply]
  rw [ex]
  refine (congrArg₂ (fun u v : EReal => u + v) (congrArg (fun v : EReal => _ + v) eh) rfl).trans ?_
  refine gate_sum _ _ _ _ _ _ (Eq.trans ?_ (gate_core I.a1 I.a2 I.a3 I.a4 I.a5 I.a6 I.a7 I.a8 I.a12 I.p H.f5 H.f8 H.f12 y3 y4 y5 y6 y7 y8 y9 e3 e4 e5 e6 e7 e8 e9 b n cc
    (fun k => (fun a s x : EReal => x * a + s) ((V c main_v11_0 : FVec Ideal S1x16 .f32) (ix2 0 k)) ((V c main_v11_1 : FVec Ideal S1x16 .f32) (ix2 0 k))
      ((V c main_v4 : FVec Ideal S200x1024x16 .f32) (ix3 n b k))) (fun k => H.hp b n k)))
  refine congrArg (fun v : EReal => v + _) (Finset.sum_congr rfl fun k _ => ?_)
  refine congrArg₂ (fun u v : EReal => u * v) ?_ ?_
  · rw [x_read]
  · rw [H.h57]; exact ld_rW _ k cc

/-! ### The states -/

section Ref
open Cert.ReferenceIdeal.Value

/-- The reference's carried buffers at entry, in terms of the arrays. -/
structure RData (E : Valuation ReferenceIdeal.τ ReferenceIdeal.sig (Elt Ideal)) (I : Ins) : Prop where
  x : E (Proc.devRef .tc ReferenceIdeal.main_v100_0) = I.X
  w : E (Proc.devRef .tc ReferenceIdeal.main_v100_1) = I.a12
  u : E (Proc.devRef .tc ReferenceIdeal.main_v100_2) = I.a13
  p : E (Proc.devRef .tc ReferenceIdeal.main_v100_3) = I.a14
  q : E (Proc.devRef .tc ReferenceIdeal.main_v100_4) = I.a15
  i : E (Proc.devRef .tc ReferenceIdeal.main_v100_5) = fun _ => 0#32
  h : E (Proc.devRef .tc ReferenceIdeal.main_v100_6) = (fun _ => (0 : EReal) : FVec Ideal S1024x512 .f32)
  c : E (Proc.devRef .tc ReferenceIdeal.main_v100_7) = (fun _ => (0 : EReal) : FVec Ideal S1024x512 .f32)

variable {E : Valuation ReferenceIdeal.τ ReferenceIdeal.sig (Elt Ideal)}

/-- After `n` steps the carried buffers hold the arrays, the counter `n`, and the kernel's states. -/
theorem states (H : KData V c I) (R : RData E I) : ∀ n, n ≤ 200 →
    (STEP^[n] E) (Proc.devRef .tc ReferenceIdeal.main_v100_0) = I.X ∧ (STEP^[n] E) (Proc.devRef .tc ReferenceIdeal.main_v100_1) = I.a12
    ∧ (STEP^[n] E) (Proc.devRef .tc ReferenceIdeal.main_v100_2) = I.a13 ∧ (STEP^[n] E) (Proc.devRef .tc ReferenceIdeal.main_v100_3) = I.a14
    ∧ (STEP^[n] E) (Proc.devRef .tc ReferenceIdeal.main_v100_4) = I.a15 ∧ (STEP^[n] E) (Proc.devRef .tc ReferenceIdeal.main_v100_5) = (fun _ => BitVec.ofNat 32 n)
    ∧ (STEP^[n] E) (Proc.devRef .tc ReferenceIdeal.main_v100_6) = (st V c n).1 ∧ (STEP^[n] E) (Proc.devRef .tc ReferenceIdeal.main_v100_7) = (st V c n).2 := by
  intro n
  induction n with
  | zero =>
    intro _
    refine ⟨R.x, R.w, R.u, R.p, R.q, R.i, R.h.trans ?_, R.c.trans ?_⟩
    · exact (funext fun _ => Ideal.ofBits_zero_f32.symm)
    · exact (funext fun _ => Ideal.ofBits_zero_f32.symm)
  | succ n ih =>
    intro hn
    obtain ⟨e0, e1, e2, e3, e4, e5, e6, e7⟩ := ih (by omega)
    have eg : res_main_while0b_v174 (STEP^[n] E) = refGates (refXt I.X (fun _ => BitVec.ofNat 32 n)) I.a12 (st V c n).1 I.a13 I.a14 I.a15 := by
      rw [v174_eq, e0, e1, e2, e3, e4, e5, e6]; rfl
    have ek := gates_eq H ⟨n, by omega⟩ (st V c n).1
    rw [Function.iterate_succ_apply']
    refine ⟨(STEP_main_v100_0 _).trans e0, (STEP_main_v100_1 _).trans e1, (STEP_main_v100_2 _).trans e2, (STEP_main_v100_3 _).trans e3, (STEP_main_v100_4 _).trans e4,
      (STEP_main_v100_5 _).trans ?_, (STEP_main_v100_6 _).trans ?_, (STEP_main_v100_7 _).trans ?_⟩
    · unfold step_main_v100_5
      rw [e5]
      funext _
      exact (BitVec.ofNat_add n 1).symm
    · rw [step6_eq, eg, e7, ← ek]
      exact (hStep_eq _ _ _ _ _ _ _ _).symm
    · rw [step7_eq, eg, e7, ← ek]
      exact (cStep_eq _ _ _ _ _ _ _ _).symm

end Ref

end Cert.Val

end
-- ==== Proof.Val.Bn0.lean ====
/-
  The normalization of the continuous features. The kernel sums the features and their squares over twenty-five blocks and
  folds the normalization, its scale and shift and the weights into one factor and one summand; on real features with
  real scale and weights that is the reference's normalization.
-/
module

public import proofs.«01_k».proof.Proof.Val.Alg
public import proofs.«01_k».proof.Proof.Val.Consts
public import proofs.«01_k».proof.Proof.Val.RefIn
public import proofs.«01_k».proof.Proof.KI.Stats

@[expose] public section

set_option synthInstance.maxSize 4096

noncomputable section

namespace Cert.Val

open Idealize.ShloMosaic

/-! ### The algebra -/

/-- A product with a real distributes over a sum with a real. -/
theorem add_mul_real (r : ℝ) (b : EReal) (w : ℝ) : ((r : EReal) + b) * (w : EReal) = (r : EReal) * w + b * w := by
  induction b with
  | coe b => rw [← EReal.coe_add, ← EReal.coe_mul, ← EReal.coe_mul, ← EReal.coe_mul, ← EReal.coe_add]; congr 1; ring
  | bot =>
    rw [EReal.add_bot]
    rcases lt_trichotomy w 0 with h | h | h
    · rw [EReal.bot_mul_coe_of_neg h, ← EReal.coe_mul, EReal.coe_add_top]
    · subst h; simp
    · rw [EReal.bot_mul_coe_of_pos h, EReal.add_bot]
  | top =>
    rw [EReal.coe_add_top]
    rcases lt_trichotomy w 0 with h | h | h
    · rw [EReal.top_mul_coe_of_neg h, EReal.add_bot]
    · subst h; simp
    · rw [EReal.top_mul_coe_of_pos h, ← EReal.coe_mul, EReal.coe_add_top]

theorem coe_sum2 (x : Fin 1024 → Fin 200 → ℝ) : (∑ b, ∑ t, ((x b t : ℝ) : EReal)) = ((∑ b, ∑ t, x b t : ℝ) : EReal) := by
  simp only [coe_sum']

/-- The mean of the squares less the square of the mean is the mean of the squared deviations. -/
theorem var_alg (x : Fin 1024 → Fin 200 → ℝ) (m : ℝ) (hm : m = (∑ b, ∑ t, x b t) * (1 / 204800)) :
    (∑ b, ∑ t, x b t * x b t) * (1 / 204800) - m * m = (∑ b, ∑ t, (x b t - m) * (x b t - m)) * (1 / 204800) := by
  have e : ∀ b t, (x b t - m) * (x b t - m) = x b t * x b t - 2 * m * x b t + m * m := fun b t => by ring
  simp only [e, Finset.sum_add_distrib, Finset.sum_sub_distrib, ← Finset.mul_sum, Finset.sum_const, Finset.card_univ, Fintype.card_fin, nsmul_eq_mul]
  have hs : (∑ b, ∑ t, x b t) = m * 204800 := by rw [hm]; ring
  rw [hs]; push_cast; ring

/-- The folded normalization is the reference's. -/
theorem bn0_alg (x : Fin 1024 → Fin 200 → EReal) (x' : Fin 1024 → Fin 200 → ℝ) (hx : ∀ b t, x b t = x' b t) (g w b : EReal) (g' w' : ℝ) (hg : g = g') (hw : w = w')
    (S1 S2 m A : EReal) (h1 : S1 = ∑ b, ∑ t, x b t) (h2 : S2 = ∑ b, ∑ t, x b t * x b t)
    (hm : m = Ideal.div S1 (Ideal.ofBits .f32 0x48480000#32))
    (hA : A = (g * w) * Ideal.rsqrt (Ideal.div S2 (Ideal.ofBits .f32 0x48480000#32) - m * m + Ideal.ofBits .f32 0x3727C5AC#32)) (i : Fin 1024) (t : Fin 200) :
    x i t * A + (b * w - m * A)
      = (Ideal.div (x i t - m) (Ideal.sqrt (Ideal.div (∑ b, ∑ t, (x b t - m) * (x b t - m)) (Ideal.ofBits .f32 0x48480000#32) + Ideal.ofBits .f32 0x3727C5AC#32)) * g + b) * w := by
  obtain ⟨e, he, hE⟩ := cEps
  have hN : (204800 : ℝ) ≠ 0 := by norm_num
  simp only [hx] at *
  simp only [← EReal.coe_mul, coe_sum2] at h1 h2
  obtain ⟨m', hm'⟩ : ∃ m' : ℝ, m' = (∑ b, ∑ t, x' b t) * (1 / 204800) := ⟨_, rfl⟩
  have em : m = (m' : EReal) := by rw [hm, h1, c204800, Ideal.div_coe hN, ← EReal.coe_mul, hm']
  obtain ⟨v, hv⟩ : ∃ v : ℝ, v = (∑ b, ∑ t, (x' b t - m') * (x' b t - m')) * (1 / 204800) := ⟨_, rfl⟩
  have hv0 : 0 ≤ v := by
    rw [hv]
    exact mul_nonneg (Finset.sum_nonneg fun b _ => Finset.sum_nonneg fun t _ => mul_self_nonneg _) (by norm_num)
  have hp : 0 < v + e := by linarith
  have hs : Real.sqrt (v + e) ≠ 0 := (Real.sqrt_pos.mpr hp).ne'
  have e1 : Ideal.div S2 (Ideal.ofBits .f32 0x48480000#32) - m * m + Ideal.ofBits .f32 0x3727C5AC#32 = ((v + e : ℝ) : EReal) := by
    rw [h2, em, c204800, Ideal.div_coe hN, hE, ← EReal.coe_mul, ← EReal.coe_mul, ← EReal.coe_sub, ← EReal.coe_add, var_alg x' m' hm', hv]
  have e2 : Ideal.div (∑ b, ∑ t, ((x' b t : EReal) - m) * ((x' b t : EReal) - m)) (Ideal.ofBits .f32 0x48480000#32) + Ideal.ofBits .f32 0x3727C5AC#32 = ((v + e : ℝ) : EReal) := by
    simp only [em, ← EReal.coe_sub, ← EReal.coe_mul, coe_sum2]
    rw [c204800, Ideal.div_coe hN, hE, ← EReal.coe_mul, ← EReal.coe_add, hv]
  rw [e2, Ideal.sqrt_coe, if_neg hp.le.not_gt, Ideal.div_coe hs]
  rw [e1, Ideal.rsqrt_coe, if_neg hp.le.not_gt, if_neg hp.ne', hg, hw, ← EReal.coe_mul, ← EReal.coe_mul] at hA
  rw [hA, em, hg, hw, ← EReal.coe_sub, ← EReal.coe_mul, ← EReal.coe_mul, ← EReal.coe_mul, ← EReal.coe_mul, add_mul_real, sub_eq_add_neg, ← EReal.coe_neg,
    add_comm (b * (w' : EReal)), ← add_assoc, ← EReal.coe_add, ← EReal.coe_mul]
  congr 2
  field_simp
  ring

/-! ### The kernel's sums -/

section Sums
open Cert.KernelIdeal Cert.KernelIdeal.Gen Cert.KernelIdeal.Own
open Idealize.ShloMosaic.TcCoe

theorem bnPay3_apply (x : FVec Ideal S8192x8 .f32) (a : FVec Ideal S1x8 .f32) (k : Fin 8) :
    k0_pay3 (F := Ideal) x a (ix2 0 k) = a (ix2 0 k) + ∑ r : Fin 8192, x (ix2 r k) := by
  pointwise [k0_pay3, k0_pay2]
theorem bnPay4_apply (x : FVec Ideal S8192x8 .f32) (a : FVec Ideal S1x8 .f32) (k : Fin 8) :
    k0_pay4 (F := Ideal) x a (ix2 0 k) = a (ix2 0 k) + ∑ r : Fin 8192, x (ix2 r k) * x (ix2 r k) := by
  pointwise [k0_pay4, k0_pay2]
theorem zrow0_apply (k : Fin 8) : (zrow0 (F := Ideal) : FVec Ideal S1x8 .f32) (ix2 0 k) = (0 : EReal) := Ideal.ofBits_zero_f32
theorem zrow1_apply (k : Fin 8) : (zrow1 (F := Ideal) : FVec Ideal S1x8 .f32) (ix2 0 k) = (0 : EReal) := Ideal.ofBits_zero_f32

theorem bnPay8_apply (s1 s2 g : FVec Ideal S1x8 .f32) (k : Fin 8) (k' : Fin 16) (hk : k'.val = k.val) :
    k0_pay8 (F := Ideal) s1 s2 g (ix2 0 k') = k0_pay6 s1 s2 g (ix2 0 k) := by
  obtain rfl : k' = ⟨k.val, Nat.lt_of_lt_of_le k.isLt (Nat.le_of_ble_eq_true rfl)⟩ := Fin.ext hk
  pointwise [k0_pay8]
theorem bnPay9_apply (s1 s2 g b : FVec Ideal S1x8 .f32) (k : Fin 8) (k' : Fin 16) (hk : k'.val = k.val) :
    k0_pay9 (F := Ideal) s1 s2 g b (ix2 0 k') = subf (F := Ideal) (s := S1x8) (φ := .f32) b (mulf (k0_pay5 s1) (k0_pay6 s1 s2 g)) (ix2 0 k) := by
  obtain rfl : k' = ⟨k.val, Nat.lt_of_lt_of_le k.isLt (Nat.le_of_ble_eq_true rfl)⟩ := Fin.ext hk
  pointwise [k0_pay9]
theorem bnPay6_apply (s1 s2 g : FVec Ideal S1x8 .f32) (k : Fin 8) :
    k0_pay6 (F := Ideal) s1 s2 g (ix2 0 k)
      = mulf (F := Ideal) (s := S1x8) (φ := .f32) g (fun _ => Ideal.rsqrt (Ideal.div (s2 (ix2 0 k)) (Ideal.ofBits .f32 0x48480000#32)
        - Ideal.div (s1 (ix2 0 k)) (Ideal.ofBits .f32 0x48480000#32) * Ideal.div (s1 (ix2 0 k)) (Ideal.ofBits .f32 0x48480000#32) + Ideal.ofBits .f32 0x3727C5AC#32)) (ix2 0 k) := by
  pointwise [k0_pay6, k0_pay5]

variable (V : (c : Dev nD) → (b : Ref sig .tc) → Buf (Elt Ideal) ((c : Thread nD τ).loc b))

theorem acc1_range (c : Dev nD) (k : Fin 8) (n : ℕ) :
    ((acc V c n).1 : FVec Ideal S1x8 .f32) (ix2 0 k) = ∑ j ∈ Finset.range n, ∑ r : Fin 8192, (blkAt V c j : FVec Ideal S8192x8 .f32) (ix2 r k) := by
  induction n with
  | zero => exact zrow0_apply k
  | succ n ih => rw [Finset.sum_range_succ, ← ih]; exact bnPay3_apply _ _ k
theorem acc2_range (c : Dev nD) (k : Fin 8) (n : ℕ) :
    ((acc V c n).2 : FVec Ideal S1x8 .f32) (ix2 0 k)
      = ∑ j ∈ Finset.range n, ∑ r : Fin 8192, mulf (F := Ideal) (s := S8192x8) (φ := .f32) (blkAt V c j) (blkAt V c j) (ix2 r k) := by
  induction n with
  | zero => exact zrow1_apply k
  | succ n ih => rw [Finset.sum_range_succ, ← ih]; exact bnPay4_apply _ _ k

theorem blk_read (c : Dev nD) (j : Fin 25) (r : Fin 8192) (k : Fin 8) :
    (blkAt V c j.val : FVec Ideal S8192x8 .f32) (ix2 r k) = (V c main_v6 : FVec Ideal S204800x8 .f32) (ix2 ⟨j.val * 8192 + r.val, by omega⟩ k) := by
  have hN : j.val < cfg0.N := lt_of_lt_of_eq j.isLt (show cfg0.N = 25 from N_0).symm
  have h : 8192 * j.val + r.val < 204800 := by omega
  have e := (congrFun (blkAt_val V c ⟨j.val, hN⟩) (ix2 r k)).trans (iblk0_0 V c ⟨j.val, hN⟩ (ix2 r k) h)
  refine e.trans (congrArg (fun q => (V c main_v6 : FVec Ideal S204800x8 .f32) (ix2 q k)) (Fin.ext ?_))
  show 8192 * j.val + r.val = _
  dsimp only; omega

/-- Twenty-five blocks of 8192 rows are 1024 rows of 200. -/
theorem tiles_eq (f : Fin 204800 → EReal) (g : Fin 1024 → Fin 200 → EReal) (h : ∀ b t, f ⟨200 * b.val + t.val, by omega⟩ = g b t) :
    (∑ j : Fin 25, ∑ r : Fin 8192, f ⟨j.val * 8192 + r.val, by omega⟩) = ∑ b, ∑ t, g b t := by
  rw [← Fin.sum_univ_tiles 25 8192 (by decide) f, Fin.sum_univ_tiles 1024 200 (by decide) f]
  refine Finset.sum_congr rfl fun b _ => Finset.sum_congr rfl fun t _ => ?_
  rw [← h]
  exact congrArg f (Fin.ext (by dsimp only; omega))

theorem acc1_eq (c : Dev nD) (k : Fin 8) (y : Fin 1024 → Fin 200 → EReal)
    (h : ∀ b t, (V c main_v6 : FVec Ideal S204800x8 .f32) (ix2 ⟨200 * b.val + t.val, by omega⟩ k) = y b t) :
    ((acc V c 25).1 : FVec Ideal S1x8 .f32) (ix2 0 k) = ∑ b, ∑ t, y b t := by
  rw [acc1_range, Finset.sum_range]
  refine Eq.trans ?_ (tiles_eq (fun q => (V c main_v6 : FVec Ideal S204800x8 .f32) (ix2 q k)) y h)
  exact Finset.sum_congr rfl fun j _ => Finset.sum_congr rfl fun r _ => blk_read V c j r k
theorem acc2_eq (c : Dev nD) (k : Fin 8) (y : Fin 1024 → Fin 200 → EReal)
    (h : ∀ b t, (V c main_v6 : FVec Ideal S204800x8 .f32) (ix2 ⟨200 * b.val + t.val, by omega⟩ k) = y b t) :
    ((acc V c 25).2 : FVec Ideal S1x8 .f32) (ix2 0 k) = ∑ b, ∑ t, y b t * y b t := by
  rw [acc2_range, Finset.sum_range]
  refine Eq.trans ?_ (tiles_eq (fun q => mulf (F := Ideal) (s := S204800x8) (φ := .f32) (V c main_v6) (V c main_v6) (ix2 q k)) (fun b t => y b t * y b t)
    fun b t => congrArg₂ (fun a b : EReal => a * b) (h b t) (h b t))
  exact Finset.sum_congr rfl fun j _ => Finset.sum_congr rfl fun r _ => congrArg₂ (fun a b : EReal => a * b) (blk_read V c j r k) (blk_read V c j r k)

/-- The kernel's factor and summand give the reference's normalized features. -/
theorem bn0_eq (c : Dev nD) (k : Fin 8) (k' : Fin 16) (hk : k'.val = k.val) (y : FVec Ideal S1024x200x8 .f32) (y' : Fin 1024 → Fin 200 → ℝ)
    (h : ∀ b t, (V c main_v6 : FVec Ideal S204800x8 .f32) (ix2 ⟨200 * b.val + t.val, by omega⟩ k) = y (ix3 b t k))
    (hy : ∀ b t, y (ix3 b t k) = ((y' b t : ℝ) : EReal)) (g b w : FVec Ideal S8 .f32) (g' w' : ℝ) (hg : g (ix1 k) = (g' : EReal)) (hw : w (ix1 k) = (w' : EReal))
    (h8 : (V c main_v8 : FVec Ideal S1x8 .f32) (ix2 0 k) = mulf (F := Ideal) (s := S8) (φ := .f32) g w (ix1 k))
    (h10 : (V c main_v10 : FVec Ideal S1x8 .f32) (ix2 0 k) = mulf (F := Ideal) (s := S8) (φ := .f32) b w (ix1 k)) (i : Fin 1024) (t : Fin 200) :
    (fun a s x : EReal => x * a + s) ((scaleOut V c : FVec Ideal S1x16 .f32) (ix2 0 k')) ((shiftOut V c : FVec Ideal S1x16 .f32) (ix2 0 k')) (y (ix3 i t k))
      = refBn0 y g b w (ix3 i t k) := by
  refine Eq.trans ?_ (refBn0_apply y g b w i t k _ rfl).symm
  have e6 := bnPay6_apply (acc V c 25).1 (acc V c 25).2 (V c main_v8) k
  have e8 := bnPay8_apply (acc V c 25).1 (acc V c 25).2 (V c main_v8) k k' hk
  have e9 := bnPay9_apply (acc V c 25).1 (acc V c 25).2 (V c main_v8) (V c main_v10) k k' hk
  have a1 := acc1_eq V c k (fun b t => y (ix3 b t k)) h
  have a2 := acc2_eq V c k (fun b t => y (ix3 b t k)) h
  have fin := bn0_alg (fun b t => y (ix3 b t k)) y' hy (g (ix1 k)) (w (ix1 k)) (b (ix1 k)) g' w' hg hw _ _ _ _ a1 a2 rfl rfl i t
  rw [← a1]
  refine Eq.trans ?_ fin
  show y (ix3 i t k) * k0_pay8 (F := Ideal) (acc V c 25).1 (acc V c 25).2 (V c main_v8) (ix2 0 k') + k0_pay9 (F := Ideal) (acc V c 25).1 (acc V c 25).2 (V c main_v8) (V c main_v10) (ix2 0 k') = _
  rw [e8, e9]
  refine (show _ = (fun a b m : EReal => y (ix3 i t k) * a + (b - m * a)) (k0_pay6 (F := Ideal) (acc V c 25).1 (acc V c 25).2 (V c main_v8) (ix2 0 k))
    ((V c main_v10 : FVec Ideal S1x8 .f32) (ix2 0 k)) (k0_pay5 (F := Ideal) (acc V c 25).1 (ix2 0 k)) from rfl).trans ?_
  rw [e6, h10]
  refine (show _ = (fun a : EReal => y (ix3 i t k) * (a * Ideal.rsqrt _) + (b (ix1 k) * w (ix1 k) - _ * (a * Ideal.rsqrt _))) ((V c main_v8 : FVec Ideal S1x8 .f32) (ix2 0 k)) from rfl).trans ?_
  rw [h8]
  rfl

end Sums

end Cert.Val

end
-- ==== Proof.Val.Pre.lean ====
/-
  What the precondition says of the entries: each feature is a real number in [0, 1), and the listed weights are real.
-/
module

public import proofs.«01_k».proof.Pre_drawn_range
public import proofs.«01_k».proof.Proof.Gen.Pre_drawn_range
public import Idealize.ShloMosaic.Lib.ReduceAll
public import Idealize.ShloMosaic.Lib.IdealHost
public import Idealize.ShloMosaic.Lib.ValueIdx

@[expose] public section

noncomputable section

namespace Cert.Val

open Idealize.ShloMosaic

theorem inf_top : Ideal.ofBits .f32 0x7F800000#32 = (⊤ : EReal) := by simp [Ideal.ofBits, Ideal.ieee]

/-- A number whose absolute value is below infinity is real. -/
theorem real_of_abs {a : EReal} (h : max a (-a) < (⊤ : EReal)) : ∃ r : ℝ, a = (r : EReal) := by
  induction a with
  | coe r => exact ⟨r, rfl⟩
  | bot => simp at h
  | top => simp at h

theorem bool_one {b : Bool} (h : BitVec.ofBool b = 1#1) : b = true := by cases b <;> simp_all

theorem real_of_cmp {a b : Ideal .f32} (hb : b = (⊤ : EReal)) (h : FloatOps.cmpf (F := Ideal) (φ := .f32) .olt (FloatOps.absf a) b = 1#1) : ∃ r : ℝ, a = (r : EReal) := by
  subst hb
  exact real_of_abs (of_decide_eq_true (bool_one h))

theorem range_of_cmp {a : Ideal .f32} (h1 : FloatOps.cmpf (F := Ideal) (φ := .f32) .oge a (Ideal.ofBits .f32 0x00000000#32) = 1#1)
    (h2 : FloatOps.cmpf (F := Ideal) (φ := .f32) .olt a (Ideal.ofBits .f32 0x3F800000#32) = 1#1) : ∃ r : ℝ, a = (r : EReal) ∧ 0 ≤ r ∧ r < 1 := by
  rw [Ideal.ofBits_zero_f32] at h1
  rw [Ideal.ofBits_one_f32] at h2
  have g1 : (0 : EReal) ≤ a := of_decide_eq_true (bool_one h1)
  have g2 : (a : EReal) < 1 := of_decide_eq_true (bool_one h2)
  clear h1 h2
  change EReal at a
  induction a with
  | coe r => exact ⟨r, rfl, by exact_mod_cast g1, by exact_mod_cast g2⟩
  | bot => simp at g1
  | top => simp at g2

theorem and_one {a b : BitVec 1} (h : IntOp.andi a b = 1#1) : a = 1#1 ∧ b = 1#1 := by
  revert a b; decide

instance : Subsingleton Cert.Pre_drawn_range.S_.Idx := ⟨fun a b => funext fun i => i.elim0⟩

/-- A real number in [0, 1) converts to the integer zero. -/
theorem fptosi_zero {a : Ideal .f32} (h : ∃ r : ℝ, a = (r : EReal) ∧ 0 ≤ r ∧ r < 1) : FloatOps.fptosi (F := Ideal) (φ := .f32) 32 a = 0#32 := by
  obtain ⟨r, rfl, h0, h1⟩ := h
  show BitVec.ofInt 32 (Ideal.toIntClamped _ _ (r : EReal)) = _
  have e : Ideal.toIntClamped (-2 ^ 31) (2 ^ 31 - 1) (r : EReal) = 0 := by
    have hf : ⌊r⌋ = 0 := Int.floor_eq_zero_iff.mpr ⟨h0, h1⟩
    rw [Ideal.toIntClamped_coe, if_pos h0, hf]; decide
  exact (congrArg (BitVec.ofInt 32) e)

open Cert.Pre_drawn_range in
theorem pre_facts (a0 : FVec Ideal S1024x200x20 .f32) (a1 a2 : FVec Ideal S13526x32 .f32) (a3 : FVec Ideal S54104x5 .f32) (a4 : FVec Ideal S9x4 .f32) (a5 : FVec Ideal S190x16 .f32)
    (a6 a7 : FVec Ideal S301x16 .f32) (a8 : FVec Ideal S6x16 .f32) (a9 a10 a11 : FVec Ideal S8 .f32) (a12 : FVec Ideal S2048x129 .f32) (a13 : FVec Ideal S2048x512 .f32)
    (a14 a15 : FVec Ideal S2048 .f32) (a16 a17 : FVec Ideal S512 .f32) (a18 : FVec Ideal S256x512 .f32) (a19 a20 a21 : FVec Ideal S256 .f32) (a22 : FVec Ideal S1x256 .f32) (a23 : FVec Ideal S1 .f32)
    (h : fn (F := Ideal) a0 a1 a2 a3 a4 a5 a6 a7 a8 a9 a10 a11 a12 a13 a14 a15 a16 a17 a18 a19 a20 a21 a22 a23 = fun _ => 1#1) :
    (∀ i, ∃ r : ℝ, (a0 i : EReal) = (r : EReal) ∧ 0 ≤ r ∧ r < 1) ∧ (∀ i, ∃ r : ℝ, (a5 i : EReal) = (r : EReal)) ∧ (∀ i, ∃ r : ℝ, (a8 i : EReal) = (r : EReal))
      ∧ (∀ i, ∃ r : ℝ, (a9 i : EReal) = (r : EReal)) ∧ (∀ i, ∃ r : ℝ, (a10 i : EReal) = (r : EReal)) ∧ (∀ i, ∃ r : ℝ, (a12 i : EReal) = (r : EReal)) := by
  have h0 := congrFun h (fun i => i.elim0)
  obtain ⟨h1, k12⟩ := and_one h0
  obtain ⟨h2, k10⟩ := and_one h1
  obtain ⟨h3, k9⟩ := and_one h2
  obtain ⟨h4, k8⟩ := and_one h3
  obtain ⟨k0, k5⟩ := and_one h4
  refine ⟨fun i => ?_, fun i => ?_, fun i => ?_, fun i => ?_, fun i => ?_, fun i => ?_⟩
  · have e := and_one (Host.reduce_andi_all _ _ _ _ _ k0 i)
    exact range_of_cmp e.1 e.2
  · exact real_of_cmp inf_top (Host.reduce_andi_all _ _ _ _ _ k5 i)
  · exact real_of_cmp inf_top (Host.reduce_andi_all _ _ _ _ _ k8 i)
  · exact real_of_cmp inf_top (Host.reduce_andi_all _ _ _ _ _ k9 i)
  · exact real_of_cmp inf_top (Host.reduce_andi_all _ _ _ _ _ k10 i)
  · exact real_of_cmp inf_top (Host.reduce_andi_all _ _ _ _ _ k12 i)

end Cert.Val

end
-- ==== Proof.Val.Tail.lean ====
/-
  The tail of both programs: two batch normalizations, the hidden layer and the output. The reference's tail is cut into
  its four stages; each stage, and the kernel's, is read at an index; they agree because a product with the reciprocal root
  of a positive number is the quotient by its root, and a variance plus the guard is positive.
-/
module

public import proofs.«01_k».proof.Proof.Gen.KernelIdeal.Skeleton
public import proofs.«01_k».proof.Proof.Gen.ReferenceIdeal.Run
public import proofs.«01_k».proof.Proof.Val.Consts

@[expose] public section

set_option synthInstance.maxSize 4096

noncomputable section

namespace Cert.Val

open Idealize.ShloMosaic

section Stages
open Cert.ReferenceIdeal Cert.ReferenceIdeal.Gen

variable {F : FTy → Type} [FloatOps F]

/-- The first normalization as the reference spells it. -/
def refBn1 (H : FVec F S1024x512 .f32) (g b : FVec F S512 .f32) : FVec F S1024x512 .f32 :=
  addf (mulf (Host.divf (subf H (broadcastInDim S1024x512 ![0, 1] bcast_S1x512_S1024x512_0_1 (broadcastInDim S1x512 ![1] bcast_S512_S1x512_1 (Host.divf (Host.reduceAdd H (constant S_ .f32 0x00000000#32) reducesTo_S1024x512_S512_d0 h_S_) (broadcastInDim S512 ![] bcast_S_S512 (constant S_ .f32 0x44800000#32)))))) (broadcastInDim S1024x512 ![0, 1] bcast_S1x512_S1024x512_0_1 (broadcastInDim S1x512 ![1] bcast_S512_S1x512_1 (Host.sqrt (addf (Host.divf (Host.reduceAdd (mulf (subf H (broadcastInDim S1024x512 ![0, 1] bcast_S1x512_S1024x512_0_1 (broadcastInDim S1x512 ![1] bcast_S512_S1x512_1 (Host.divf (Host.reduceAdd H (constant S_ .f32 0x00000000#32) reducesTo_S1024x512_S512_d0 h_S_) (broadcastInDim S512 ![] bcast_S_S512 (constant S_ .f32 0x44800000#32)))))) (subf H (broadcastInDim S1024x512 ![0, 1] bcast_S1x512_S1024x512_0_1 (broadcastInDim S1x512 ![1] bcast_S512_S1x512_1 (Host.divf (Host.reduceAdd H (constant S_ .f32 0x00000000#32) reducesTo_S1024x512_S512_d0 h_S_) (broadcastInDim S512 ![] bcast_S_S512 (constant S_ .f32 0x44800000#32))))))) (constant S_ .f32 0x00000000#32) reducesTo_S1024x512_S512_d0 h_S_) (broadcastInDim S512 ![] bcast_S_S512 (constant S_ .f32 0x44800000#32))) (broadcastInDim S512 ![] bcast_S_S512 (constant S_ .f32 0x3727C5AC#32))))))) (broadcastInDim S1024x512 ![0, 1] bcast_S1x512_S1024x512_0_1 (broadcastInDim S1x512 ![1] bcast_S512_S1x512_1 g))) (broadcastInDim S1024x512 ![0, 1] bcast_S1x512_S1024x512_0_1 (broadcastInDim S1x512 ![1] bcast_S512_S1x512_1 b))

/-- The hidden layer as the reference spells it. -/
def refHid (X : FVec F S1024x512 .f32) (W : FVec F S256x512 .f32) (b : FVec F S256 .f32) : FVec F S1024x256 .f32 :=
  maximumf (addf (Host.dotGeneral dot_S1024x512_S512x256_S1024x256_1_0_0_1_n_n none X (transpose S512x256 [1, 0] W transposes_S256x512_S512x256_1_0)) (broadcastInDim S1024x256 ![0, 1] bcast_S1x256_S1024x256_0_1 (broadcastInDim S1x256 ![1] bcast_S256_S1x256_1 b))) (broadcastInDim S1024x256 ![] bcast_S_S1024x256 (constant S_ .f32 0x00000000#32))

/-- The second normalization as the reference spells it. -/
def refBn2 (R : FVec F S1024x256 .f32) (g b : FVec F S256 .f32) : FVec F S1024x256 .f32 :=
  addf (mulf (Host.divf (subf R (broadcastInDim S1024x256 ![0, 1] bcast_S1x256_S1024x256_0_1 (broadcastInDim S1x256 ![1] bcast_S256_S1x256_1 (Host.divf (Host.reduceAdd R (constant S_ .f32 0x00000000#32) reducesTo_S1024x256_S256_d0 h_S_) (broadcastInDim S256 ![] bcast_S_S256 (constant S_ .f32 0x44800000#32)))))) (broadcastInDim S1024x256 ![0, 1] bcast_S1x256_S1024x256_0_1 (broadcastInDim S1x256 ![1] bcast_S256_S1x256_1 (Host.sqrt (addf (Host.divf (Host.reduceAdd (mulf (subf R (broadcastInDim S1024x256 ![0, 1] bcast_S1x256_S1024x256_0_1 (broadcastInDim S1x256 ![1] bcast_S256_S1x256_1 (Host.divf (Host.reduceAdd R (constant S_ .f32 0x00000000#32) reducesTo_S1024x256_S256_d0 h_S_) (broadcastInDim S256 ![] bcast_S_S256 (constant S_ .f32 0x44800000#32)))))) (subf R (broadcastInDim S1024x256 ![0, 1] bcast_S1x256_S1024x256_0_1 (broadcastInDim S1x256 ![1] bcast_S256_S1x256_1 (Host.divf (Host.reduceAdd R (constant S_ .f32 0x00000000#32) reducesTo_S1024x256_S256_d0 h_S_) (broadcastInDim S256 ![] bcast_S_S256 (constant S_ .f32 0x44800000#32))))))) (constant S_ .f32 0x00000000#32) reducesTo_S1024x256_S256_d0 h_S_) (broadcastInDim S256 ![] bcast_S_S256 (constant S_ .f32 0x44800000#32))) (broadcastInDim S256 ![] bcast_S_S256 (constant S_ .f32 0x3727C5AC#32))))))) (broadcastInDim S1024x256 ![0, 1] bcast_S1x256_S1024x256_0_1 (broadcastInDim S1x256 ![1] bcast_S256_S1x256_1 g))) (broadcastInDim S1024x256 ![0, 1] bcast_S1x256_S1024x256_0_1 (broadcastInDim S1x256 ![1] bcast_S256_S1x256_1 b))

/-- The output as the reference spells it. -/
def refOut (X : FVec F S1024x256 .f32) (W : FVec F S1x256 .f32) (b : FVec F S1 .f32) : FVec F S1024 .f32 :=
  shapeCast S1024 (addf (Host.dotGeneral dot_S1024x256_S256x1_S1024x1_1_0_0_1_n_n none X (transpose S256x1 [1, 0] W transposes_S1x256_S256x1_1_0)) (broadcastInDim S1024x1 ![0, 1] bcast_S1x1_S1024x1_0_1 (broadcastInDim S1x1 ![1] bcast_S1_S1x1_1 b))) shapeCasts_S1024x1_S1024

open Idealize.ShloMosaic.StableHlo in
/-- The reference's tail is its four stages, one after the other. -/
theorem out_eq (V0 : Valuation τ sig (Elt F)) : Cert.ReferenceIdeal.Value.out_main_v162 V0
    = refOut (refBn2 (refHid (refBn1 (V0 (Proc.devRef .tc main_v100_6)) (V0 (Proc.devRef .tc main_arg16)) (V0 (Proc.devRef .tc main_arg17)))
        (V0 (Proc.devRef .tc main_arg18)) (V0 (Proc.devRef .tc main_arg19))) (V0 (Proc.devRef .tc main_arg20)) (V0 (Proc.devRef .tc main_arg21)))
        (V0 (Proc.devRef .tc main_arg22)) (V0 (Proc.devRef .tc main_arg23)) := rfl

end Stages

/-- The mean of a column. -/
def meanS {n : ℕ} (h : Fin 1024 → Fin n → EReal) (c : Fin n) : EReal := Ideal.div (∑ i, h i c) (Ideal.ofBits .f32 0x44800000#32)
/-- The mean of a column's squared deviations, plus the guard. -/
def varS {n : ℕ} (h : Fin 1024 → Fin n → EReal) (c : Fin n) : EReal :=
  Ideal.div (∑ i, (h i c - meanS h c) * (h i c - meanS h c)) (Ideal.ofBits .f32 0x44800000#32) + Ideal.ofBits .f32 0x3727C5AC#32
/-- A column normalized, scaled and shifted. -/
def bnS {n : ℕ} (h : Fin 1024 → Fin n → EReal) (g b : Fin n → EReal) (i : Fin 1024) (c : Fin n) : EReal :=
  Ideal.div (h i c - meanS h c) (Ideal.sqrt (varS h c)) * g c + b c
/-- The hidden layer. -/
def hidS (x : Fin 1024 → Fin 512 → EReal) (W : Fin 256 → Fin 512 → EReal) (b : Fin 256 → EReal) (i : Fin 1024) (c : Fin 256) : EReal :=
  max (∑ k, x i k * W c k + b c) 0
/-- The output. -/
def outS (x : Fin 1024 → Fin 256 → EReal) (w : Fin 256 → EReal) (b : EReal) (i : Fin 1024) : EReal := ∑ k, x i k * w k + b

theorem varS_pos {n : ℕ} (h : Fin 1024 → Fin n → EReal) (c : Fin n) : 0 < varS h c := by
  unfold varS
  obtain ⟨e, he, h'⟩ := cEps
  rw [h', c1024]
  exact lt_of_lt_of_le (by exact_mod_cast he) (le_add_of_nonneg_left (div_real_nonneg (by norm_num) (Finset.sum_nonneg fun i _ => sq_nonneg' _)))

section Reference
open Cert.ReferenceIdeal Cert.ReferenceIdeal.Gen

theorem refBn1_apply (H : FVec Ideal S1024x512 .f32) (g b : FVec Ideal S512 .f32) (i : Fin 1024) (c : Fin 512) :
    refBn1 H g b (ix2 i c) = bnS (fun i c => H (ix2 i c)) (fun c => g (ix1 c)) (fun c => b (ix1 c)) i c := by
  pointwise [refBn1, bnS, varS, meanS]

theorem refHid_apply (X : FVec Ideal S1024x512 .f32) (W : FVec Ideal S256x512 .f32) (b : FVec Ideal S256 .f32) (i : Fin 1024) (c : Fin 256) :
    refHid X W b (ix2 i c) = hidS (fun i c => X (ix2 i c)) (fun c k => W (ix2 c k)) (fun c => b (ix1 c)) i c := by
  pointwise [refHid, hidS]

theorem refBn2_apply (H : FVec Ideal S1024x256 .f32) (g b : FVec Ideal S256 .f32) (i : Fin 1024) (c : Fin 256) :
    refBn2 H g b (ix2 i c) = bnS (fun i c => H (ix2 i c)) (fun c => g (ix1 c)) (fun c => b (ix1 c)) i c := by
  pointwise [refBn2, bnS, varS, meanS]

theorem refOut_apply (X : FVec Ideal S1024x256 .f32) (W : FVec Ideal S1x256 .f32) (b : FVec Ideal S1 .f32) (i : Fin 1024) :
    refOut X W b (ix1 i) = outS (fun i c => X (ix2 i c)) (fun c => W (ix2 0 c)) (b (ix1 0)) i := by
  pointwise [refOut, outS]

end Reference

section Kernel
open Cert.KernelIdeal Cert.KernelIdeal.Gen

/-- The kernel's first normalization, with a reciprocal root, is the reference's. -/
theorem bn_rsqrt {n : ℕ} (h : Fin 1024 → Fin n → EReal) (g b : Fin n → EReal) (i : Fin 1024) (c : Fin n) :
    (h i c - meanS h c) * Ideal.rsqrt (varS h c) * g c + b c = bnS h g b i c := by
  unfold bnS; rw [mul_rsqrt _ (varS_pos h c)]

/-- The hidden layer of the kernel, less its column mean. -/
theorem pay8_apply (H : FVec Ideal S1024x512 .f32) (g b : FVec Ideal S1x512 .f32) (W : FVec Ideal S512x256 .f32) (b1 : FVec Ideal S1x256 .f32) (i : Fin 1024) (c : Fin 256) :
    k1_pay8 H g b W b1 (ix2 i c)
      = hidS (bnS (fun i c => H (ix2 i c)) (fun c => g (ix2 0 c)) (fun c => b (ix2 0 c))) (fun c k => W (ix2 k c)) (fun c => b1 (ix2 0 c)) i c
        - meanS (hidS (bnS (fun i c => H (ix2 i c)) (fun c => g (ix2 0 c)) (fun c => b (ix2 0 c))) (fun c k => W (ix2 k c)) (fun c => b1 (ix2 0 c))) c := by
  have e : bnS (fun i c => H (ix2 i c)) (fun c => g (ix2 0 c)) (fun c => b (ix2 0 c)) = fun i c =>
      (H (ix2 i c) - meanS (fun i c => H (ix2 i c)) c) * Ideal.rsqrt (varS (fun i c => H (ix2 i c)) c) * g (ix2 0 c) + b (ix2 0 c) := by
    funext i c; exact (bn_rsqrt _ _ _ i c).symm
  rw [e]
  pointwise [k1_pay8, hidS, meanS, varS]

theorem pay9_apply (H : FVec Ideal S1024x512 .f32) (g b : FVec Ideal S1x512 .f32) (W : FVec Ideal S512x256 .f32) (b1 : FVec Ideal S1x256 .f32) (c : Fin 256) :
    k1_pay9 H g b W b1 (ix2 0 c) = ∑ i : Fin 1024, k1_pay8 H g b W b1 (ix2 i c) * k1_pay8 H g b W b1 (ix2 i c) := by
  pointwise [k1_pay9]

theorem pay4_apply (d : FVec Ideal S1024x256 .f32) (s g b w : FVec Ideal S1x256 .f32) (o : FVec Ideal S1x1 .f32) (i : Fin 1024) :
    k1_pay4 d s g b w o (ix2 i 0) = (∑ k : Fin 256, (d (ix2 i k) * Ideal.rsqrt (Ideal.div (s (ix2 0 k)) (Ideal.ofBits .f32 0x44800000#32) + Ideal.ofBits .f32 0x3727C5AC#32) * g (ix2 0 k) + b (ix2 0 k)) * w (ix2 0 k)) + o (ix2 0 0) := by
  pointwise [k1_pay4]

/-- The kernel's tail at a row. -/
theorem tail_apply (H : FVec Ideal S1024x512 .f32) (g b : FVec Ideal S1x512 .f32) (W : FVec Ideal S512x256 .f32) (b1 g2 b2 w : FVec Ideal S1x256 .f32) (o : FVec Ideal S1x1 .f32) (i : Fin 1024) :
    k1_pay4 (k1_pay8 H g b W b1) (k1_pay9 H g b W b1) g2 b2 w o (ix2 i 0)
      = outS (bnS (hidS (bnS (fun i c => H (ix2 i c)) (fun c => g (ix2 0 c)) (fun c => b (ix2 0 c))) (fun c k => W (ix2 k c)) (fun c => b1 (ix2 0 c)))
          (fun c => g2 (ix2 0 c)) (fun c => b2 (ix2 0 c))) (fun c => w (ix2 0 c)) (o (ix2 0 0)) i := by
  rw [pay4_apply]
  unfold outS
  refine congrArg (· + _) (Finset.sum_congr rfl fun k _ => ?_)
  rw [← bn_rsqrt, pay9_apply]
  simp only [pay8_apply]
  rfl

end Kernel

end Cert.Val

end
-- ==== Proof.Val.Final.lean ====
/-
  The results of the two programs agree: what the kernel's host operations and first region hand to the second, what the
  reference's loop is entered with, and the two tails.
-/
module

public import proofs.«01_k».proof.Proof.Val.Steps
public import proofs.«01_k».proof.Proof.Val.Bn0
public import proofs.«01_k».proof.Proof.Val.Pre
public import proofs.«01_k».proof.Proof.Val.Tail
public import proofs.«01_k».proof.Proof.KI.Run

@[expose] public section

set_option synthInstance.maxSize 4096
set_option maxRecDepth 8192

noncomputable section

namespace Cert.Val

open Idealize.ShloMosaic Idealize.ShloMosaic.TcCoe Idealize.ShloMosaic.StableHlo Idealize.ShloMosaic.Tactic

section Kernel
open Cert.KernelIdeal Cert.KernelIdeal.Gen Cert.KernelIdeal.Own

variable (m : (ℓ : Loc nD τ sig) → Buf (Elt Ideal) ℓ) (c : Dev nD)

/-- The arrays of the recurrence, from the arguments. -/
def insOf : Ins where
  a0 := m ((c : Thread nD τ).loc main_arg0)
  a1 := m ((c : Thread nD τ).loc main_arg1)
  a2 := m ((c : Thread nD τ).loc main_arg2)
  a3 := m ((c : Thread nD τ).loc main_arg3)
  a4 := m ((c : Thread nD τ).loc main_arg4)
  a5 := m ((c : Thread nD τ).loc main_arg5)
  a6 := m ((c : Thread nD τ).loc main_arg6)
  a7 := m ((c : Thread nD τ).loc main_arg7)
  a8 := m ((c : Thread nD τ).loc main_arg8)
  a12 := m ((c : Thread nD τ).loc main_arg12)
  a13 := m ((c : Thread nD τ).loc main_arg13)
  a14 := m ((c : Thread nD τ).loc main_arg14)
  a15 := m ((c : Thread nD τ).loc main_arg15)
  p := refBn0 (refCont (m ((c : Thread nD τ).loc main_arg0))) (m ((c : Thread nD τ).loc main_arg10)) (m ((c : Thread nD τ).loc main_arg11)) (m ((c : Thread nD τ).loc main_arg9))

theorem V2_in (r : Ref sig .tc) (h1 : r ∉ hostOps0_W) (h2 : r ∉ hostOps0_1_W) : V2 m c r = m ((c : Thread nD τ).loc r) :=
  (V2_of m c r h2).trans (V1_of m c r h1)
theorem V4_in (r : Ref sig .tc) (h1 : r ∉ hostOps0_W) (h2 : r ∉ hostOps0_1_W) (h3 : r ∉ hostOps0_2_W) (h4 : r ∉ ([main_v11_0, main_v11_1] : List (Ref sig .tc))) :
    V4 m (outsF m) c r = m ((c : Thread nD τ).loc r) :=
  (V4_of m (outsF m) c r h4).trans ((V3_of m c r h3).trans (V2_in m c r h1 h2))
theorem V5_in (r : Ref sig .tc) (h1 : r ∉ hostOps0_W) (h2 : r ∉ hostOps0_1_W) (h3 : r ∉ hostOps0_2_W) (h4 : r ∉ ([main_v11_0, main_v11_1] : List (Ref sig .tc))) (h5 : r ∉ hostOps1_W) :
    V5 m (outsF m) c r = m ((c : Thread nD τ).loc r) :=
  (V5_of m (outsF m) c r h5).trans (V4_in m c r h1 h2 h3 h4)

/-- What the precondition gives of the memory. -/
structure Real (m : (ℓ : Loc nD τ sig) → Buf (Elt Ideal) ℓ) (c : Dev nD) : Prop where
  x : ∀ i : S1024x200x20.Idx, ∃ r : ℝ, ((m ((c : Thread nD τ).loc main_arg0) : FVec Ideal S1024x200x20 .f32) i : EReal) = (r : EReal) ∧ 0 ≤ r ∧ r < 1
  r5 : ∀ i : S190x16.Idx, ∃ r : ℝ, ((m ((c : Thread nD τ).loc main_arg5) : FVec Ideal S190x16 .f32) i : EReal) = (r : EReal)
  r8 : ∀ i : S6x16.Idx, ∃ r : ℝ, ((m ((c : Thread nD τ).loc main_arg8) : FVec Ideal S6x16 .f32) i : EReal) = (r : EReal)
  r9 : ∀ i : S8.Idx, ∃ r : ℝ, ((m ((c : Thread nD τ).loc main_arg9) : FVec Ideal S8 .f32) i : EReal) = (r : EReal)
  r10 : ∀ i : S8.Idx, ∃ r : ℝ, ((m ((c : Thread nD τ).loc main_arg10) : FVec Ideal S8 .f32) i : EReal) = (r : EReal)
  r12 : ∀ i : S2048x129.Idx, ∃ r : ℝ, ((m ((c : Thread nD τ).loc main_arg12) : FVec Ideal S2048x129 .f32) i : EReal) = (r : EReal)

variable {m c}

theorem cont_apply (x : FVec Ideal S1024x200x20 .f32) (i : Fin 1024) (t : Fin 200) (k : Fin 8) (h : 12 + k.val < 20) : refCont x (ix3 i t k) = x (ix3 i t ⟨12 + k.val, h⟩) := by
  pointwise [refCont]

theorem v4_read (t : Fin 200) (i : Fin 1024) (k : Fin 8) :
    (V5 m (outsF m) c main_v4 : FVec Ideal S200x1024x16 .f32) (ix3 t i (atI 0 8 16 (Nat.le_of_ble_eq_true rfl) k)) = refCont (m ((c : Thread nD τ).loc main_arg0)) (ix3 i t k) := by
  have hk := k.isLt
  have h12 : 12 + k.val < 20 := by omega
  have e : V5 m (outsF m) c main_v4 = V3 m c main_v4 := (V5_of m (outsF m) c main_v4 (by decide)).trans (V4_of m (outsF m) c main_v4 (by decide))
  rw [e, at_zero _ k (by omega)]
  refine (v4_apply (V0 m c) t i ⟨k.val, by omega⟩).trans ?_
  rw [dif_pos hk]
  exact (cont_apply _ i t k h12).symm

theorem hp_of (R : Real m c) (i : Fin 1024) (t : Fin 200) (k : Fin 8) :
    (fun a s x : EReal => x * a + s) ((V5 m (outsF m) c main_v11_0 : FVec Ideal S1x16 .f32) (ix2 0 (atI 0 8 16 (Nat.le_of_ble_eq_true rfl) k)))
      ((V5 m (outsF m) c main_v11_1 : FVec Ideal S1x16 .f32) (ix2 0 (atI 0 8 16 (Nat.le_of_ble_eq_true rfl) k)))
      ((V5 m (outsF m) c main_v4 : FVec Ideal S200x1024x16 .f32) (ix3 t i (atI 0 8 16 (Nat.le_of_ble_eq_true rfl) k))) = (insOf m c).p (ix3 i t k) := by
  have hk := k.isLt
  have h12 : 12 + k.val < 20 := by omega
  have e0 : V5 m (outsF m) c main_v11_0 = scaleOut (fun c b => V3 m c b) c := (V5_of m (outsF m) c main_v11_0 (by decide)).trans (V4_v11_0 m c)
  have e1 : V5 m (outsF m) c main_v11_1 = shiftOut (fun c b => V3 m c b) c := (V5_of m (outsF m) c main_v11_1 (by decide)).trans (V4_v11_1 m c)
  rw [v4_read, e0, e1]
  obtain ⟨x', hx⟩ : ∃ x' : Fin 1024 → Fin 200 → ℝ, ∀ b t, refCont (m ((c : Thread nD τ).loc main_arg0)) (ix3 b t k) = ((x' b t : ℝ) : EReal) := by
    choose r hr using R.x
    exact ⟨fun b t => r (ix3 b t ⟨12 + k.val, h12⟩), fun b t => (cont_apply _ b t k h12).trans (hr _).1⟩
  obtain ⟨g', hg⟩ := R.r10 (ix1 k)
  obtain ⟨w', hw⟩ := R.r9 (ix1 k)
  refine bn0_eq (fun c b => V3 m c b) c k _ (Nat.zero_add _) (refCont (m ((c : Thread nD τ).loc main_arg0))) x' (fun b t => ?_) hx (m ((c : Thread nD τ).loc main_arg10))
    (m ((c : Thread nD τ).loc main_arg11)) (m ((c : Thread nD τ).loc main_arg9)) g' w' hg hw ?_ ?_ i t
  · refine (v6_apply (V2 m c) b t k).trans ?_
    rw [V2_in m c main_arg0 (by decide) (by decide)]
    exact (cont_apply _ b t k h12).symm
  · refine (v8_apply (V2 m c) k).trans ?_
    rw [V2_in m c main_arg9 (by decide) (by decide), V2_in m c main_arg10 (by decide) (by decide)]
  · refine (v10_apply (V2 m c) k).trans ?_
    rw [V2_in m c main_arg9 (by decide) (by decide), V2_in m c main_arg11 (by decide) (by decide)]

theorem kdata (R : Real m c) : KData (fun c b => V5 m (outsF m) c b) c (insOf m c) where
  f5 := R.r5
  f8 := R.r8
  f12 := R.r12
  h1 := V5_in m c main_arg1 (by decide) (by decide) (by decide) (by decide) (by decide)
  h2 := V5_in m c main_arg2 (by decide) (by decide) (by decide) (by decide) (by decide)
  h3 := V5_in m c main_arg3 (by decide) (by decide) (by decide) (by decide) (by decide)
  h4 := V5_in m c main_arg4 (by decide) (by decide) (by decide) (by decide) (by decide)
  h5 := V5_in m c main_arg5 (by decide) (by decide) (by decide) (by decide) (by decide)
  h6 := V5_in m c main_arg6 (by decide) (by decide) (by decide) (by decide) (by decide)
  h7 := V5_in m c main_arg7 (by decide) (by decide) (by decide) (by decide) (by decide)
  h57 := by
    refine (v57_eq (V4 m (outsF m) c)).trans ?_
    rw [V4_in m c main_arg12 (by decide) (by decide) (by decide) (by decide), V4_in m c main_arg8 (by decide) (by decide) (by decide) (by decide)]
    rfl
  h58 k cc := by
    refine (v58_apply (V4 m (outsF m) c) k cc).trans ?_
    rw [V4_in m c main_arg13 (by decide) (by decide) (by decide) (by decide)]
    rfl
  h60 cc := by
    refine (v60_apply (V4 m (outsF m) c) cc).trans ?_
    rw [V4_in m c main_arg14 (by decide) (by decide) (by decide) (by decide), V4_in m c main_arg15 (by decide) (by decide) (by decide) (by decide)]
    rfl
  hp i t k := hp_of R i t k

end Kernel

section Both
open Cert.KernelIdeal (nD τ sig)

variable {m : (ℓ : Loc nD τ sig) → Buf (Elt Ideal) ℓ} {m' : (ℓ : Loc ReferenceIdeal.nD ReferenceIdeal.τ ReferenceIdeal.sig) → Buf (Elt Ideal) ℓ} {c : Dev nD}

/-- The two memories agree on the arguments. -/
structure Same (m : (ℓ : Loc nD τ sig) → Buf (Elt Ideal) ℓ) (m' : (ℓ : Loc ReferenceIdeal.nD ReferenceIdeal.τ ReferenceIdeal.sig) → Buf (Elt Ideal) ℓ) (c : Dev nD) : Prop where
  e0 : m' ((c.tc : Thread ReferenceIdeal.nD ReferenceIdeal.τ).loc ReferenceIdeal.main_arg0) = m ((c.tc : Thread KernelIdeal.nD KernelIdeal.τ).loc KernelIdeal.main_arg0)
  e1 : m' ((c.tc : Thread ReferenceIdeal.nD ReferenceIdeal.τ).loc ReferenceIdeal.main_arg1) = m ((c.tc : Thread KernelIdeal.nD KernelIdeal.τ).loc KernelIdeal.main_arg1)
  e2 : m' ((c.tc : Thread ReferenceIdeal.nD ReferenceIdeal.τ).loc ReferenceIdeal.main_arg2) = m ((c.tc : Thread KernelIdeal.nD KernelIdeal.τ).loc KernelIdeal.main_arg2)
  e3 : m' ((c.tc : Thread ReferenceIdeal.nD ReferenceIdeal.τ).loc ReferenceIdeal.main_arg3) = m ((c.tc : Thread KernelIdeal.nD KernelIdeal.τ).loc KernelIdeal.main_arg3)
  e4 : m' ((c.tc : Thread ReferenceIdeal.nD ReferenceIdeal.τ).loc ReferenceIdeal.main_arg4) = m ((c.tc : Thread KernelIdeal.nD KernelIdeal.τ).loc KernelIdeal.main_arg4)
  e5 : m' ((c.tc : Thread ReferenceIdeal.nD ReferenceIdeal.τ).loc ReferenceIdeal.main_arg5) = m ((c.tc : Thread KernelIdeal.nD KernelIdeal.τ).loc KernelIdeal.main_arg5)
  e6 : m' ((c.tc : Thread ReferenceIdeal.nD ReferenceIdeal.τ).loc ReferenceIdeal.main_arg6) = m ((c.tc : Thread KernelIdeal.nD KernelIdeal.τ).loc KernelIdeal.main_arg6)
  e7 : m' ((c.tc : Thread ReferenceIdeal.nD ReferenceIdeal.τ).loc ReferenceIdeal.main_arg7) = m ((c.tc : Thread KernelIdeal.nD KernelIdeal.τ).loc KernelIdeal.main_arg7)
  e8 : m' ((c.tc : Thread ReferenceIdeal.nD ReferenceIdeal.τ).loc ReferenceIdeal.main_arg8) = m ((c.tc : Thread KernelIdeal.nD KernelIdeal.τ).loc KernelIdeal.main_arg8)
  e9 : m' ((c.tc : Thread ReferenceIdeal.nD ReferenceIdeal.τ).loc ReferenceIdeal.main_arg9) = m ((c.tc : Thread KernelIdeal.nD KernelIdeal.τ).loc KernelIdeal.main_arg9)
  e10 : m' ((c.tc : Thread ReferenceIdeal.nD ReferenceIdeal.τ).loc ReferenceIdeal.main_arg10) = m ((c.tc : Thread KernelIdeal.nD KernelIdeal.τ).loc KernelIdeal.main_arg10)
  e11 : m' ((c.tc : Thread ReferenceIdeal.nD ReferenceIdeal.τ).loc ReferenceIdeal.main_arg11) = m ((c.tc : Thread KernelIdeal.nD KernelIdeal.τ).loc KernelIdeal.main_arg11)
  e12 : m' ((c.tc : Thread ReferenceIdeal.nD ReferenceIdeal.τ).loc ReferenceIdeal.main_arg12) = m ((c.tc : Thread KernelIdeal.nD KernelIdeal.τ).loc KernelIdeal.main_arg12)
  e13 : m' ((c.tc : Thread ReferenceIdeal.nD ReferenceIdeal.τ).loc ReferenceIdeal.main_arg13) = m ((c.tc : Thread KernelIdeal.nD KernelIdeal.τ).loc KernelIdeal.main_arg13)
  e14 : m' ((c.tc : Thread ReferenceIdeal.nD ReferenceIdeal.τ).loc ReferenceIdeal.main_arg14) = m ((c.tc : Thread KernelIdeal.nD KernelIdeal.τ).loc KernelIdeal.main_arg14)
  e15 : m' ((c.tc : Thread ReferenceIdeal.nD ReferenceIdeal.τ).loc ReferenceIdeal.main_arg15) = m ((c.tc : Thread KernelIdeal.nD KernelIdeal.τ).loc KernelIdeal.main_arg15)
  e16 : m' ((c.tc : Thread ReferenceIdeal.nD ReferenceIdeal.τ).loc ReferenceIdeal.main_arg16) = m ((c.tc : Thread KernelIdeal.nD KernelIdeal.τ).loc KernelIdeal.main_arg16)
  e17 : m' ((c.tc : Thread ReferenceIdeal.nD ReferenceIdeal.τ).loc ReferenceIdeal.main_arg17) = m ((c.tc : Thread KernelIdeal.nD KernelIdeal.τ).loc KernelIdeal.main_arg17)
  e18 : m' ((c.tc : Thread ReferenceIdeal.nD ReferenceIdeal.τ).loc ReferenceIdeal.main_arg18) = m ((c.tc : Thread KernelIdeal.nD KernelIdeal.τ).loc KernelIdeal.main_arg18)
  e19 : m' ((c.tc : Thread ReferenceIdeal.nD ReferenceIdeal.τ).loc ReferenceIdeal.main_arg19) = m ((c.tc : Thread KernelIdeal.nD KernelIdeal.τ).loc KernelIdeal.main_arg19)
  e20 : m' ((c.tc : Thread ReferenceIdeal.nD ReferenceIdeal.τ).loc ReferenceIdeal.main_arg20) = m ((c.tc : Thread KernelIdeal.nD KernelIdeal.τ).loc KernelIdeal.main_arg20)
  e21 : m' ((c.tc : Thread ReferenceIdeal.nD ReferenceIdeal.τ).loc ReferenceIdeal.main_arg21) = m ((c.tc : Thread KernelIdeal.nD KernelIdeal.τ).loc KernelIdeal.main_arg21)
  e22 : m' ((c.tc : Thread ReferenceIdeal.nD ReferenceIdeal.τ).loc ReferenceIdeal.main_arg22) = m ((c.tc : Thread KernelIdeal.nD KernelIdeal.τ).loc KernelIdeal.main_arg22)
  e23 : m' ((c.tc : Thread ReferenceIdeal.nD ReferenceIdeal.τ).loc ReferenceIdeal.main_arg23) = m ((c.tc : Thread KernelIdeal.nD KernelIdeal.τ).loc KernelIdeal.main_arg23)

/-- The reference's memory where its loop is entered. -/
abbrev entryR (m' : (ℓ : Loc ReferenceIdeal.nD ReferenceIdeal.τ ReferenceIdeal.sig) → Buf (Elt Ideal) ℓ) (c : Dev ReferenceIdeal.nD) :
    Valuation ReferenceIdeal.τ ReferenceIdeal.sig (Elt Ideal) := entryContents ReferenceIdeal.Value.preI m' c

theorem entryR_eq (c : Dev ReferenceIdeal.nD) : entryR m' c = after ReferenceIdeal.Gen.hostOps0 (fun b => m' (c, b)) := rfl

section Weights
variable (V : Valuation ReferenceIdeal.τ ReferenceIdeal.sig (Elt Ideal))
theorem w1_eq : after ReferenceIdeal.Gen.hostOps0 V ReferenceIdeal.main_v100_1 = V ReferenceIdeal.main_arg12 := by
  after_results
  rfl
theorem w2_eq : after ReferenceIdeal.Gen.hostOps0 V ReferenceIdeal.main_v100_2 = V ReferenceIdeal.main_arg13 := by
  after_results
  rfl
theorem w3_eq : after ReferenceIdeal.Gen.hostOps0 V ReferenceIdeal.main_v100_3 = V ReferenceIdeal.main_arg14 := by
  after_results
  rfl
theorem w4_eq : after ReferenceIdeal.Gen.hostOps0 V ReferenceIdeal.main_v100_4 = V ReferenceIdeal.main_arg15 := by
  after_results
  rfl
end Weights

theorem zeros_eq : (broadcastInDim ReferenceIdeal.S1024x512 ![] ReferenceIdeal.Gen.bcast_S_S1024x512 (constant ReferenceIdeal.S_ .f32 0x00000000#32) : FVec Ideal ReferenceIdeal.S1024x512 .f32)
    = (fun _ => (0 : EReal) : FVec Ideal ReferenceIdeal.S1024x512 .f32) := by
  funext i
  pointwise

theorem rdata (R : Real m c) (S : Same m m' c) : RData (entryR m' c) (insOf m c) where
  x := by
    rw [entryR_eq]
    refine (x_zero (fun b => m' (c, b)) ?_).trans ?_
    · refine Eq.trans (congrArg (fptosi (F := Ideal) (s := ReferenceIdeal.S1024x200x20) (φ := .f32) 32) S.e0) ?_
      exact funext fun i => fptosi_zero (R.x i)
    · exact congr (congr (congr (congr (congr (congr (congr (congrArg refX S.e1) S.e2) S.e3) S.e4) S.e5) S.e6) S.e7) S.e8 |> fun h => congr h
        (congr (congr (congr (congrArg (fun a => refBn0 (refCont a)) S.e0) S.e10) S.e11) S.e9)
  w := by rw [entryR_eq]; exact (w1_eq _).trans S.e12
  u := by rw [entryR_eq]; exact (w2_eq _).trans S.e13
  p := by rw [entryR_eq]; exact (w3_eq _).trans S.e14
  q := by rw [entryR_eq]; exact (w4_eq _).trans S.e15
  i := ReferenceIdeal.Value.ctr_entry m' c
  h := by rw [entryR_eq]; exact (h_eq _).trans zeros_eq
  c := by rw [entryR_eq]; exact (c_eq' _).trans zeros_eq

end Both

section Out
open Cert.KernelIdeal Cert.KernelIdeal.Gen Cert.KernelIdeal.Own

variable {m : (ℓ : Loc nD τ sig) → Buf (Elt Ideal) ℓ} {m' : (ℓ : Loc ReferenceIdeal.nD ReferenceIdeal.τ ReferenceIdeal.sig) → Buf (Elt Ideal) ℓ} {c : Dev nD}

/-- The two tails, of one state and the arguments. -/
def tailS (H : FVec Ideal S1024x512 .f32) (g b : FVec Ideal S512 .f32) (W : FVec Ideal S256x512 .f32) (b1 g2 b2 : FVec Ideal S256 .f32) (w : FVec Ideal S1x256 .f32) (o : FVec Ideal S1 .f32) (i : Fin 1024) : EReal :=
  outS (bnS (hidS (bnS (fun i c => H (ix2 i c)) (fun c => g (ix1 c)) (fun c => b (ix1 c))) (fun c k => W (ix2 c k)) (fun c => b1 (ix1 c)))
    (fun c => g2 (ix1 c)) (fun c => b2 (ix1 c))) (fun c => w (ix2 0 c)) (o (ix1 0)) i

theorem refTail (H : FVec Ideal S1024x512 .f32) (g b : FVec Ideal S512 .f32) (W : FVec Ideal S256x512 .f32) (b1 g2 b2 : FVec Ideal S256 .f32) (w : FVec Ideal S1x256 .f32) (o : FVec Ideal S1 .f32) (i : Fin 1024) :
    refOut (refBn2 (refHid (refBn1 H g b) W b1) g2 b2) w o (ix1 i) = tailS H g b W b1 g2 b2 w o i := by
  rw [refOut_apply]
  simp only [refBn2_apply, refHid_apply, refBn1_apply]
  rfl

theorem last_eq (V : (c : Dev nD) → (b : Ref sig .tc) → Buf (Elt Ideal) ((c : Thread nD τ).loc b)) (c : Dev nD) :
    hRaw (F := Ideal) (xAt V c 199) (V c main_v11_0) (V c main_v11_1) (V c main_v57) (st V c 199).1 (V c main_v58) (rowV V c) (st V c 199).2 = (st V c 200).1 :=
  (hRaw_eq _ _ _ _ _ _ _ _).trans (hStep_eq (xAt V c 199) (V c main_v11_0) (V c main_v11_1) (V c main_v57) (st V c 199).1 (V c main_v58) (rowV V c) (st V c 199).2).symm

theorem kerTail (i : Fin 1024) : (V7 m (outsF m) c main_v69 : FVec Ideal S1024 .f32) (ix1 i)
    = tailS (st (fun c b => V5 m (outsF m) c b) c 200).1 (m ((c : Thread nD τ).loc main_arg16)) (m ((c : Thread nD τ).loc main_arg17)) (m ((c : Thread nD τ).loc main_arg18))
      (m ((c : Thread nD τ).loc main_arg19)) (m ((c : Thread nD τ).loc main_arg20)) (m ((c : Thread nD τ).loc main_arg21)) (m ((c : Thread nD τ).loc main_arg22)) (m ((c : Thread nD τ).loc main_arg23)) i := by
  refine (v69_apply (V6 m (outsF m) c) i).trans ?_
  rw [V6_v68]
  unfold outV
  rw [last_eq]
  unfold tailOf
  refine (tail_apply _ _ _ _ _ _ _ _ _ i).trans ?_
  have e16 := V4_in m c main_arg16 (by decide) (by decide) (by decide) (by decide)
  have e17 := V4_in m c main_arg17 (by decide) (by decide) (by decide) (by decide)
  have e18 := V4_in m c main_arg18 (by decide) (by decide) (by decide) (by decide)
  have e19 := V4_in m c main_arg19 (by decide) (by decide) (by decide) (by decide)
  have e20 := V4_in m c main_arg20 (by decide) (by decide) (by decide) (by decide)
  have e21 := V4_in m c main_arg21 (by decide) (by decide) (by decide) (by decide)
  have e22 := V5_in m c main_arg22 (by decide) (by decide) (by decide) (by decide) (by decide)
  have e23 := V4_in m c main_arg23 (by decide) (by decide) (by decide) (by decide)
  have f16 := funext fun k => (v61_apply (V4 m (outsF m) c) k).trans (congrFun e16 (ix1 k))
  have f17 := funext fun k => (v62_apply (V4 m (outsF m) c) k).trans (congrFun e17 (ix1 k))
  have f18 := funext fun cc => funext fun k => (v63_apply (V4 m (outsF m) c) k cc).trans (congrFun e18 (ix2 cc k))
  have f19 := funext fun k => (v64_apply (V4 m (outsF m) c) k).trans (congrFun e19 (ix1 k))
  have f20 := funext fun k => (v65_apply (V4 m (outsF m) c) k).trans (congrFun e20 (ix1 k))
  have f21 := funext fun k => (v66_apply (V4 m (outsF m) c) k).trans (congrFun e21 (ix1 k))
  have f22 := funext fun k : Fin 256 => congrFun e22 (ix2 0 k)
  have f23 := (v67_apply (V4 m (outsF m) c)).trans (congrFun e23 (ix1 0))
  unfold tailS
  exact congrFun (congr (congr (congrArg outS (congr (congr (congrArg bnS (congr (congr (congrArg hidS (congr (congrArg (bnS _) f16) f17)) f18) f19)) f20) f21)) f22) f23) i

theorem result_eq (R : Real m c) (S : Same m m' c) :
    (ReferenceIdeal.Value.out_main_v162 (ReferenceIdeal.Value.STEP^[200] (entryR m' c)) : FVec Ideal S1024 .f32) = V7 m (outsF m) c main_v69 := by
  have s := (states (kdata R) (rdata R S) 200 (le_refl _)).2.2.2.2.2.2.1
  refine funext fun (j : S1024.Idx) => ?_
  obtain ⟨i, rfl⟩ : ∃ i : Fin 1024, j = ix1 i := ⟨j 0, eq_ix1 j⟩
  refine Eq.trans ?_ (kerTail i).symm
  rw [out_eq, s, ReferenceIdeal.Value.iter_main_arg16 m' c 200, ReferenceIdeal.Value.iter_main_arg17 m' c 200, ReferenceIdeal.Value.iter_main_arg18 m' c 200,
    ReferenceIdeal.Value.iter_main_arg19 m' c 200, ReferenceIdeal.Value.iter_main_arg20 m' c 200, ReferenceIdeal.Value.iter_main_arg21 m' c 200,
    ReferenceIdeal.Value.iter_main_arg22 m' c 200, ReferenceIdeal.Value.iter_main_arg23 m' c 200, S.e16, S.e17, S.e18, S.e19, S.e20, S.e21, S.e22, S.e23]
  exact refTail _ _ _ _ _ _ _ _ _ i

end Out

end Cert.Val

end
-- ==== Proof.Value.lean ====
/-
  The value claim: over the extended reals, for arguments in the drawn range, the kernel's program and the reference leave
  one result.
-/
module

public import proofs.«01_k».proof.Defs
public import proofs.«01_k».proof.Proof.Val.Final
public import proofs.«01_k».proof.Proof.Gen.ReferenceIdeal.Run
public import proofs.«01_k».proof.Proof.Gen.Pre_drawn_range

@[expose] public section

noncomputable section

namespace Cert.Proof

open Idealize.ShloMosaic Idealize.ShloMosaic.TcCoe Idealize.SL.Sem Cert.Val

theorem real_of_pre (m : (ℓ : Loc KernelIdeal.nD KernelIdeal.τ KernelIdeal.sig) → Buf (Elt Ideal) ℓ) (h : Cert.Pre_KernelIdeal_drawn_range m) (c : Dev KernelIdeal.nD) :
    Cert.Val.Real m c := by
  obtain ⟨f0, f5, f8, f9, f10, f12⟩ := pre_facts _ _ _ _ _ _ _ _ _ _ _ _ _ _ _ _ _ _ _ _ _ _ _ _ (h c)
  exact ⟨f0, f5, f8, f9, f10, f12⟩

theorem algebraic : Cert.algebraic_KernelIdeal_ReferenceIdeal_pre_drawn_range := by
  intro m g m' g' hp hs
  refine ⟨fun c => KernelIdeal.Gen.V7 m (KernelIdeal.Own.outsF m) c KernelIdeal.main_v69, KernelIdeal.Own.value_main (F := Ideal) m g, ?_⟩
  refine (θ_run Cert.ReferenceIdeal.defs _ _).mono (fun r h c => ?_) (Cert.ReferenceIdeal.Value.run (F := Ideal) m' g')
  obtain ⟨h0, h1, h2, h3, h4, h5, h6, h7, h8, h9, h10, h11, h12, h13, h14, h15, h16, h17, h18, h19, h20, h21, h22, h23⟩ := hs c
  refine ⟨(h c).1.trans (result_eq (real_of_pre m hp c) ⟨h0, h1, h2, h3, h4, h5, h6, h7, h8, h9, h10, h11, h12, h13, h14, h15, h16, h17, h18, h19, h20, h21, h22, h23⟩), (h c).2⟩

end Cert.Proof

end
-- ==== Proof.lean ====
module

public import proofs.«01_k».proof.Defs
public import proofs.«01_k».proof.Proof.Frames
public import proofs.«01_k».proof.Proof.Value

@[expose] public section

noncomputable section

namespace Cert.Proof

open Idealize.ShloMosaic Idealize.SL.Sem Cert.Kernel

theorem claim : Cert.Claim := ⟨Cert.Kernel.Gen.facts, Cert.KernelIdeal.Gen.facts, Cert.ReferenceIdeal.Gen.facts, Cert.Pre_drawn_range.Gen.facts,
  frame_k, frame_ki, fun m g _ => frame_ki m g trivial, frame_ri, fun m g _ => frame_ri m g trivial, trivial, algebraic⟩

end Cert.Proof

end
